-- ==== Defs.lean ====
def Pre_Experts [hPre_tables_in_range : Cert.Pre_tables_in_range.Facts] (m : (ℓ : Loc Cert.Experts.nD Cert.Experts.τ Cert.Experts.sig) → Buf (Elt Bits) ℓ) : Prop :=
  ∀ c : Dev Cert.Experts.nD,
    (Cert.Pre_tables_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_tables_in_range : Cert.Pre_tables_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_in_range [hPre_tables_in_range : Cert.Pre_tables_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_small [hPre_finite_small : Cert.Pre_finite_small.Facts] (m : (ℓ : Loc Cert.InProjIdeal.nD Cert.InProjIdeal.τ Cert.InProjIdeal.sig) → Buf (Elt Ideal) ℓ) : Prop :=
  ∀ c : Dev Cert.InProjIdeal.nD,
    (Cert.Pre_finite_small.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_small [hPre_finite_small : Cert.Pre_finite_small.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_small.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6)) (m ((c.tc : Thread Cert.InProjReferenceIdeal.nD Cert.InProjReferenceIdeal.τ).loc Cert.InProjReferenceIdeal.main_arg7))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_router [hPre_finite_router : Cert.Pre_finite_router.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_router.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Experts [hExperts : Cert.Experts.Facts] [hPre_tables_in_range : Cert.Pre_tables_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tables_in_range [hExpertsReferenceIdeal : Cert.ExpertsReferenceIdeal.Facts] [hPre_tables_in_range : Cert.Pre_tables_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjIdeal_pre_finite_small [hInProjIdeal : Cert.InProjIdeal.Facts] [hPre_finite_small : Cert.Pre_finite_small.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_small m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def quiescent_InProjReferenceIdeal_pre_finite_small [hInProjReferenceIdeal : Cert.InProjReferenceIdeal.Facts] [hPre_finite_small : Cert.Pre_finite_small.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_small m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite_router [hRouterReferenceIdeal : Cert.RouterReferenceIdeal.Facts] [hPre_finite_router : Cert.Pre_finite_router.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_router m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tables_in_range : Cert.Pre_tables_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v9) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v31) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6))

def preserves_InProj_InProjIdeal : Prop :=
  True

def algebraic_InProjIdeal_InProjReferenceIdeal_pre_finite_small [hInProjIdeal : Cert.InProjIdeal.Facts] [hInProjReferenceIdeal : Cert.InProjReferenceIdeal.Facts] [hPre_finite_small : Cert.Pre_finite_small.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_small m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)) (v5 : (c : Dev Cert.InProjIdeal.nD) → Buf (Elt Ideal) ((c.tc : Thread Cert.InProjIdeal.nD Cert.InProjIdeal.τ).loc Cert.InProjIdeal.main_v25_5)) (v6 : (c : Dev Cert.InProjIdeal.nD) → Buf (Elt Ideal) ((c.tc : Thread Cert.InProjIdeal.nD Cert.InProjIdeal.τ).loc Cert.InProjIdeal.main_v25_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_v25_5) = v5 c
          ∧ r.2.mem ((c.tc : Thread Cert.InProjIdeal.nD Cert.InProjIdeal.τ).loc Cert.InProjIdeal.main_v25_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v307) = v0 c
          ∧ r.2.mem ((c.tc : Thread Cert.InProjReferenceIdeal.nD Cert.InProjReferenceIdeal.τ).loc Cert.InProjReferenceIdeal.main_v308) = v1 c
          ∧ r.2.mem ((c.tc : Thread Cert.InProjReferenceIdeal.nD Cert.InProjReferenceIdeal.τ).loc Cert.InProjReferenceIdeal.main_v310) = v2 c
          ∧ r.2.mem ((c.tc : Thread Cert.InProjReferenceIdeal.nD Cert.InProjReferenceIdeal.τ).loc Cert.InProjReferenceIdeal.main_v314) = v3 c
          ∧ r.2.mem ((c.tc : Thread Cert.InProjReferenceIdeal.nD Cert.InProjReferenceIdeal.τ).loc Cert.InProjReferenceIdeal.main_v316) = v4 c
          ∧ r.2.mem ((c.tc : Thread Cert.InProjReferenceIdeal.nD Cert.InProjReferenceIdeal.τ).loc Cert.InProjReferenceIdeal.main_v318) = v5 c
          ∧ r.2.mem ((c.tc : Thread Cert.InProjReferenceIdeal.nD Cert.InProjReferenceIdeal.τ).loc Cert.InProjReferenceIdeal.main_v319) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7))

def preserves_Router_RouterIdeal : Prop :=
  True

def algebraic_RouterIdeal_RouterReferenceIdeal_pre_finite_router [hRouterIdeal : Cert.RouterIdeal.Facts] [hRouterReferenceIdeal : Cert.RouterReferenceIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_router m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)) (v2 : (c : Dev Cert.RouterIdeal.nD) → Buf (Elt Ideal) ((c.tc : Thread Cert.RouterIdeal.nD Cert.RouterIdeal.τ).loc Cert.RouterIdeal.main_v0_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_v0_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v49) = v0 c
          ∧ r.2.mem ((c.tc : Thread Cert.RouterReferenceIdeal.nD Cert.RouterReferenceIdeal.τ).loc Cert.RouterReferenceIdeal.main_v51) = v1 c
          ∧ r.2.mem ((c.tc : Thread Cert.RouterReferenceIdeal.nD Cert.RouterReferenceIdeal.τ).loc Cert.RouterReferenceIdeal.main_v53) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)
      ∧ m' ((c.tc : Thread Cert.GatesReferenceIdeal.nD Cert.GatesReferenceIdeal.τ).loc Cert.GatesReferenceIdeal.main_arg5) = m ((c.tc : Thread Cert.GatesIdeal.nD Cert.GatesIdeal.τ).loc Cert.GatesIdeal.main_arg5)
      ∧ m' ((c.tc : Thread Cert.GatesReferenceIdeal.nD Cert.GatesReferenceIdeal.τ).loc Cert.GatesReferenceIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)) (v2 : (c : Dev Cert.GatesIdeal.nD) → Buf (Elt Ideal) ((c.tc : Thread Cert.GatesIdeal.nD Cert.GatesIdeal.τ).loc Cert.GatesIdeal.main_v0_2)) (v3 : (c : Dev Cert.GatesIdeal.nD) → Buf (Elt Ideal) ((c.tc : Thread Cert.GatesIdeal.nD Cert.GatesIdeal.τ).loc Cert.GatesIdeal.main_v0_4)) (v4 : (c : Dev Cert.GatesIdeal.nD) → Buf (Elt Ideal) ((c.tc : Thread Cert.GatesIdeal.nD Cert.GatesIdeal.τ).loc Cert.GatesIdeal.main_v0_6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_v0_2) = v2 c
          ∧ r.2.mem ((c.tc : Thread Cert.GatesIdeal.nD Cert.GatesIdeal.τ).loc Cert.GatesIdeal.main_v0_4) = v3 c
          ∧ r.2.mem ((c.tc : Thread Cert.GatesIdeal.nD Cert.GatesIdeal.τ).loc Cert.GatesIdeal.main_v0_6) = v4 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v27) = v0 c
          ∧ r.2.mem ((c.tc : Thread Cert.GatesReferenceIdeal.nD Cert.GatesReferenceIdeal.τ).loc Cert.GatesReferenceIdeal.main_v30) = v1 c
          ∧ r.2.mem ((c.tc : Thread Cert.GatesReferenceIdeal.nD Cert.GatesReferenceIdeal.τ).loc Cert.GatesReferenceIdeal.main_v31) = v2 c
          ∧ r.2.mem ((c.tc : Thread Cert.GatesReferenceIdeal.nD Cert.GatesReferenceIdeal.τ).loc Cert.GatesReferenceIdeal.main_v36) = v3 c
          ∧ r.2.mem ((c.tc : Thread Cert.GatesReferenceIdeal.nD Cert.GatesReferenceIdeal.τ).loc Cert.GatesReferenceIdeal.main_v41) = v4 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6))

def Claim : Prop :=
  ∃ (hExperts : Cert.Experts.Facts) (hExpertsIdeal : Cert.ExpertsIdeal.Facts) (hExpertsReferenceIdeal : Cert.ExpertsReferenceIdeal.Facts) (hDense : Cert.Dense.Facts) (hDenseIdeal : Cert.DenseIdeal.Facts) (hDenseReferenceIdeal : Cert.DenseReferenceIdeal.Facts) (hOutProj : Cert.OutProj.Facts) (hOutProjIdeal : Cert.OutProjIdeal.Facts) (hOutProjReferenceIdeal : Cert.OutProjReferenceIdeal.Facts) (hInProj : Cert.InProj.Facts) (hInProjIdeal : Cert.InProjIdeal.Facts) (hInProjReferenceIdeal : Cert.InProjReferenceIdeal.Facts) (hRouter : Cert.Router.Facts) (hRouterIdeal : Cert.RouterIdeal.Facts) (hRouterReferenceIdeal : Cert.RouterReferenceIdeal.Facts) (hGates : Cert.Gates.Facts) (hGatesIdeal : Cert.GatesIdeal.Facts) (hGatesReferenceIdeal : Cert.GatesReferenceIdeal.Facts) (hPre_tables_in_range : Cert.Pre_tables_in_range.Facts) (hPre_finite_small : Cert.Pre_finite_small.Facts) (hPre_finite_router : Cert.Pre_finite_router.Facts),
    quiescent_Experts (hExperts := hExperts) (hPre_tables_in_range := hPre_tables_in_range)
    ∧ quiescent_ExpertsIdeal (hExpertsIdeal := hExpertsIdeal) (hPre_tables_in_range := hPre_tables_in_range)
    ∧ quiescent_ExpertsReferenceIdeal (hExpertsReferenceIdeal := hExpertsReferenceIdeal)
    ∧ quiescent_ExpertsReferenceIdeal_pre_tables_in_range (hExpertsReferenceIdeal := hExpertsReferenceIdeal) (hPre_tables_in_range := hPre_tables_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_InProj (hInProj := hInProj)
    ∧ quiescent_InProjIdeal (hInProjIdeal := hInProjIdeal)
    ∧ quiescent_InProjIdeal_pre_finite_small (hInProjIdeal := hInProjIdeal) (hPre_finite_small := hPre_finite_small)
    ∧ quiescent_InProjReferenceIdeal (hInProjReferenceIdeal := hInProjReferenceIdeal)
    ∧ quiescent_InProjReferenceIdeal_pre_finite_small (hInProjReferenceIdeal := hInProjReferenceIdeal) (hPre_finite_small := hPre_finite_small)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterReferenceIdeal (hRouterReferenceIdeal := hRouterReferenceIdeal)
    ∧ quiescent_RouterReferenceIdeal_pre_finite_router (hRouterReferenceIdeal := hRouterReferenceIdeal) (hPre_finite_router := hPre_finite_router)
    ∧ quiescent_Gates (hGates := hGates)
    ∧ quiescent_GatesIdeal (hGatesIdeal := hGatesIdeal)
    ∧ quiescent_GatesReferenceIdeal (hGatesReferenceIdeal := hGatesReferenceIdeal)
    ∧ preserves_Experts_ExpertsIdeal
    ∧ algebraic_ExpertsIdeal_ExpertsReferenceIdeal (hExpertsIdeal := hExpertsIdeal) (hExpertsReferenceIdeal := hExpertsReferenceIdeal) (hPre_tables_in_range := hPre_tables_in_range)
    ∧ preserves_Dense_DenseIdeal
    ∧ algebraic_DenseIdeal_DenseReferenceIdeal (hDenseIdeal := hDenseIdeal) (hDenseReferenceIdeal := hDenseReferenceIdeal)
    ∧ preserves_OutProj_OutProjIdeal
    ∧ algebraic_OutProjIdeal_OutProjReferenceIdeal (hOutProjIdeal := hOutProjIdeal) (hOutProjReferenceIdeal := hOutProjReferenceIdeal)
    ∧ preserves_InProj_InProjIdeal
    ∧ algebraic_InProjIdeal_InProjReferenceIdeal_pre_finite_small (hInProjIdeal := hInProjIdeal) (hInProjReferenceIdeal := hInProjReferenceIdeal) (hPre_finite_small := hPre_finite_small)
    ∧ preserves_Router_RouterIdeal
    ∧ algebraic_RouterIdeal_RouterReferenceIdeal_pre_finite_router (hRouterIdeal := hRouterIdeal) (hRouterReferenceIdeal := hRouterReferenceIdeal) (hPre_finite_router := hPre_finite_router)
    ∧ preserves_Gates_GatesIdeal
    ∧ algebraic_GatesIdeal_GatesReferenceIdeal (hGatesIdeal := hGatesIdeal) (hGatesReferenceIdeal := hGatesReferenceIdeal)
-- ==== Pre_finite_router.lean ====
abbrev S32768x1024 : Shape := ⟨2, ![32768, 1024]⟩
abbrev S1024x128 : Shape := ⟨2, ![1024, 128]⟩
abbrev S1024x8 : Shape := ⟨2, ![1024, 8]⟩
abbrev S_ : Shape := ⟨0, ![]⟩

class Facts : Prop where
  slices_S1024x128_S1024x8_0_0 : S1024x128.Slices ![0, 0] S1024x8
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S32768x1024 .f32) (main_arg1 : FVec F S1024x128 .bf16) : IVec S_ 1 :=
  let main_v0 : FVec F S1024x8 .bf16 := (extractStridedSlice S1024x8 ![0, 0] · slices_S1024x128_S1024x8_0_0) main_arg1
  let main_v1 : FVec F S1024x8 .f32 := (extf .f32 · bitsLt_bf16_f32) main_v0
  let main_v2 : FVec F S32768x1024 .f32 := subf main_arg0 main_arg0
  let main_cst : FVec F S_ .f32 := constant S_ .f32 0x00000000#32
  let main_v3 : FVec F S32768x1024 .f32 := broadcastInDim S32768x1024 ![] bcast_S_S32768x1024 main_cst
  let main_v4 : IVec S32768x1024 1 := cmpf .oeq main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S1024x8 .f32 := subf main_v1 main_v1
  let main_cst_0 : FVec F S_ .f32 := constant S_ .f32 0x00000000#32
  let main_v7 : FVec F S1024x8 .f32 := broadcastInDim S1024x8 ![] bcast_S_S1024x8 main_cst_0
  let main_v8 : IVec S1024x8 1 := cmpf .oeq main_v6 main_v7
  let main_c_1 : IVec S_ 1 := constantI S_ 1 1#1
  let main_v9 : IVec S_ 1 := (fun x v => Host.reduce IntOp.andi x v reducesTo_S1024x8_S_d0_1 h_S_) main_v8 main_c_1
  let main_v10 : IVec S_ 1 := andi main_v5 main_v9
  main_v10
-- ==== Pre_finite_small.lean ====
abbrev S32768x1024 : Shape := ⟨2, ![32768, 1024]⟩
abbrev S1024x3218 : Shape := ⟨2, ![1024, 3218]⟩
abbrev S1024 : Shape := ⟨1, ![1024]⟩
abbrev S4x1152 : Shape := ⟨2, ![4, 1152]⟩
abbrev S31x256 : Shape := ⟨2, ![31, 256]⟩
abbrev S256 : Shape := ⟨1, ![256]⟩
abbrev S1024x12 : Shape := ⟨2, ![1024, 12]⟩
abbrev S1024x6 : Shape := ⟨2, ![1024, 6]⟩
abbrev S_ : Shape := ⟨0, ![]⟩

class Facts : Prop where
  slices_S1024x3218_S1024x12_0_1152 : S1024x3218.Slices ![0, 1152] S1024x12
  slices_S1024x3218_S1024x6_0_3212 : S1024x3218.Slices ![0, 3212] S1024x6
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x12 : S_.BroadcastsInDim S1024x12 (![] : Fin 0 → Fin S1024x12.rank)
  reducesTo_S1024x12_S_d0_1 : S1024x12.ReducesTo [0, 1] S_
  bcast_S_S1024x6 : S_.BroadcastsInDim S1024x6 (![] : Fin 0 → Fin S1024x6.rank)
  reducesTo_S1024x6_S_d0_1 : S1024x6.ReducesTo [0, 1] S_

variable [Facts]

def fn {F : FTy → Type} [FloatOps F] (main_arg0 : FVec F S32768x1024 .f32) (main_arg1 : FVec F S1024x3218 .f32) (main_arg2 : FVec F S1024 .f32) (main_arg3 : FVec F S4x1152 .f32) (main_arg4 : FVec F S31x256 .f32) (main_arg5 : FVec F S256 .f32) (main_arg6 : FVec F S256 .f32) (main_arg7 : FVec F S256 .f32) : IVec S_ 1 :=
  let main_v0 : FVec F S1024x12 .f32 := (extractStridedSlice S1024x12 ![0, 1152] · slices_S1024x3218_S1024x12_0_1152) main_arg1
  let main_v1 : FVec F S1024x6 .f32 := (extractStridedSlice S1024x6 ![0, 3212] · slices_S1024x3218_S1024x6_0_3212) main_arg1
  let main_v2 : FVec F S32768x1024 .f32 := subf main_arg0 main_arg0
  let main_cst : FVec F S_ .f32 := constant S_ .f32 0x00000000#32
  let main_v3 : FVec F S32768x1024 .f32 := broadcastInDim S32768x1024 ![] bcast_S_S32768x1024 main_cst
  let main_v4 : IVec S32768x1024 1 := cmpf .oeq main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S1024x12 .f32 := subf main_v0 main_v0
  let main_cst_0 : FVec F S_ .f32 := constant S_ .f32 0x00000000#32
  let main_v7 : FVec F S1024x12 .f32 := broadcastInDim S1024x12 ![] bcast_S_S1024x12 main_cst_0
  let main_v8 : IVec S1024x12 1 := cmpf .oeq main_v6 main_v7
  let main_c_1 : IVec S_ 1 := constantI S_ 1 1#1
  let main_v9 : IVec S_ 1 := (fun x v => Host.reduce IntOp.andi x v reducesTo_S1024x12_S_d0_1 h_S_) main_v8 main_c_1
  let main_v10 : IVec S_ 1 := andi main_v5 main_v9
  let main_v11 : FVec F S1024x6 .f32 := subf main_v1 main_v1
  let main_cst_2 : FVec F S_ .f32 := constant S_ .f32 0x00000000#32
  let main_v12 : FVec F S1024x6 .f32 := broadcastInDim S1024x6 ![] bcast_S_S1024x6 main_cst_2
  let main_v13 : IVec S1024x6 1 := cmpf .oeq main_v11 main_v12
  let main_c_3 : IVec S_ 1 := constantI S_ 1 1#1
  let main_v14 : IVec S_ 1 := (fun x v => Host.reduce IntOp.andi x v reducesTo_S1024x6_S_d0_1 h_S_) main_v13 main_c_3
  let main_v15 : IVec S_ 1 := andi main_v10 main_v14
  main_v15
-- ==== Pre_tables_in_range.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x1024 .f32) (main_arg1 : IVec S136 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 32 := constantI S_ 32 8#32
  let main_v2 : IVec S136 32 := broadcastInDim S136 ![] bcast_S_S136 main_c_0
  let main_v3 : IVec S136 1 := cmpi .slt main_arg1 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Experts.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 11
  | .smem => 2
  | _ => 0

abbrev bufTy : (tb : Table) → Fin (tcTables nBuf tb) → BufTy
  | .hbm, ⟨0, _⟩ => ⟨S69632x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32_1 : BitVec 32 := 0#32
  let v6 : BitVec 1 := Scalar.cmpi .sgt arg1 c0_i32_1
  let v7 : BitVec 1 := Scalar.andi v1 v6
  let v8 : BitVec 32 := Scalar.extui v7
  let c0_i32_2 : BitVec 32 := 0#32
  let v9 : BitVec 1 := Scalar.cmpi .ne v8 c0_i32_2
  v9

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v10 : BitVec 1 := Scalar.xori v1 v_true
  let arg1 : BitVec 32 := BitVec.ofNat 32 (i 1).val
  let c0_i32_3 : BitVec 32 := 0#32
  let v11 : BitVec 1 := Scalar.cmpi .eq arg1 c0_i32_3
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S69632x1024 : Shape := ⟨2, ![69632, 1024]⟩
abbrev S136 : Shape := ⟨1, ![136]⟩
abbrev S1 : Shape := ⟨1, ![1]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S_ : Shape := ⟨0, ![]⟩
abbrev S1x512x1024 : Shape := ⟨3, ![1, 512, 1024]⟩
abbrev S512x1024 : Shape := ⟨2, ![512, 1024]⟩
abbrev S1x1024x3584 : Shape := ⟨3, ![1, 1024, 3584]⟩
abbrev S1024x3584 : Shape := ⟨2, ![1024, 3584]⟩
abbrev S512x3584 : Shape := ⟨2, ![512, 3584]⟩
abbrev S1x3584x1024 : Shape := ⟨3, ![1, 3584, 1024]⟩
abbrev S3584x1024 : Shape := ⟨2, ![3584, 1024]⟩
abbrev S136x1x1 : Shape := ⟨3, ![136, 1, 1]⟩
abbrev S1x1x1 : Shape := ⟨3, ![1, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S136, .i32⟩
  | .hbm, ⟨2, _⟩ => ⟨S1, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S136x512x1024, .f32⟩
  | .hbm, ⟨7, _⟩ => ⟨S_, .f32⟩
  | .hbm, ⟨8, _⟩ => ⟨S136x512x1024, .f32⟩
  | .hbm, ⟨9, _⟩ => ⟨S_, .i32⟩
  | .hbm, ⟨10, _⟩ => ⟨S136x512x1024, .f32⟩
  | .hbm, ⟨11, _⟩ => ⟨S136, .i32⟩
  | .hbm, ⟨12, _⟩ => ⟨S8x1024x3584, .f32⟩
  | .hbm, ⟨13, _⟩ => ⟨S8x1024x3584, .f32⟩
  | .hbm, ⟨14, _⟩ => ⟨S8x3584x1024, .f32⟩
  | .hbm, ⟨15, _⟩ => ⟨S_, .i32⟩
  | .hbm, ⟨16, _⟩ => ⟨S136x512x1024, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x512x1024, .f32⟩
  | .hbm, ⟨22, _⟩ => ⟨S512x1024, .f32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x1024x3584, .f32⟩
  | .hbm, ⟨47, _⟩ => ⟨S1024x3584, .f32⟩
  | .hbm, ⟨48, _⟩ => ⟨S512x3584, .f32⟩
  | .hbm, ⟨49, _⟩ => ⟨S512x3584, .f32⟩
  | .hbm, ⟨50, _⟩ => ⟨S512x3584, .f32⟩
  | .hbm, ⟨51, _⟩ => ⟨S_, .f32⟩
  | .hbm, ⟨52, _⟩ => ⟨S512x3584, .f32⟩
  | .hbm, ⟨53, _⟩ => ⟨S512x3584, .f32⟩
  | .hbm, ⟨54, _⟩ => ⟨S_, .f32⟩
  | .hbm, ⟨55, _⟩ => ⟨S512x3584, .f32⟩
  | .hbm, ⟨56, _⟩ => ⟨S512x3584, .f32⟩
  | .hbm, ⟨57, _⟩ => ⟨S512x3584, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x1024x3584, .f32⟩
  | .hbm, ⟨80, _⟩ => ⟨S1024x3584, .f32⟩
  | .hbm, ⟨81, _⟩ => ⟨S512x3584, .f32⟩
  | .hbm, ⟨82, _⟩ => ⟨S512x3584, .f32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S1x3584x1024, .f32⟩
  | .hbm, ⟨105, _⟩ => ⟨S3584x1024, .f32⟩
  | .hbm, ⟨106, _⟩ => ⟨S512x1024, .f32⟩
  | .hbm, ⟨107, _⟩ => ⟨S1x512x1024, .f32⟩
  | .hbm, ⟨108, _⟩ => ⟨S_, .i32⟩
  | .hbm, ⟨109, _⟩ => ⟨S_, .i32⟩
  | .hbm, ⟨110, _⟩ => ⟨S136x512x1024, .f32⟩
  | .hbm, ⟨111, _⟩ => ⟨S_, .i32⟩
  | .hbm, ⟨112, _⟩ => ⟨S_, .i32⟩
  | .hbm, ⟨113, _⟩ => ⟨S136, .i32⟩
  | .hbm, ⟨114, _⟩ => ⟨S136x1x1, .i32⟩
  | .hbm, ⟨115, _⟩ => ⟨S1x1x1, .i32⟩
  | .hbm, ⟨116, _⟩ => ⟨S136x1x1, .i32⟩
  | .hbm, ⟨117, _⟩ => ⟨S136x1x1, .i1⟩
  | .hbm, ⟨118, _⟩ => ⟨S_, .f32⟩
  | .hbm, ⟨119, _⟩ => ⟨S_, .f32⟩
  | .hbm, ⟨120, _⟩ => ⟨S136x512x1024, .i1⟩
  | .hbm, ⟨121, _⟩ => ⟨S136x512x1024, .f32⟩
  | .hbm, ⟨122, _⟩ => ⟨S136x512x1024, .f32⟩
  | .hbm, ⟨123, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_while0c_c_7 : Ref sig .tc := ⟨.hbm, 17, rfl⟩
abbrev main_while0c_v10 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v10 : Ref sig .tc := ⟨.hbm, 22, rfl⟩
abbrev main_while0b_call1_v0 : Ref sig .tc := ⟨.hbm, 23, rfl⟩
abbrev main_while0b_v11 : Ref sig .tc := ⟨.hbm, 24, rfl⟩
abbrev main_while0b_c_7 : Ref sig .tc := ⟨.hbm, 25, rfl⟩
abbrev main_while0b_v12 : Ref sig .tc := ⟨.hbm, 26, rfl⟩
abbrev main_while0b_c_8 : Ref sig .tc := ⟨.hbm, 27, rfl⟩
abbrev main_while0b_v13 : Ref sig .tc := ⟨.hbm, 28, rfl⟩
abbrev main_while0b_v14 : Ref sig .tc := ⟨.hbm, 29, rfl⟩
abbrev main_while0b_c_9 : Ref sig .tc := ⟨.hbm, 30, rfl⟩
abbrev main_while0b_c_10 : Ref sig .tc := ⟨.hbm, 31, rfl⟩
abbrev main_while0b_v15 : Ref sig .tc := ⟨.hbm, 32, rfl⟩
abbrev main_while0b_c_11 : Ref sig .tc := ⟨.hbm, 33, rfl⟩
abbrev main_while0b_c_12 : Ref sig .tc := ⟨.hbm, 34, rfl⟩
abbrev main_while0b_v16 : Ref sig .tc := ⟨.hbm, 35, rfl⟩
abbrev main_while0b_c_13 : Ref sig .tc := ⟨.hbm, 36, rfl⟩
abbrev main_while0b_v17 : Ref sig .tc := ⟨.hbm, 37, rfl⟩
abbrev main_while0b_c_14 : Ref sig .tc := ⟨.hbm, 38, rfl⟩
abbrev main_while0b_c_15 : Ref sig .tc := ⟨.hbm, 39, rfl⟩
abbrev main_while0b_v18 : Ref sig .tc := ⟨.hbm, 40, rfl⟩
abbrev main_while0b_c_16 : Ref sig .tc := ⟨.hbm, 41, rfl⟩
abbrev main_while0b_c_17 : Ref sig .tc := ⟨.hbm, 42, rfl⟩
abbrev main_while0b_v19 : Ref sig .tc := ⟨.hbm, 43, rfl⟩
abbrev main_while0b_c_18 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_call2_v0 : Ref sig .tc := ⟨.hbm, 49, rfl⟩
abbrev main_while0b_call2_v1 : Ref sig .tc := ⟨.hbm, 50, rfl⟩
abbrev main_while0b_call2_cst : Ref sig .tc := ⟨.hbm, 51, rfl⟩
abbrev main_while0b_call2_v2 : Ref sig .tc := ⟨.hbm, 52, rfl⟩
abbrev main_while0b_call2_v3 : Ref sig .tc := ⟨.hbm, 53, rfl⟩
abbrev main_while0b_call2_cst_0 : Ref sig .tc := ⟨.hbm, 54, rfl⟩
abbrev main_while0b_call2_v4 : Ref sig .tc := ⟨.hbm, 55, rfl⟩
abbrev main_while0b_call2_v5 : Ref sig .tc := ⟨.hbm, 56, rfl⟩
abbrev main_while0b_v24 : Ref sig .tc := ⟨.hbm, 57, rfl⟩
abbrev main_while0b_c_19 : Ref sig .tc := ⟨.hbm, 58, rfl⟩
abbrev main_while0b_v25 : Ref sig .tc := ⟨.hbm, 59, rfl⟩
abbrev main_while0b_c_20 : Ref sig .tc := ⟨.hbm, 60, rfl⟩
abbrev main_while0b_v26 : Ref sig .tc := ⟨.hbm, 61, rfl⟩
abbrev main_while0b_v27 : Ref sig .tc := ⟨.hbm, 62, rfl⟩
abbrev main_while0b_c_21 : Ref sig .tc := ⟨.hbm, 63, rfl⟩
abbrev main_while0b_c_22 : Ref sig .tc := ⟨.hbm, 64, rfl⟩
abbrev main_while0b_v28 : Ref sig .tc := ⟨.hbm, 65, rfl⟩
abbrev main_while0b_c_23 : Ref sig .tc := ⟨.hbm, 66, rfl⟩
abbrev main_while0b_c_24 : Ref sig .tc := ⟨.hbm, 67, rfl⟩
abbrev main_while0b_v29 : Ref sig .tc := ⟨.hbm, 68, rfl⟩
abbrev main_while0b_c_25 : Ref sig .tc := ⟨.hbm, 69, rfl⟩
abbrev main_while0b_v30 : Ref sig .tc := ⟨.hbm, 70, rfl⟩
abbrev main_while0b_c_26 : Ref sig .tc := ⟨.hbm, 71, rfl⟩
abbrev main_while0b_c_27 : Ref sig .tc := ⟨.hbm, 72, rfl⟩
abbrev main_while0b_v31 : Ref sig .tc := ⟨.hbm, 73, rfl⟩
abbrev main_while0b_c_28 : Ref sig .tc := ⟨.hbm, 74, rfl⟩
abbrev main_while0b_c_29 : Ref sig .tc := ⟨.hbm, 75, rfl⟩
abbrev main_while0b_v32 : Ref sig .tc := ⟨.hbm, 76, rfl⟩
abbrev main_while0b_c_30 : Ref sig .tc := ⟨.hbm, 77, rfl⟩
abbrev main_while0b_v33 : Ref sig .tc := ⟨.hbm, 78, rfl⟩
abbrev main_while0b_v34 : Ref sig .tc := ⟨.hbm, 79, rfl⟩
abbrev main_while0b_v35 : Ref sig .tc := ⟨.hbm, 80, rfl⟩
abbrev main_while0b_v36 : Ref sig .tc := ⟨.hbm, 81, rfl⟩
abbrev main_while0b_v37 : Ref sig .tc := ⟨.hbm, 82, rfl⟩
abbrev main_while0b_c_31 : Ref sig .tc := ⟨.hbm, 83, rfl⟩
abbrev main_while0b_v38 : Ref sig .tc := ⟨.hbm, 84, rfl⟩
abbrev main_while0b_c_32 : Ref sig .tc := ⟨.hbm, 85, rfl⟩
abbrev main_while0b_v39 : Ref sig .tc := ⟨.hbm, 86, rfl⟩
abbrev main_while0b_v40 : Ref sig .tc := ⟨.hbm, 87, rfl⟩
abbrev main_while0b_c_33 : Ref sig .tc := ⟨.hbm, 88, rfl⟩
abbrev main_while0b_c_34 : Ref sig .tc := ⟨.hbm, 89, rfl⟩
abbrev main_while0b_v41 : Ref sig .tc := ⟨.hbm, 90, rfl⟩
abbrev main_while0b_c_35 : Ref sig .tc := ⟨.hbm, 91, rfl⟩
abbrev main_while0b_c_36 : Ref sig .tc := ⟨.hbm, 92, rfl⟩
abbrev main_while0b_v42 : Ref sig .tc := ⟨.hbm, 93, rfl⟩
abbrev main_while0b_c_37 : Ref sig .tc := ⟨.hbm, 94, rfl⟩
abbrev main_while0b_v43 : Ref sig .tc := ⟨.hbm, 95, rfl⟩
abbrev main_while0b_c_38 : Ref sig .tc := ⟨.hbm, 96, rfl⟩
abbrev main_while0b_c_39 : Ref sig .tc := ⟨.hbm, 97, rfl⟩
abbrev main_while0b_v44 : Ref sig .tc := ⟨.hbm, 98, rfl⟩
abbrev main_while0b_c_40 : Ref sig .tc := ⟨.hbm, 99, rfl⟩
abbrev main_while0b_c_41 : Ref sig .tc := ⟨.hbm, 100, rfl⟩
abbrev main_while0b_v45 : Ref sig .tc := ⟨.hbm, 101, rfl⟩
abbrev main_while0b_c_42 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_call3_v0 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_v50 : Ref sig .tc := ⟨.hbm, 110, rfl⟩
abbrev main_while0b_c_43 : Ref sig .tc := ⟨.hbm, 111, rfl⟩
abbrev main_while0b_v51 : Ref sig .tc := ⟨.hbm, 112, rfl⟩
abbrev main_v3 : Ref sig .tc := ⟨.hbm, 113, rfl⟩
abbrev main_v4 : Ref sig .tc := ⟨.hbm, 114, rfl⟩
abbrev main_v5 : Ref sig .tc := ⟨.hbm, 115, rfl⟩
abbrev main_v6 : Ref sig .tc := ⟨.hbm, 116, rfl⟩
abbrev main_v7 : Ref sig .tc := ⟨.hbm, 117, rfl⟩
abbrev main_cst_0 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v8 : Ref sig .tc := ⟨.hbm, 122, rfl⟩
abbrev main_v9 : Ref sig .tc := ⟨.hbm, 123, rfl⟩

abbrev nD : Nat := 1
abbrev τ : Topo := Topo.v7x

variable {F : FTy → Type} [FloatOps F]

abbrev main_while0_count : Scf.Loop 32 := ⟨0#32, 136#32, 1#32⟩
-- ==== Dense.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DenseReferenceIdeal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== OutProj.lean ====
abbrev S32768x384 : Shape := ⟨2, ![32768, 384]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S32768x384, .bf16⟩
  | .hbm, ⟨1, _⟩ => ⟨S32768x256, .bf16⟩
  | .hbm, ⟨2, _⟩ => ⟨S32768x384, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S32768x384 : Shape := ⟨2, ![32768, 384]⟩
abbrev S32768x256 : Shape := ⟨2, ![32768, 256]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x384, .bf16⟩
  | .hbm, ⟨1, _⟩ => ⟨S32768x256, .bf16⟩
  | .hbm, ⟨2, _⟩ => ⟨S32768x384, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== InProj.lean ====
abbrev S32768x1024 : Shape := ⟨2, ![32768, 1024]⟩
abbrev S1024x3218 : Shape := ⟨2, ![1024, 3218]⟩
abbrev S1024 : Shape := ⟨1, ![1024]⟩
abbrev S4x1152 : Shape := ⟨2, ![4, 1152]⟩
abbrev S31x256 : Shape := ⟨2, ![31, 256]⟩
abbrev S256 : Shape := ⟨1, ![256]⟩
abbrev S1024x384 : Shape := ⟨2, ![1024, 384]⟩
abbrev S1024x512 : Shape := ⟨2, ![1024, 512]⟩
abbrev S1024x3200 : Shape := ⟨2, ![1024, 3200]⟩
abbrev S_ : Shape := ⟨0, ![]⟩
abbrev S1024x110 : Shape := ⟨2, ![1024, 110]⟩
abbrev S1024x6 : Shape := ⟨2, ![1024, 6]⟩
abbrev S1024x128 : Shape := ⟨2, ![1024, 128]⟩
abbrev S1024x256 : Shape := ⟨2, ![1024, 256]⟩
abbrev S1x1024 : Shape := ⟨2, ![1, 1024]⟩
abbrev S1x256 : Shape := ⟨2, ![1, 256]⟩
abbrev S32768x1152 : Shape := ⟨2, ![32768, 1152]⟩
abbrev S32768x384 : Shape := ⟨2, ![32768, 384]⟩
abbrev S32768x256 : Shape := ⟨2, ![32768, 256]⟩
abbrev S32768x128 : Shape := ⟨2, ![32768, 128]⟩
abbrev S512x1024 : Shape := ⟨2, ![512, 1024]⟩
abbrev S512x1152 : Shape := ⟨2, ![512, 1152]⟩
abbrev S512x384 : Shape := ⟨2, ![512, 384]⟩
abbrev S512x256 : Shape := ⟨2, ![512, 256]⟩
abbrev S512x128 : Shape := ⟨2, ![512, 128]⟩
abbrev S520x1152 : Shape := ⟨2, ![520, 1152]⟩
abbrev S544x256 : Shape := ⟨2, ![544, 256]⟩
abbrev S7x536x256 : Shape := ⟨3, ![7, 536, 256]⟩
abbrev S32x256 : Shape := ⟨2, ![32, 256]⟩
abbrev S8x1152 : Shape := ⟨2, ![8, 1152]⟩
abbrev S512x512 : Shape := ⟨2, ![512, 512]⟩
abbrev S536x256 : Shape := ⟨2, ![536, 256]⟩
abbrev S1x536x256 : Shape := ⟨3, ![1, 536, 256]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1024x1152 : Shape := ⟨2, ![1024, 1152]⟩
abbrev S128x1152 : Shape := ⟨2, ![128, 1152]⟩
abbrev S1x1152 : Shape := ⟨2, ![1, 1152]⟩

abbrev nBuf : Space → Nat
  | .hbm => 41
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1024x3218, .f32⟩
  | .hbm, ⟨2, _⟩ => ⟨S1024, .f32⟩
  | .hbm, ⟨3, _⟩ => ⟨S4x1152, .f32⟩
  | .hbm, ⟨4, _⟩ => ⟨S31x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x512, .f32⟩
  | .hbm, ⟨13, _⟩ => ⟨S1024x384, .f32⟩
  | .hbm, ⟨14, _⟩ => ⟨S1024x384, .f32⟩
  | .hbm, ⟨15, _⟩ => ⟨S1024x384, .f32⟩
  | .hbm, ⟨16, _⟩ => ⟨S1024x3200, .f32⟩
  | .hbm, ⟨17, _⟩ => ⟨S_, .f32⟩
  | .hbm, ⟨18, _⟩ => ⟨S1024x110, .f32⟩
  | .hbm, ⟨19, _⟩ => ⟨S1024x6, .f32⟩
  | .hbm, ⟨20, _⟩ => ⟨S1024x6, .f32⟩
  | .hbm, ⟨21, _⟩ => ⟨S1024x6, .f32⟩
  | .hbm, ⟨22, _⟩ => ⟨S1024x128, .f32⟩
  | .hbm, ⟨23, _⟩ => ⟨S1024x128, .bf16⟩
  | .hbm, ⟨24, _⟩ => ⟨S1024x128, .f32⟩
  | .hbm, ⟨25, _⟩ => ⟨S1024x128, .f32⟩
  | .hbm, ⟨26, _⟩ => ⟨S1024x128, .bf16⟩
  | .hbm, ⟨27, _⟩ => ⟨S1024x3200, .bf16⟩
  | .hbm, ⟨28, _⟩ => ⟨S1024x256, .bf16⟩
  | .hbm, ⟨29, _⟩ => ⟨S1x1024, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S32768x1152, .f32⟩
  | .hbm, ⟨35, _⟩ => ⟨S32768x384, .f32⟩
  | .hbm, ⟨36, _⟩ => ⟨S32768x256, .bf16⟩
  | .hbm, ⟨37, _⟩ => ⟨S32768x384, .bf16⟩
  | .hbm, ⟨38, _⟩ => ⟨S32768x384, .bf16⟩
  | .hbm, ⟨39, _⟩ => ⟨S32768x384, .bf16⟩
  | .hbm, ⟨40, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S1024x256, .bf16⟩
  | .local _ .vmem, ⟨4, _⟩ => ⟨S4x1152, .f32⟩
  | .local _ .vmem, ⟨5, _⟩ => ⟨S31x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x1152, .f32⟩
  | .local _ .vmem, ⟨11, _⟩ => ⟨S512x1152, .f32⟩
  | .local _ .vmem, ⟨12, _⟩ => ⟨S512x384, .f32⟩
  | .local _ .vmem, ⟨13, _⟩ => ⟨S512x384, .f32⟩
  | .local _ .vmem, ⟨14, _⟩ => ⟨S512x256, .bf16⟩
  | .local _ .vmem, ⟨15, _⟩ => ⟨S512x256, .bf16⟩
  | .local _ .vmem, ⟨16, _⟩ => ⟨S512x384, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S512x384, .bf16⟩
  | .local _ .vmem, ⟨22, _⟩ => ⟨S512x128, .f32⟩
  | .local _ .vmem, ⟨23, _⟩ => ⟨S512x128, .f32⟩
  | .local _ .vmem, ⟨24, _⟩ => ⟨S520x1152, .f32⟩
  | .local _ .vmem, ⟨25, _⟩ => ⟨S544x256, .f32⟩
  | .local _ .vmem, ⟨26, _⟩ => ⟨S7x536x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InProjReferenceIdeal.lean ====
abbrev S32768x1024 : Shape := ⟨2, ![32768, 1024]⟩
abbrev S1024x3218 : Shape := ⟨2, ![1024, 3218]⟩
abbrev S1024 : Shape := ⟨1, ![1024]⟩
abbrev S4x1152 : Shape := ⟨2, ![4, 1152]⟩
abbrev S31x256 : Shape := ⟨2, ![31, 256]⟩
abbrev S256 : Shape := ⟨1, ![256]⟩
abbrev S32768x3218 : Shape := ⟨2, ![32768, 3218]⟩
abbrev S4x8192x3218 : Shape := ⟨3, ![4, 8192, 3218]⟩
abbrev S4x8192x384 : Shape := ⟨3, ![4, 8192, 384]⟩
abbrev S4x8192x6 : Shape := ⟨3, ![4, 8192, 6]⟩
abbrev S4x8192x512 : Shape := ⟨3, ![4, 8192, 512]⟩
abbrev S4x8192x1152 : Shape := ⟨3, ![4, 8192, 1152]⟩
abbrev S_ : Shape := ⟨0, ![]⟩
abbrev S4x8195x1152 : Shape := ⟨3, ![4, 8195, 1152]⟩
abbrev S1x1152 : Shape := ⟨2, ![1, 1152]⟩
abbrev S1152 : Shape := ⟨1, ![1152]⟩
abbrev S1x1x1152 : Shape := ⟨3, ![1, 1, 1152]⟩
abbrev S4x8192x256 : Shape := ⟨3, ![4, 8192, 256]⟩
abbrev S4x8222x256 : Shape := ⟨3, ![4, 8222, 256]⟩
abbrev S1x256 : Shape := ⟨2, ![1, 256]⟩
abbrev S1x1x256 : Shape := ⟨3, ![1, 1, 256]⟩
abbrev S4x8192 : Shape := ⟨2, ![4, 8192]⟩
abbrev S4x8192x1 : Shape := ⟨3, ![4, 8192, 1]⟩
abbrev S4x8192x110 : Shape := ⟨3, ![4, 8192, 110]⟩
abbrev S4x8192x128 : Shape := ⟨3, ![4, 8192, 128]⟩
abbrev S32768x1152 : Shape := ⟨2, ![32768, 1152]⟩
abbrev S32768x384 : Shape := ⟨2, ![32768, 384]⟩
abbrev S32768x256 : Shape := ⟨2, ![32768, 256]⟩
abbrev S32768x128 : Shape := ⟨2, ![32768, 128]⟩

abbrev nBuf : Space → Nat
  | .hbm => 359
  | .vmem => 0
  | .smem => 0
  | _ => 0

abbrev hbmTy0_0 (i : Nat) : BufTy := match i % 128 with
  | 0 => ⟨S32768x1024, .f32⟩
  | 1 => ⟨S1024x3218, .f32⟩
  | 2 => ⟨S1024, .f32⟩
  | 3 => ⟨S4x1152, .f32⟩
  | 4 => ⟨S31x256, .f32⟩
  | 5 => ⟨S256, .f32⟩
  | 6 => ⟨S256, .f32⟩
  | 7 => ⟨S256, .f32⟩
  | 8 => ⟨S32768x3218, .f32⟩
  | 9 => ⟨S4x8192x3218, .f32⟩
  | 10 => ⟨S4x8192x384, .f32⟩
  | 11 => ⟨S4x8192x384, .f32⟩
  | 12 => ⟨S4x8192x384, .f32⟩
  | 13 => ⟨S4x8192x6, .f32⟩
  | 14 => ⟨S4x8192x6, .f32⟩
  | 15 => ⟨S4x8192x384, .f32⟩
  | 16 => ⟨S4x8192x512, .f32⟩
  | 17 => ⟨S4x8192x384, .f32⟩
  | 18 => ⟨S4x8192x384, .f32⟩
  | 19 => ⟨S4x8192x384, .f32⟩
  | 20 => ⟨S4x8192x6, .f32⟩
  | 21 => ⟨S4x8192x1152, .f32⟩
  | 22 => ⟨S_, .i32⟩
  | 23 => ⟨S_, .f32⟩
  | 24 => ⟨S4x8195x1152, .f32⟩
  | 25 => ⟨S1x1152, .f32⟩
  | 26 => ⟨S1152, .f32⟩
  | 27 => ⟨S4x8192x1152, .f32⟩
  | 28 => ⟨S1x1x1152, .f32⟩
  | 29 => ⟨S4x8192x1152, .f32⟩
  | 30 => ⟨S4x8192x1152, .f32⟩
  | 31 => ⟨S_, .f32⟩
  | 32 => ⟨S4x8192x1152, .f32⟩
  | 33 => ⟨S4x8192x1152, .f32⟩
  | 34 => ⟨S1x1152, .f32⟩
  | 35 => ⟨S1152, .f32⟩
  | 36 => ⟨S4x8192x1152, .f32⟩
  | 37 => ⟨S1x1x1152, .f32⟩
  | 38 => ⟨S4x8192x1152, .f32⟩
  | 39 => ⟨S4x8192x1152, .f32⟩
  | 40 => ⟨S4x8192x1152, .f32⟩
  | 41 => ⟨S1x1152, .f32⟩
  | 42 => ⟨S1152, .f32⟩
  | 43 => ⟨S4x8192x1152, .f32⟩
  | 44 => ⟨S1x1x1152, .f32⟩
  | 45 => ⟨S4x8192x1152, .f32⟩
  | 46 => ⟨S4x8192x1152, .f32⟩
  | 47 => ⟨S4x8192x1152, .f32⟩
  | 48 => ⟨S1x1152, .f32⟩
  | 49 => ⟨S1152, .f32⟩
  | 50 => ⟨S4x8192x1152, .f32⟩
  | 51 => ⟨S1x1x1152, .f32⟩
  | 52 => ⟨S4x8192x1152, .f32⟩
  | 53 => ⟨S4x8192x1152, .f32⟩
  | 54 => ⟨S4x8192x1152, .f32⟩
  | 55 => ⟨S4x8192x1152, .f32⟩
  | 56 => ⟨S4x8192x1152, .f32⟩
  | 57 => ⟨S_, .f32⟩
  | 58 => ⟨S4x8192x1152, .f32⟩
  | 59 => ⟨S4x8192x1152, .f32⟩
  | 60 => ⟨S_, .f32⟩
  | 61 => ⟨S4x8192x1152, .f32⟩
  | 62 => ⟨S4x8192x1152, .f32⟩
  | 63 => ⟨S4x8192x1152, .f32⟩
  | 64 => ⟨S4x8192x256, .f32⟩
  | 65 => ⟨S4x8192x256, .f32⟩
  | 66 => ⟨S4x8192x256, .f32⟩
  | 67 => ⟨S4x8192x256, .f32⟩
  | 68 => ⟨S_, .f32⟩
  | 69 => ⟨S4x8192x256, .f32⟩
  | 70 => ⟨S4x8192x256, .f32⟩
  | 71 => ⟨S_, .f32⟩
  | 72 => ⟨S4x8192x256, .f32⟩
  | 73 => ⟨S4x8192x256, .f32⟩
  | 74 => ⟨S4x8192x256, .f32⟩
  | 75 => ⟨S_, .i32⟩
  | 76 => ⟨S_, .f32⟩
  | 77 => ⟨S4x8222x256, .f32⟩
  | 78 => ⟨S1x256, .f32⟩
  | 79 => ⟨S256, .f32⟩
  | 80 => ⟨S4x8192x256, .f32⟩
  | 81 => ⟨S1x1x256, .f32⟩
  | 82 => ⟨S4x8192x256, .f32⟩
  | 83 => ⟨S4x8192x256, .f32⟩
  | 84 => ⟨S_, .f32⟩
  | 85 => ⟨S4x8192x256, .f32⟩
  | 86 => ⟨S4x8192x256, .f32⟩
  | 87 => ⟨S1x256, .f32⟩
  | 88 => ⟨S256, .f32⟩
  | 89 => ⟨S4x8192x256, .f32⟩
  | 90 => ⟨S1x1x256, .f32⟩
  | 91 => ⟨S4x8192x256, .f32⟩
  | 92 => ⟨S4x8192x256, .f32⟩
  | 93 => ⟨S4x8192x256, .f32⟩
  | 94 => ⟨S1x256, .f32⟩
  | 95 => ⟨S256, .f32⟩
  | 96 => ⟨S4x8192x256, .f32⟩
  | 97 => ⟨S1x1x256, .f32⟩
  | 98 => ⟨S4x8192x256, .f32⟩
  | 99 => ⟨S4x8192x256, .f32⟩
  | 100 => ⟨S4x8192x256, .f32⟩
  | 101 => ⟨S1x256, .f32⟩
  | 102 => ⟨S256, .f32⟩
  | 103 => ⟨S4x8192x256, .f32⟩
  | 104 => ⟨S1x1x256, .f32⟩
  | 105 => ⟨S4x8192x256, .f32⟩
  | 106 => ⟨S4x8192x256, .f32⟩
  | 107 => ⟨S4x8192x256, .f32⟩
  | 108 => ⟨S1x256, .f32⟩
  | 109 => ⟨S256, .f32⟩
  | 110 => ⟨S4x8192x256, .f32⟩
  | 111 => ⟨S1x1x256, .f32⟩
  | 112 => ⟨S4x8192x256, .f32⟩
  | 113 => ⟨S4x8192x256, .f32⟩
  | 114 => ⟨S4x8192x256, .f32⟩
  | 115 => ⟨S1x256, .f32⟩
  | 116 => ⟨S256, .f32⟩
  | 117 => ⟨S4x8192x256, .f32⟩
  | 118 => ⟨S1x1x256, .f32⟩
  | 119 => ⟨S4x8192x256, .f32⟩
  | 120 => ⟨S4x8192x256, .f32⟩
  | 121 => ⟨S4x8192x256, .f32⟩
  | 122 => ⟨S1x256, .f32⟩
  | 123 => ⟨S256, .f32⟩
  | 124 => ⟨S4x8192x256, .f32⟩
  | 125 => ⟨S1x1x256, .f32⟩
  | 126 => ⟨S4x8192x256, .f32⟩
  | 127 => ⟨S4x8192x256, .f32⟩
  | _ => ⟨S32768x1024, .f32⟩

abbrev hbmTy0_1 (i : Nat) : BufTy := match i % 128 with
  | 0 => ⟨S4x8192x256, .f32⟩
  | 1 => ⟨S1x256, .f32⟩
  | 2 => ⟨S256, .f32⟩
  | 3 => ⟨S4x8192x256, .f32⟩
  | 4 => ⟨S1x1x256, .f32⟩
  | 5 => ⟨S4x8192x256, .f32⟩
  | 6 => ⟨S4x8192x256, .f32⟩
  | 7 => ⟨S4x8192x256, .f32⟩
  | 8 => ⟨S1x256, .f32⟩
  | 9 => ⟨S256, .f32⟩
  | 10 => ⟨S4x8192x256, .f32⟩
  | 11 => ⟨S1x1x256, .f32⟩
  | 12 => ⟨S4x8192x256, .f32⟩
  | 13 => ⟨S4x8192x256, .f32⟩
  | 14 => ⟨S4x8192x256, .f32⟩
  | 15 => ⟨S1x256, .f32⟩
  | 16 => ⟨S256, .f32⟩
  | 17 => ⟨S4x8192x256, .f32⟩
  | 18 => ⟨S1x1x256, .f32⟩
  | 19 => ⟨S4x8192x256, .f32⟩
  | 20 => ⟨S4x8192x256, .f32⟩
  | 21 => ⟨S4x8192x256, .f32⟩
  | 22 => ⟨S1x256, .f32⟩
  | 23 => ⟨S256, .f32⟩
  | 24 => ⟨S4x8192x256, .f32⟩
  | 25 => ⟨S1x1x256, .f32⟩
  | 26 => ⟨S4x8192x256, .f32⟩
  | 27 => ⟨S4x8192x256, .f32⟩
  | 28 => ⟨S4x8192x256, .f32⟩
  | 29 => ⟨S1x256, .f32⟩
  | 30 => ⟨S256, .f32⟩
  | 31 => ⟨S4x8192x256, .f32⟩
  | 32 => ⟨S1x1x256, .f32⟩
  | 33 => ⟨S4x8192x256, .f32⟩
  | 34 => ⟨S4x8192x256, .f32⟩
  | 35 => ⟨S4x8192x256, .f32⟩
  | 36 => ⟨S1x256, .f32⟩
  | 37 => ⟨S256, .f32⟩
  | 38 => ⟨S4x8192x256, .f32⟩
  | 39 => ⟨S1x1x256, .f32⟩
  | 40 => ⟨S4x8192x256, .f32⟩
  | 41 => ⟨S4x8192x256, .f32⟩
  | 42 => ⟨S4x8192x256, .f32⟩
  | 43 => ⟨S1x256, .f32⟩
  | 44 => ⟨S256, .f32⟩
  | 45 => ⟨S4x8192x256, .f32⟩
  | 46 => ⟨S1x1x256, .f32⟩
  | 47 => ⟨S4x8192x256, .f32⟩
  | 48 => ⟨S4x8192x256, .f32⟩
  | 49 => ⟨S4x8192x256, .f32⟩
  | 50 => ⟨S1x256, .f32⟩
  | 51 => ⟨S256, .f32⟩
  | 52 => ⟨S4x8192x256, .f32⟩
  | 53 => ⟨S1x1x256, .f32⟩
  | 54 => ⟨S4x8192x256, .f32⟩
  | 55 => ⟨S4x8192x256, .f32⟩
  | 56 => ⟨S4x8192x256, .f32⟩
  | 57 => ⟨S1x256, .f32⟩
  | 58 => ⟨S256, .f32⟩
  | 59 => ⟨S4x8192x256, .f32⟩
  | 60 => ⟨S1x1x256, .f32⟩
  | 61 => ⟨S4x8192x256, .f32⟩
  | 62 => ⟨S4x8192x256, .f32⟩
  | 63 => ⟨S4x8192x256, .f32⟩
  | 64 => ⟨S1x256, .f32⟩
  | 65 => ⟨S256, .f32⟩
  | 66 => ⟨S4x8192x256, .f32⟩
  | 67 => ⟨S1x1x256, .f32⟩
  | 68 => ⟨S4x8192x256, .f32⟩
  | 69 => ⟨S4x8192x256, .f32⟩
  | 70 => ⟨S4x8192x256, .f32⟩
  | 71 => ⟨S1x256, .f32⟩
  | 72 => ⟨S256, .f32⟩
  | 73 => ⟨S4x8192x256, .f32⟩
  | 74 => ⟨S1x1x256, .f32⟩
  | 75 => ⟨S4x8192x256, .f32⟩
  | 76 => ⟨S4x8192x256, .f32⟩
  | 77 => ⟨S4x8192x256, .f32⟩
  | 78 => ⟨S1x256, .f32⟩
  | 79 => ⟨S256, .f32⟩
  | 80 => ⟨S4x8192x256, .f32⟩
  | 81 => ⟨S1x1x256, .f32⟩
  | 82 => ⟨S4x8192x256, .f32⟩
  | 83 => ⟨S4x8192x256, .f32⟩
  | 84 => ⟨S4x8192x256, .f32⟩
  | 85 => ⟨S1x256, .f32⟩
  | 86 => ⟨S256, .f32⟩
  | 87 => ⟨S4x8192x256, .f32⟩
  | 88 => ⟨S1x1x256, .f32⟩
  | 89 => ⟨S4x8192x256, .f32⟩
  | 90 => ⟨S4x8192x256, .f32⟩
  | 91 => ⟨S4x8192x256, .f32⟩
  | 92 => ⟨S1x256, .f32⟩
  | 93 => ⟨S256, .f32⟩
  | 94 => ⟨S4x8192x256, .f32⟩
  | 95 => ⟨S1x1x256, .f32⟩
  | 96 => ⟨S4x8192x256, .f32⟩
  | 97 => ⟨S4x8192x256, .f32⟩
  | 98 => ⟨S4x8192x256, .f32⟩
  | 99 => ⟨S1x256, .f32⟩
  | 100 => ⟨S256, .f32⟩
  | 101 => ⟨S4x8192x256, .f32⟩
  | 102 => ⟨S1x1x256, .f32⟩
  | 103 => ⟨S4x8192x256, .f32⟩
  | 104 => ⟨S4x8192x256, .f32⟩
  | 105 => ⟨S4x8192x256, .f32⟩
  | 106 => ⟨S1x256, .f32⟩
  | 107 => ⟨S256, .f32⟩
  | 108 => ⟨S4x8192x256, .f32⟩
  | 109 => ⟨S1x1x256, .f32⟩
  | 110 => ⟨S4x8192x256, .f32⟩
  | 111 => ⟨S4x8192x256, .f32⟩
  | 112 => ⟨S4x8192x256, .f32⟩
  | 113 => ⟨S1x256, .f32⟩
  | 114 => ⟨S256, .f32⟩
  | 115 => ⟨S4x8192x256, .f32⟩
  | 116 => ⟨S1x1x256, .f32⟩
  | 117 => ⟨S4x8192x256, .f32⟩
  | 118 => ⟨S4x8192x256, .f32⟩
  | 119 => ⟨S4x8192x256, .f32⟩
  | 120 => ⟨S1x256, .f32⟩
  | 121 => ⟨S256, .f32⟩
  | 122 => ⟨S4x8192x256, .f32⟩
  | 123 => ⟨S1x1x256, .f32⟩
  | 124 => ⟨S4x8192x256, .f32⟩
  | 125 => ⟨S4x8192x256, .f32⟩
  | 126 => ⟨S4x8192x256, .f32⟩
  | 127 => ⟨S1x256, .f32⟩
  | _ => ⟨S32768x1024, .f32⟩

abbrev hbmTy0_2 (i : Nat) : BufTy := match i % 128 with
  | 0 => ⟨S256, .f32⟩
  | 1 => ⟨S4x8192x256, .f32⟩
  | 2 => ⟨S1x1x256, .f32⟩
  | 3 => ⟨S4x8192x256, .f32⟩
  | 4 => ⟨S4x8192x256, .f32⟩
  | 5 => ⟨S4x8192x256, .f32⟩
  | 6 => ⟨S1x256, .f32⟩
  | 7 => ⟨S256, .f32⟩
  | 8 => ⟨S4x8192x256, .f32⟩
  | 9 => ⟨S1x1x256, .f32⟩
  | 10 => ⟨S4x8192x256, .f32⟩
  | 11 => ⟨S4x8192x256, .f32⟩
  | 12 => ⟨S4x8192x256, .f32⟩
  | 13 => ⟨S1x256, .f32⟩
  | 14 => ⟨S256, .f32⟩
  | 15 => ⟨S4x8192x256, .f32⟩
  | 16 => ⟨S1x1x256, .f32⟩
  | 17 => ⟨S4x8192x256, .f32⟩
  | 18 => ⟨S4x8192x256, .f32⟩
  | 19 => ⟨S4x8192x256, .f32⟩
  | 20 => ⟨S1x256, .f32⟩
  | 21 => ⟨S256, .f32⟩
  | 22 => ⟨S4x8192x256, .f32⟩
  | 23 => ⟨S1x1x256, .f32⟩
  | 24 => ⟨S4x8192x256, .f32⟩
  | 25 => ⟨S4x8192x256, .f32⟩
  | 26 => ⟨S4x8192x256, .f32⟩
  | 27 => ⟨S1x256, .f32⟩
  | 28 => ⟨S256, .f32⟩
  | 29 => ⟨S4x8192x256, .f32⟩
  | 30 => ⟨S1x1x256, .f32⟩
  | 31 => ⟨S4x8192x256, .f32⟩
  | 32 => ⟨S4x8192x256, .f32⟩
  | 33 => ⟨S4x8192x256, .f32⟩
  | 34 => ⟨S1x256, .f32⟩
  | 35 => ⟨S256, .f32⟩
  | 36 => ⟨S4x8192x256, .f32⟩
  | 37 => ⟨S1x1x256, .f32⟩
  | 38 => ⟨S4x8192x256, .f32⟩
  | 39 => ⟨S4x8192x256, .f32⟩
  | 40 => ⟨S4x8192x256, .f32⟩
  | 41 => ⟨S1x1x256, .f32⟩
  | 42 => ⟨S4x8192x256, .f32⟩
  | 43 => ⟨S4x8192x256, .f32⟩
  | 44 => ⟨S_, .f32⟩
  | 45 => ⟨S4x8192, .f32⟩
  | 46 => ⟨S4x8192x1, .f32⟩
  | 47 => ⟨S_, .f32⟩
  | 48 => ⟨S4x8192x1, .f32⟩
  | 49 => ⟨S4x8192x1, .f32⟩
  | 50 => ⟨S4x8192x256, .f32⟩
  | 51 => ⟨S4x8192x256, .f32⟩
  | 52 => ⟨S4x8192x256, .f32⟩
  | 53 => ⟨S_, .f32⟩
  | 54 => ⟨S4x8192, .f32⟩
  | 55 => ⟨S4x8192x1, .f32⟩
  | 56 => ⟨S_, .f32⟩
  | 57 => ⟨S4x8192x1, .f32⟩
  | 58 => ⟨S4x8192x1, .f32⟩
  | 59 => ⟨S4x8192x256, .f32⟩
  | 60 => ⟨S4x8192x256, .f32⟩
  | 61 => ⟨S_, .f32⟩
  | 62 => ⟨S4x8192x1, .f32⟩
  | 63 => ⟨S4x8192x1, .f32⟩
  | 64 => ⟨S4x8192x1, .f32⟩
  | 65 => ⟨S4x8192x256, .f32⟩
  | 66 => ⟨S4x8192x256, .f32⟩
  | 67 => ⟨S1x1x256, .f32⟩
  | 68 => ⟨S4x8192x256, .f32⟩
  | 69 => ⟨S4x8192x256, .f32⟩
  | 70 => ⟨S1x1x256, .f32⟩
  | 71 => ⟨S4x8192x256, .f32⟩
  | 72 => ⟨S4x8192x256, .f32⟩
  | 73 => ⟨S4x8192x256, .f32⟩
  | 74 => ⟨S4x8192x256, .f32⟩
  | 75 => ⟨S_, .f32⟩
  | 76 => ⟨S4x8192x256, .f32⟩
  | 77 => ⟨S4x8192x256, .f32⟩
  | 78 => ⟨S_, .f32⟩
  | 79 => ⟨S4x8192x256, .f32⟩
  | 80 => ⟨S4x8192x256, .f32⟩
  | 81 => ⟨S4x8192x256, .f32⟩
  | 82 => ⟨S256, .f32⟩
  | 83 => ⟨S1x1x256, .f32⟩
  | 84 => ⟨S4x8192x256, .f32⟩
  | 85 => ⟨S4x8192x256, .f32⟩
  | 86 => ⟨S_, .f32⟩
  | 87 => ⟨S4x8192x110, .f32⟩
  | 88 => ⟨S4x8192x128, .f32⟩
  | 89 => ⟨S32768x1152, .f32⟩
  | 90 => ⟨S32768x384, .f32⟩
  | 91 => ⟨S4x8192x256, .bf16⟩
  | 92 => ⟨S32768x256, .bf16⟩
  | 93 => ⟨S_, .f32⟩
  | 94 => ⟨S4x8192x384, .f32⟩
  | 95 => ⟨S4x8192x384, .f32⟩
  | 96 => ⟨S4x8192x384, .bf16⟩
  | 97 => ⟨S32768x384, .bf16⟩
  | 98 => ⟨S4x8192x384, .bf16⟩
  | 99 => ⟨S32768x384, .bf16⟩
  | 100 => ⟨S4x8192x384, .bf16⟩
  | 101 => ⟨S32768x384, .bf16⟩
  | 102 => ⟨S32768x128, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_0 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_2 : Ref sig .tc := ⟨.hbm, 75, rfl⟩
abbrev main_call2_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_3 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_cst_4 : Ref sig .tc := ⟨.hbm, 300, rfl⟩
abbrev main_v276 : Ref sig .tc := ⟨.hbm, 301, rfl⟩
abbrev main_v277 : Ref sig .tc := ⟨.hbm, 302, rfl⟩
abbrev main_cst_5 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_cst_6 : Ref sig .tc := ⟨.hbm, 309, rfl⟩
abbrev main_v283 : Ref sig .tc := ⟨.hbm, 310, rfl⟩
abbrev main_v284 : Ref sig .tc := ⟨.hbm, 311, rfl⟩
abbrev main_cst_7 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_cst_8 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_call3_v0 : Ref sig .tc := ⟨.hbm, 329, rfl⟩
abbrev main_call3_v1 : Ref sig .tc := ⟨.hbm, 330, rfl⟩
abbrev main_call3_cst : Ref sig .tc := ⟨.hbm, 331, rfl⟩
abbrev main_call3_v2 : Ref sig .tc := ⟨.hbm, 332, rfl⟩
abbrev main_call3_v3 : Ref sig .tc := ⟨.hbm, 333, rfl⟩
abbrev main_call3_cst_0 : Ref sig .tc := ⟨.hbm, 334, rfl⟩
abbrev main_call3_v4 : Ref sig .tc := ⟨.hbm, 335, rfl⟩
abbrev main_call3_v5 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_v303 : Ref sig .tc := ⟨.hbm, 340, rfl⟩
abbrev main_v304 : Ref sig .tc := ⟨.hbm, 341, rfl⟩
abbrev main_cst_9 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_cst_10 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩

abbrev nD : Nat := 1
abbrev τ : Topo := Topo.v7x

variable {F : FTy → Type} [FloatOps F]
-- ==== Router.lean ====
abbrev S32768x1024 : Shape := ⟨2, ![32768, 1024]⟩
abbrev S1024x128 : Shape := ⟨2, ![1024, 128]⟩
abbrev S32768x128 : Shape := ⟨2, ![32768, 128]⟩
abbrev S8x32768 : Shape := ⟨2, ![8, 32768]⟩
abbrev S1x128 : Shape := ⟨2, ![1, 128]⟩
abbrev S512x1024 : Shape := ⟨2, ![512, 1024]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S512x512 : Shape := ⟨2, ![512, 512]⟩
abbrev S128 : Shape := ⟨1, ![128]⟩
abbrev S128x512 : Shape := ⟨2, ![128, 512]⟩

abbrev nBuf : Space → Nat
  | .hbm => 5
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x128, .bf16⟩
  | .hbm, ⟨2, _⟩ => ⟨S32768x128, .f32⟩
  | .hbm, ⟨3, _⟩ => ⟨S8x32768, .f32⟩
  | .hbm, ⟨4, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | .local _ .vmem, ⟨5, _⟩ => ⟨S8x512, .f32⟩
  | .local _ .vmem, ⟨6, _⟩ => ⟨S8x512, .f32⟩
  | .local _ .vmem, ⟨7, _⟩ => ⟨S1x128, .f32⟩
  | .local _ .vmem, ⟨8, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RouterReferenceIdeal.lean ====
abbrev S32768x1024 : Shape := ⟨2, ![32768, 1024]⟩
abbrev S1024x128 : Shape := ⟨2, ![1024, 128]⟩
abbrev S1024x8 : Shape := ⟨2, ![1024, 8]⟩
abbrev S32768x8 : Shape := ⟨2, ![32768, 8]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S128 : Shape := ⟨1, ![128]⟩
abbrev S1x128 : Shape := ⟨2, ![1, 128]⟩
abbrev S32768x128 : Shape := ⟨2, ![32768, 128]⟩
abbrev S1x32768 : Shape := ⟨2, ![1, 32768]⟩
abbrev S32768x32768 : Shape := ⟨2, ![32768, 32768]⟩
abbrev S32768x122 : Shape := ⟨2, ![32768, 122]⟩
abbrev S8x32768 : Shape := ⟨2, ![8, 32768]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x128, .bf16⟩
  | .hbm, ⟨2, _⟩ => ⟨S1024x8, .bf16⟩
  | .hbm, ⟨3, _⟩ => ⟨S1024x8, .f32⟩
  | .hbm, ⟨4, _⟩ => ⟨S32768x8, .f32⟩
  | .hbm, ⟨5, _⟩ => ⟨S32768x2, .f32⟩
  | .hbm, ⟨6, _⟩ => ⟨S32768x2, .i32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x2, .f32⟩
  | .hbm, ⟨14, _⟩ => ⟨S32768x2, .f32⟩
  | .hbm, ⟨15, _⟩ => ⟨S32768x2, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x2, .f32⟩
  | .hbm, ⟨20, _⟩ => ⟨S32768x2, .f32⟩
  | .hbm, ⟨21, _⟩ => ⟨S32768x1, .i32⟩
  | .hbm, ⟨22, _⟩ => ⟨S32768x1, .i32⟩
  | .hbm, ⟨23, _⟩ => ⟨S128, .i32⟩
  | .hbm, ⟨24, _⟩ => ⟨S1x128, .i32⟩
  | .hbm, ⟨25, _⟩ => ⟨S32768x128, .i32⟩
  | .hbm, ⟨26, _⟩ => ⟨S32768x128, .i32⟩
  | .hbm, ⟨27, _⟩ => ⟨S32768x128, .i1⟩
  | .hbm, ⟨28, _⟩ => ⟨S32768x128, .i32⟩
  | .hbm, ⟨29, _⟩ => ⟨S32768x128, .i32⟩
  | .hbm, ⟨30, _⟩ => ⟨S32768x128, .i1⟩
  | .hbm, ⟨31, _⟩ => ⟨S32768x128, .i1⟩
  | .hbm, ⟨32, _⟩ => ⟨S32768x128, .f32⟩
  | .hbm, ⟨33, _⟩ => ⟨S32768, .i32⟩
  | .hbm, ⟨34, _⟩ => ⟨S1x32768, .i32⟩
  | .hbm, ⟨35, _⟩ => ⟨S32768x1, .i32⟩
  | .hbm, ⟨36, _⟩ => ⟨S32768x32768, .i32⟩
  | .hbm, ⟨37, _⟩ => ⟨S32768x32768, .i32⟩
  | .hbm, ⟨38, _⟩ => ⟨S32768x32768, .i1⟩
  | .hbm, ⟨39, _⟩ => ⟨S32768x32768, .f32⟩
  | .hbm, ⟨40, _⟩ => ⟨S32768x128, .f32⟩
  | .hbm, ⟨41, _⟩ => ⟨S32768x1, .f32⟩
  | .hbm, ⟨42, _⟩ => ⟨S32768x1, .f32⟩
  | .hbm, ⟨43, _⟩ => ⟨S32768x128, .i32⟩
  | .hbm, ⟨44, _⟩ => ⟨S32768x128, .i32⟩
  | .hbm, ⟨45, _⟩ => ⟨S32768x128, .i1⟩
  | .hbm, ⟨46, _⟩ => ⟨S_, .f32⟩
  | .hbm, ⟨47, _⟩ => ⟨S_, .f32⟩
  | .hbm, ⟨48, _⟩ => ⟨S32768x128, .f32⟩
  | .hbm, ⟨49, _⟩ => ⟨S32768x128, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S32768x128, .i32⟩
  | .hbm, ⟨54, _⟩ => ⟨S32768x128, .i32⟩
  | .hbm, ⟨55, _⟩ => ⟨S32768x128, .i1⟩
  | .hbm, ⟨56, _⟩ => ⟨S_, .f32⟩
  | .hbm, ⟨57, _⟩ => ⟨S_, .f32⟩
  | .hbm, ⟨58, _⟩ => ⟨S32768x128, .f32⟩
  | .hbm, ⟨59, _⟩ => ⟨S32768x128, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x122, .f32⟩
  | .hbm, ⟨65, _⟩ => ⟨S32768x128, .f32⟩
  | .hbm, ⟨66, _⟩ => ⟨S32768x8, .f32⟩
  | .hbm, ⟨67, _⟩ => ⟨S8x32768, .f32⟩
  | .hbm, ⟨68, _⟩ => ⟨S_, .f32⟩
  | .hbm, ⟨69, _⟩ => ⟨S128, .f32⟩
  | .hbm, ⟨70, _⟩ => ⟨S1x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_call0_v0 : Ref sig .tc := ⟨.hbm, 47, rfl⟩
abbrev main_call0_v1 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Gates.lean ====
abbrev S4x8192x128 : Shape := ⟨3, ![4, 8192, 128]⟩
abbrev S1x128 : Shape := ⟨2, ![1, 128]⟩
abbrev S4x8192x384 : Shape := ⟨3, ![4, 8192, 384]⟩
abbrev S4x8x8192 : Shape := ⟨3, ![4, 8, 8192]⟩
abbrev S4x16x8x128 : Shape := ⟨4, ![4, 16, 8, 128]⟩
abbrev S4x6x8192x128 : Shape := ⟨4, ![4, 6, 8192, 128]⟩
abbrev S1x512x128 : Shape := ⟨3, ![1, 512, 128]⟩
abbrev S1x512x384 : Shape := ⟨3, ![1, 512, 384]⟩
abbrev S1x8x512 : Shape := ⟨3, ![1, 8, 512]⟩
abbrev S1x1x8x128 : Shape := ⟨4, ![1, 1, 8, 128]⟩
abbrev S1x6x512x128 : Shape := ⟨4, ![1, 6, 512, 128]⟩
abbrev S512x128 : Shape := ⟨2, ![512, 128]⟩
abbrev S128x128 : Shape := ⟨2, ![128, 128]⟩
abbrev S64x128 : Shape := ⟨2, ![64, 128]⟩
abbrev S128x768 : Shape := ⟨2, ![128, 768]⟩
abbrev S512x768 : Shape := ⟨2, ![512, 768]⟩
abbrev S512x384 : Shape := ⟨2, ![512, 384]⟩
abbrev S128x512 : Shape := ⟨2, ![128, 512]⟩
abbrev S8x512 : Shape := ⟨2, ![8, 512]⟩
abbrev S128 : Shape := ⟨1, ![128]⟩
abbrev S4x128 : Shape := ⟨2, ![4, 128]⟩
abbrev S8x128 : Shape := ⟨2, ![8, 128]⟩
abbrev S384x768 : Shape := ⟨2, ![384, 768]⟩
abbrev S1x1x512x128 : Shape := ⟨4, ![1, 1, 512, 128]⟩

abbrev nBuf : Space → Nat
  | .hbm => 14
  | .vmem => 26
  | .smem => 0
  | _ => 0

abbrev bufTy : (tb : Table) → Fin (tcTables nBuf tb) → BufTy
  | .hbm, ⟨0, _⟩ => ⟨S4x8192x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S4x8192x384, .bf16⟩
  | .hbm, ⟨5, _⟩ => ⟨S4x8192x384, .bf16⟩
  | .hbm, ⟨6, _⟩ => ⟨S4x8192x384, .bf16⟩
  | .hbm, ⟨7, _⟩ => ⟨S4x8192x384, .f32⟩
  | .hbm, ⟨8, _⟩ => ⟨S4x8192x384, .f32⟩
  | .hbm, ⟨9, _⟩ => ⟨S4x8x8192, .f32⟩
  | .hbm, ⟨10, _⟩ => ⟨S4x16x8x128, .f32⟩
  | .hbm, ⟨11, _⟩ => ⟨S4x6x8192x128, .bf16⟩
  | .hbm, ⟨12, _⟩ => ⟨S4x6x8192x128, .bf16⟩
  | .hbm, ⟨13, _⟩ => ⟨S4x6x8192x128, .bf16⟩
  | .local _ .vmem, ⟨0, _⟩ => ⟨S1x512x128, .f32⟩
  | .local _ .vmem, ⟨1, _⟩ => ⟨S1x512x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x512x384, .bf16⟩
  | .local _ .vmem, ⟨6, _⟩ => ⟨S1x512x384, .bf16⟩
  | .local _ .vmem, ⟨7, _⟩ => ⟨S1x512x384, .bf16⟩
  | .local _ .vmem, ⟨8, _⟩ => ⟨S1x512x384, .bf16⟩
  | .local _ .vmem, ⟨9, _⟩ => ⟨S1x512x384, .bf16⟩
  | .local _ .vmem, ⟨10, _⟩ => ⟨S1x512x384, .bf16⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x8x512, .f32⟩
  | .local _ .vmem, ⟨16, _⟩ => ⟨S1x8x512, .f32⟩
  | .local _ .vmem, ⟨17, _⟩ => ⟨S1x1x8x128, .f32⟩
  | .local _ .vmem, ⟨18, _⟩ => ⟨S1x1x8x128, .f32⟩
  | .local _ .vmem, ⟨19, _⟩ => ⟨S1x6x512x128, .bf16⟩
  | .local _ .vmem, ⟨20, _⟩ => ⟨S1x6x512x128, .bf16⟩
  | .local _ .vmem, ⟨21, _⟩ => ⟨S1x6x512x128, .bf16⟩
  | .local _ .vmem, ⟨22, _⟩ => ⟨S1x6x512x128, .bf16⟩
  | .local _ .vmem, ⟨23, _⟩ => ⟨S1x6x512x128, .bf16⟩
  | .local _ .vmem, ⟨24, _⟩ => ⟨S1x6x512x128, .bf16⟩
  | .local _ .vmem, ⟨25, _⟩ => ⟨S1x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x6x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x6x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x6x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== GatesReferenceIdeal.lean ====
abbrev S4x8192x128 : Shape := ⟨3, ![4, 8192, 128]⟩
abbrev S1x128 : Shape := ⟨2, ![1, 128]⟩
abbrev S4x8192x384 : Shape := ⟨3, ![4, 8192, 384]⟩
abbrev S4x8192x8 : Shape := ⟨3, ![4, 8192, 8]⟩
abbrev S4x8192x6 : Shape := ⟨3, ![4, 8192, 6]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S4x128x64x8 : Shape := ⟨4, ![4, 128, 64, 8]⟩
abbrev S4x8192x6x1 : Shape := ⟨4, ![4, 8192, 6, 1]⟩
abbrev S4x8192x6x64 : Shape := ⟨4, ![4, 8192, 6, 64]⟩
abbrev S4x8x8192 : Shape := ⟨3, ![4, 8, 8192]⟩
abbrev S4x6x8192x64 : Shape := ⟨4, ![4, 6, 8192, 64]⟩
abbrev S4x6x8192x3 : Shape := ⟨4, ![4, 6, 8192, 3]⟩
abbrev S4x6x8192x61 : Shape := ⟨4, ![4, 6, 8192, 61]⟩
abbrev S4x6x8192x128 : Shape := ⟨4, ![4, 6, 8192, 128]⟩
abbrev S4x6x8192x1 : Shape := ⟨4, ![4, 6, 8192, 1]⟩
abbrev S4x6x8192x63 : Shape := ⟨4, ![4, 6, 8192, 63]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S4x8192x384, .bf16⟩
  | .hbm, ⟨5, _⟩ => ⟨S4x8192x384, .bf16⟩
  | .hbm, ⟨6, _⟩ => ⟨S4x8192x384, .bf16⟩
  | .hbm, ⟨7, _⟩ => ⟨S4x8192x8, .f32⟩
  | .hbm, ⟨8, _⟩ => ⟨S4x8192x6, .f32⟩
  | .hbm, ⟨9, _⟩ => ⟨S1x8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S1x8, .f32⟩
  | .hbm, ⟨14, _⟩ => ⟨S8, .f32⟩
  | .hbm, ⟨15, _⟩ => ⟨S1x1x8, .f32⟩
  | .hbm, ⟨16, _⟩ => ⟨S4x8192x8, .f32⟩
  | .hbm, ⟨17, _⟩ => ⟨S4x8192x8, .f32⟩
  | .hbm, ⟨18, _⟩ => ⟨S_, .f32⟩
  | .hbm, ⟨19, _⟩ => ⟨S4x8192x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x8, .i1⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S4x8192x8, .f32⟩
  | .hbm, ⟨29, _⟩ => ⟨S4x8192x8, .f32⟩
  | .hbm, ⟨30, _⟩ => ⟨S4x8192x8, .f32⟩
  | .hbm, ⟨31, _⟩ => ⟨S4x8192x8, .f32⟩
  | .hbm, ⟨32, _⟩ => ⟨S1x1x8, .f32⟩
  | .hbm, ⟨33, _⟩ => ⟨S4x8192x8, .f32⟩
  | .hbm, ⟨34, _⟩ => ⟨S4x8192x8, .f32⟩
  | .hbm, ⟨35, _⟩ => ⟨S4x8192x6, .f32⟩
  | .hbm, ⟨36, _⟩ => ⟨S4x8192x6, .f32⟩
  | .hbm, ⟨37, _⟩ => ⟨S_, .f32⟩
  | .hbm, ⟨38, _⟩ => ⟨S4x8192x6, .f32⟩
  | .hbm, ⟨39, _⟩ => ⟨S4x8192x6, .f32⟩
  | .hbm, ⟨40, _⟩ => ⟨S_, .f32⟩
  | .hbm, ⟨41, _⟩ => ⟨S4x8192x6, .f32⟩
  | .hbm, ⟨42, _⟩ => ⟨S4x8192x6, .f32⟩
  | .hbm, ⟨43, _⟩ => ⟨S4x128x64x8, .f32⟩
  | .hbm, ⟨44, _⟩ => ⟨S_, .f32⟩
  | .hbm, ⟨45, _⟩ => ⟨S_, .f32⟩
  | .hbm, ⟨46, _⟩ => ⟨S4x128x64x8, .f32⟩
  | .hbm, ⟨47, _⟩ => ⟨S4x8192x8, .f32⟩
  | .hbm, ⟨48, _⟩ => ⟨S4x8192x6, .f32⟩
  | .hbm, ⟨49, _⟩ => ⟨S4x8192x6x1, .f32⟩
  | .hbm, ⟨50, _⟩ => ⟨S4x8192x6x64, .f32⟩
  | .hbm, ⟨51, _⟩ => ⟨S4x8192x384, .f32⟩
  | .hbm, ⟨52, _⟩ => ⟨S4x8192x6x1, .f32⟩
  | .hbm, ⟨53, _⟩ => ⟨S4x8192x6x64, .f32⟩
  | .hbm, ⟨54, _⟩ => ⟨S4x8192x384, .f32⟩
  | .hbm, ⟨55, _⟩ => ⟨S4x8x8192, .f32⟩
  | .hbm, ⟨56, _⟩ => ⟨S4x8192x6x64, .bf16⟩
  | .hbm, ⟨57, _⟩ => ⟨S4x6x8192x64, .bf16⟩
  | .hbm, ⟨58, _⟩ => ⟨S_, .bf16⟩
  | .hbm, ⟨59, _⟩ => ⟨S4x6x8192x3, .bf16⟩
  | .hbm, ⟨60, _⟩ => ⟨S_, .bf16⟩
  | .hbm, ⟨61, _⟩ => ⟨S4x6x8192x61, .bf16⟩
  | .hbm, ⟨62, _⟩ => ⟨S4x6x8192x128, .bf16⟩
  | .hbm, ⟨63, _⟩ => ⟨S4x8192x6x64, .bf16⟩
  | .hbm, ⟨64, _⟩ => ⟨S4x6x8192x64, .bf16⟩
  | .hbm, ⟨65, _⟩ => ⟨S_, .bf16⟩
  | .hbm, ⟨66, _⟩ => ⟨S4x6x8192x1, .bf16⟩
  | .hbm, ⟨67, _⟩ => ⟨S_, .bf16⟩
  | .hbm, ⟨68, _⟩ => ⟨S4x6x8192x63, .bf16⟩
  | .hbm, ⟨69, _⟩ => ⟨S4x6x8192x128, .bf16⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== Proof.Swiglu.lean ====
/-
  The gated feed-forward and the layer norm as functions of extended reals, apart from any program: one hidden unit `hid`
  (a product of the activated gate and the up-projection), the regrouping of a sum over the hidden units by chunks of 256,
  which is how the kernels walk it, and a normalised row `lnorm`.
-/
module

public import Idealize.ShloMosaic.Lib.Pointwise

@[expose] public section

noncomputable section

namespace Cert.Swiglu

open Idealize.ShloMosaic

/-- The activation `a · 1 / (1 + exp (−a))`. -/
def act (a : EReal) : EReal := a * Ideal.div 1 (1 + Ideal.exp (-a))

/-- One hidden unit: the activated product of the row with the gate column times its product with the up column. -/
def hid (x gate up : Fin 1024 → EReal) : EReal := act (∑ l, x l * gate l) * ∑ l, x l * up l

/-- A chunk's share of an output element: its 256 hidden units against their rows of the down-projection. -/
def chunk (x : Fin 1024 → EReal) (gate up : Fin 256 → Fin 1024 → EReal) (down : Fin 256 → EReal) : EReal :=
  ∑ k, hid x (gate k) (up k) * down k

/-- Hidden unit `k` of chunk `c`, of `n` chunks. -/
def unit {n : ℕ} (c : Fin n) (k : Fin 256) : Fin (n * 256) := ⟨256 * c.val + k.val, by have := c.isLt; have := k.isLt; omega⟩

/-- A sum over `n * 256` units is the sum over the chunks of the sums over a chunk's units. -/
theorem sum_units (n : ℕ) (f : Fin (n * 256) → EReal) : ∑ k, f k = ∑ c : Fin n, ∑ k : Fin 256, f (unit c k) := by
  rw [← Finset.sum_product', ← (finProdFinEquiv (m := n) (n := 256)).sum_comp f]
  refine Finset.sum_congr rfl fun p _ => congrArg f (Fin.ext ?_)
  simp [unit, finProdFinEquiv, add_comm]

/-- A sum over eleven chunks, written out in order. -/
theorem sum_eleven (f : Fin 11 → EReal) :
    ∑ c, f c = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- A row's mean. -/
def mean (y : Fin 1024 → EReal) : EReal := Ideal.div (∑ j, y j) (Ideal.ofBits .f32 0x44800000#32)

/-- Element `j` of a row's layer norm with gain `g` and offset `b` there. -/
def lnorm (y : Fin 1024 → EReal) (g b : EReal) (j : Fin 1024) : EReal :=
  (y j - mean y) * Ideal.rsqrt (mean (fun l => (y l - mean y) * (y l - mean y)) + Ideal.ofBits .f32 0x3727C5AC#32) * g + b

/-- Element `j` of a row entering the dense block's layer norm: the scaled row plus its feed-forward. -/
def resid (x : Fin 1024 → EReal) (gate up : Fin 2816 → Fin 1024 → EReal) (down : Fin 2816 → Fin 1024 → EReal) (j : Fin 1024) :
    EReal :=
  Ideal.ofBits .f32 0x3FB504F3#32 * x j + ∑ k, hid x (gate k) (up k) * down k j

/-- The expert of tile `i`, read off the table. -/
def pick (te : Fin 136 → BitVec 32) (i : Fin 136) : Fin 8 := ⟨(te i).toNat % 8, Nat.mod_lt _ (by decide)⟩

/-- A row's feed-forward with one expert's weights, at output column `j`. -/
def ffn (x : Fin 1024 → EReal) (gate up : Fin 1024 → Fin 3584 → EReal) (down : Fin 3584 → Fin 1024 → EReal) (j : Fin 1024) : EReal :=
  ∑ k, hid x (fun l => gate l k) (fun l => up l k) * down k j

/-- The routed feed-forward, element by element: a row of tile `i` takes the expert `i` is given, where `i` is one of the
    `n` used tiles, and is zero elsewhere. -/
def routed (x : Fin 69632 → Fin 1024 → EReal) (te : Fin 136 → BitVec 32) (n : BitVec 32)
    (gate up : Fin 8 → Fin 1024 → Fin 3584 → EReal) (down : Fin 8 → Fin 3584 → Fin 1024 → EReal) (r : Fin 69632) (j : Fin 1024) : EReal :=
  have i : Fin 136 := ⟨r.val / 512, by have := r.isLt; omega⟩
  if IntOp.cmpi .slt (BitVec.ofNat 32 i.val) n = 1#1 then ffn (x r) (gate (pick te i)) (up (pick te i)) (down (pick te i)) j else 0

end Cert.Swiglu

end
-- ==== Proof.DenseBlock.lean ====
module

public import proofs.«01_k».proof.Proof.Gen.DenseIdeal.Value
public import proofs.«01_k».proof.Proof.Swiglu
public import Idealize.ShloMosaic.Lib.Pipeline.ValueKit

@[expose] public section

noncomputable section

namespace Cert.DenseIdeal.Block

open Cert.DenseIdeal Cert.DenseIdeal.Gen Idealize.ShloMosaic Cert.Swiglu

/-- One chunk of the block's feed-forward as the kernel computes it from the rounded rows and the chunk's weights. -/
def part (x : FVec Ideal S512x1024 .bf16) (g u : FVec Ideal S1024x256 .bf16) (d : FVec Ideal S256x1024 .bf16) :
    FVec Ideal S512x1024 .f32 :=
  have a : FVec Ideal S512x256 .f32 := matmul dot_S512x1024_S1024x256_S512x256_1_0_0_1_n_n none x
    (shapeCast S1024x256 g shapeCasts_S1024x256_S1024x256) (constant S512x256 .f32 0x00000000#32)
  have s : FVec Ideal S512x256 .f32 := divf (broadcast S512x256 (Scalar.ofBits .f32 0x3F800000#32))
    (addf (broadcast S512x256 (Scalar.ofBits .f32 0x3F800000#32)) (exp (subf (broadcast S512x256 (Scalar.ofBits .f32 0x00000000#32)) a)))
  have b : FVec Ideal S512x256 .f32 := matmul dot_S512x1024_S1024x256_S512x256_1_0_0_1_n_n none x
    (shapeCast S1024x256 u shapeCasts_S1024x256_S1024x256) (constant S512x256 .f32 0x00000000#32)
  matmul dot_S512x256_S256x1024_S512x1024_1_0_0_1_n_n none (truncf .bf16 (mulf (mulf a s) b) bitsLt_bf16_f32)
    (shapeCast S256x1024 d shapeCasts_S256x1024_S256x1024) (constant S512x1024 .f32 0x00000000#32)

/-- A chunk's element is the sum over its hidden units. -/
theorem part_apply (x : FVec Ideal S512x1024 .bf16) (g u : FVec Ideal S1024x256 .bf16) (d : FVec Ideal S256x1024 .bf16)
    (p : Fin 512) (j : Fin 1024) :
    part x g u d (ix2 p j)
      = chunk (fun l => x (ix2 p l)) (fun k l => g (ix2 l k)) (fun k l => u (ix2 l k)) (fun k => d (ix2 k j)) := by
  pointwise [part, chunk, hid, act]
  simp only [zero_sub]

/-- The rows entering the layer norm, as the kernel computes them: the scaled block plus its eleven chunks added up in order. -/
def pre (x : FVec Ideal S512x1024 .f32) (g u : Fin 11 → FVec Ideal S1024x256 .bf16) (d : Fin 11 → FVec Ideal S256x1024 .bf16) :
    FVec Ideal S512x1024 .f32 :=
  have q : Fin 11 → FVec Ideal S512x1024 .f32 := fun c => part (truncf .bf16 x bitsLt_bf16_f32) (g c) (u c) (d c)
  addf (mulf (broadcast S512x1024 (Scalar.ofBits .f32 0x3FB504F3#32)) x)
    (addf (addf (addf (addf (addf (addf (addf (addf (addf (addf (q 0) (q 1)) (q 2)) (q 3)) (q 4)) (q 5)) (q 6)) (q 7)) (q 8)) (q 9)) (q 10))

/-- Chunk `c`'s columns of the gate or up matrix. -/
def cols (w : Vec Ideal S1024x2816 .bf16) : Fin 11 → Vec Ideal S1024x256 .bf16 :=
  ![View.ld w r0_1, View.ld w r0_3, View.ld w r0_5, View.ld w r0_7, View.ld w r0_9, View.ld w r0_11, View.ld w r0_13,
    View.ld w r0_15, View.ld w r0_17, View.ld w r0_19, View.ld w r0_21]

/-- Chunk `c`'s rows of the down matrix. -/
def rows (w : Vec Ideal S2816x1024 .bf16) : Fin 11 → Vec Ideal S256x1024 .bf16 :=
  ![View.ld w r0_2, View.ld w r0_4, View.ld w r0_6, View.ld w r0_8, View.ld w r0_10, View.ld w r0_12, View.ld w r0_14,
    View.ld w r0_16, View.ld w r0_18, View.ld w r0_20, View.ld w r0_22]

/-- The generated block is one whole store of the layer norm of `pre`. -/
theorem out_eq (x0 : Vec Ideal S512x1024 .f32) (x1 x2 : Vec Ideal S1024x2816 .bf16) (x3 : Vec Ideal S2816x1024 .bf16)
    (x4 x5 : Vec Ideal S1x1024 .f32) :
    out0_6 x0 x1 x2 x3 x4 x5
      = View.canon [⟨r0_0, k0_pay1 (pre (View.ld x0 r0_0) (cols x1) (cols x2) (rows x3)) (View.ld x4 r0_23) (View.ld x5 r0_23)⟩] :=
  rfl

/-- Element `(l, k)` of chunk `c`'s columns is the matrix's at hidden unit `unit c k`. -/
theorem cols_apply (w : Vec Ideal S1024x2816 .bf16) (c : Fin 11) (l : Fin 1024) (k : Fin 256) :
    cols w c (ix2 l k) = w (ix2 l (unit c k)) := by
  fin_cases c <;> pointwise [cols] <;> blk_ext [unit]

/-- Element `(k, j)` of chunk `c`'s rows is the matrix's at hidden unit `unit c k`. -/
theorem rows_apply (w : Vec Ideal S2816x1024 .bf16) (c : Fin 11) (k : Fin 256) (j : Fin 1024) :
    rows w c (ix2 k j) = w (ix2 (unit c k) j) := by
  fin_cases c <;> pointwise [rows] <;> blk_ext [unit]

/-- The stored payload is the layer norm of its first operand. -/
theorem pay_apply (y : FVec Ideal S512x1024 .f32) (g b : Vec Ideal S1x1024 .f32) (p : Fin 512) (j : Fin 1024) :
    k0_pay1 y g b (ix2 p j) = lnorm (fun l => y (ix2 p l)) (g (ix2 0 j)) (b (ix2 0 j)) j := by
  pointwise [k0_pay1, lnorm, mean]

/-- The eleven chunks together are the whole sum over the hidden units. -/
theorem pre_apply (x : FVec Ideal S512x1024 .f32) (w1 w3 : Vec Ideal S1024x2816 .bf16) (w2 : Vec Ideal S2816x1024 .bf16)
    (p : Fin 512) (j : Fin 1024) :
    pre x (cols w1) (cols w3) (rows w2) (ix2 p j)
      = resid (fun l => x (ix2 p l)) (fun k l => w1 (ix2 l k)) (fun k l => w3 (ix2 l k)) (fun k j => w2 (ix2 k j)) j := by
  pointwise [pre, resid]
  refine congrArg (Ideal.ofBits .f32 0x3FB504F3#32 * x (ix2 p j) + ·) ?_
  rw [sum_units 11 fun k : Fin (11 * 256) => hid (fun l => x (ix2 p l)) (fun l => w1 (ix2 l k)) (fun l => w3 (ix2 l k)) * w2 (ix2 k j)]
  rw [sum_eleven]
  simp only [part_apply, chunk, cols_apply, rows_apply]
  rfl

/-- One block of the output, element by element. -/
theorem out_apply (x0 : Vec Ideal S512x1024 .f32) (x1 x2 : Vec Ideal S1024x2816 .bf16) (x3 : Vec Ideal S2816x1024 .bf16)
    (x4 x5 : Vec Ideal S1x1024 .f32) (p : Fin 512) (j : Fin 1024) :
    out0_6 x0 x1 x2 x3 x4 x5 (ix2 p j)
      = lnorm (resid (fun l => x0 (ix2 p l)) (fun k l => x1 (ix2 l k)) (fun k l => x2 (ix2 l k)) (fun k j => x3 (ix2 k j)))
          (x4 (ix2 0 j)) (x5 (ix2 0 j)) j := by
  have h2 : (![0, 0] : Fin S512x1024.rank → ℕ) = fun _ => 0 := by decide
  have h1 : (![0, 0] : Fin S1x1024.rank → ℕ) = fun _ => 0 := by decide
  rw [out_eq, View.canon_unit_zero h2, View.ld_unit_zero h2, View.ld_unit_zero h1, View.ld_unit_zero h1, pay_apply]
  exact congrArg (fun y => lnorm y _ _ j) (funext fun l => pre_apply x0 x1 x2 x3 p l)

end Cert.DenseIdeal.Block
end
-- ==== Proof.DenseReference.lean ====
module

public import proofs.«01_k».proof.Proof.Gen.DenseReferenceIdeal.Run
public import proofs.«01_k».proof.Proof.Swiglu

@[expose] public section

noncomputable section

namespace Cert.DenseReferenceIdeal.Read

open Cert.DenseReferenceIdeal Cert.DenseReferenceIdeal.Gen Idealize.ShloMosaic Cert.Swiglu

variable (x : FVec Ideal S32768x1024 .f32) (w1 w3 : FVec Ideal S1024x2816 .f32) (w2 : FVec Ideal S2816x1024 .f32)
  (g b : FVec Ideal S1024 .f32)

/-- The rows entering the reference's layer norm. -/
def pre : FVec Ideal S32768x1024 .f32 :=
  addf (mulf (broadcastInDim S32768x1024 ![] bcast_S_S32768x1024 (constant S_ .f32 0x3FB504F3#32)) x)
    (Host.dotGeneral dot_S32768x2816_S2816x1024_S32768x1024_1_0_0_1_n_n none
      (mulf (mulf (Host.dotGeneral dot_S32768x1024_S1024x2816_S32768x2816_1_0_0_1_n_n none x w1)
        (Host.divf (broadcastInDim S32768x2816 ![] bcast_S_S32768x2816 (constant S_ .f32 0x3F800000#32))
          (addf (broadcastInDim S32768x2816 ![] bcast_S_S32768x2816 (constant S_ .f32 0x3F800000#32))
            (Host.exp (Host.negf (Host.dotGeneral dot_S32768x1024_S1024x2816_S32768x2816_1_0_0_1_n_n none x w1))))))
        (Host.dotGeneral dot_S32768x1024_S1024x2816_S32768x2816_1_0_0_1_n_n none x w3)) w2)

/-- A row's mean, as a column. -/
def mean (y : FVec Ideal S32768x1024 .f32) : FVec Ideal S32768x1 .f32 :=
  Host.divf (broadcastInDim S32768x1 ![0] bcast_S32768_S32768x1_0
      (Host.reduceAdd y (constant S_ .f32 0x00000000#32) reducesTo_S32768x1024_S32768_d1 h_S_))
    (broadcastInDim S32768x1 ![] bcast_S_S32768x1 (constant S_ .f32 0x44800000#32))

/-- The rows less their means. -/
def centred (y : FVec Ideal S32768x1024 .f32) : FVec Ideal S32768x1024 .f32 :=
  subf y (broadcastInDim S32768x1024 ![0, 1] bcast_S32768x1_S32768x1024_0_1 (mean y))

/-- The reference's layer norm. -/
def norm (y : FVec Ideal S32768x1024 .f32) : FVec Ideal S32768x1024 .f32 :=
  addf (mulf (mulf (centred y) (broadcastInDim S32768x1024 ![0, 1] bcast_S32768x1_S32768x1024_0_1
      (Host.rsqrt (addf (mean (mulf (centred y) (centred y)))
        (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- An element entering the layer norm is the scaled row's plus its feed-forward's. -/
theorem pre_apply (r : Fin 32768) (j : Fin 1024) : pre x w1 w3 w2 (ix2 r j)
    = resid (fun l => x (ix2 r l)) (fun k l => w1 (ix2 l k)) (fun k l => w3 (ix2 l k)) (fun k j => w2 (ix2 k j)) j := by
  pointwise [pre, resid, hid, act]

/-- An element of the layer norm. -/
theorem norm_apply (y : FVec Ideal S32768x1024 .f32) (r : Fin 32768) (j : Fin 1024) : norm g b y (ix2 r j)
    = lnorm (fun l => y (ix2 r l)) (g (ix1 j)) (b (ix1 j)) j := by
  pointwise [norm, centred, mean, lnorm, Swiglu.mean]

variable (m : (ℓ : Loc nD τ sig) → Buf (Elt Ideal) ℓ) (c : Dev nD)

/-- The reference's result, element by element. -/
theorem res_apply (r : Fin 32768) (j : Fin 1024) : norm g b (pre x w1 w3 w2) (ix2 r j)
    = lnorm (resid (fun l => x (ix2 r l)) (fun k l => w1 (ix2 l k)) (fun k l => w3 (ix2 l k)) (fun k j => w2 (ix2 k j)))
        (g (ix1 j)) (b (ix1 j)) j := by
  rw [norm_apply]
  exact congrArg (fun y => lnorm y _ _ j) (funext fun l => pre_apply x w1 w3 w2 r l)

/-- The reference's result is the layer norm of `pre`. -/
theorem res_eq : Value.res_out0 m c = norm (m ((c.tc : Thread nD τ).loc main_arg4)) (m ((c.tc : Thread nD τ).loc main_arg5))
    (pre (m ((c.tc : Thread nD τ).loc main_arg0)) (m ((c.tc : Thread nD τ).loc main_arg1)) (m ((c.tc : Thread nD τ).loc main_arg2))
      (m ((c.tc : Thread nD τ).loc main_arg3))) := rfl

end Cert.DenseReferenceIdeal.Read
end
-- ==== Proof.Dense.lean ====
module

public import proofs.«01_k».proof.Proof.DenseBlock
public import proofs.«01_k».proof.Proof.DenseReference
public import proofs.«01_k».proof.Defs

@[expose] public section

set_option maxRecDepth 16384

noncomputable section

namespace Cert.DenseIdeal.Result

open Cert.DenseIdeal Cert.DenseIdeal.Gen Idealize.ShloMosaic Idealize.ShloMosaic.TcCoe Idealize.SL.Sem Cert.Swiglu

variable (m : (ℓ : Loc nD τ sig) → Buf (Elt Ideal) ℓ) (ρ : Dev nD → PrngReg)

/-- Where each window's block sits: the row blocks move with the point, the weights and the two rows stay. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] := by
  decide +kernel

/-- The result array, element by element: the layer norm of the scaled row plus its feed-forward. -/
def out (c : Dev nD) : FVec Ideal S32768x1024 .f32 := fun i =>
  lnorm (resid (fun l => m ((c : Thread nD τ).loc main_arg0) (ix2 (i 0) l)) (fun k l => m ((c : Thread nD τ).loc main_arg1) (ix2 l k))
    (fun k l => m ((c : Thread nD τ).loc main_arg2) (ix2 l k)) (fun k j => m ((c : Thread nD τ).loc main_arg3) (ix2 k j)))
    (m ((c : Thread nD τ).loc main_arg4) (ix1 (i 1))) (m ((c : Thread nD τ).loc main_arg5) (ix1 (i 1))) (i 1)

theorem iblk0 (c : Dev nD) (t : Fin cfg0.N) (p : Fin 512) (l : Fin 1024) (r : Fin 32768) (hr : r.val = 512 * t.val + p.val) :
    iblk m c 0 t (ix2 p l) = m ((c : Thread nD τ).loc main_arg0) (ix2 r l) := by
  blk_ext [iblk, V, idx t]

theorem iblk1 (c : Dev nD) (t : Fin cfg0.N) (l : Fin 1024) (k : Fin 2816) :
    iblk m c 1 t (ix2 l k) = m ((c : Thread nD τ).loc main_arg1) (ix2 l k) := by
  blk_ext [iblk, V, idx t]

theorem iblk2 (c : Dev nD) (t : Fin cfg0.N) (l : Fin 1024) (k : Fin 2816) :
    iblk m c 2 t (ix2 l k) = m ((c : Thread nD τ).loc main_arg2) (ix2 l k) := by
  blk_ext [iblk, V, idx t]

/-- The down matrix is read whole at every point. -/
theorem iblk3 (c : Dev nD) (t : Fin cfg0.N) (k : Fin 2816) (j : Fin 1024) :
    iblk m c 3 t (ix2 k j) = m ((c : Thread nD τ).loc main_arg3) (ix2 k j) := by
  blk_ext [iblk, V, idx t]

/-- The gain enters as a one-row matrix. -/
theorem V4 (c : Dev nD) (k : Fin 1024) : V m c main_v3 (ix2 0 k) = m ((c : Thread nD τ).loc main_arg4) (ix1 k) := by
  entry_read
  pointwise

/-- The gain is read whole at every point. -/
theorem iblk4 (c : Dev nD) (t : Fin cfg0.N) (k : Fin 1024) :
    iblk m c 4 t (ix2 0 k) = m ((c : Thread nD τ).loc main_arg4) (ix1 k) := by
  rw [← V4 m]
  blk_ext [iblk, idx t]

/-- The offset enters as a one-row matrix. -/
theorem V5 (c : Dev nD) (k : Fin 1024) : V m c main_v4 (ix2 0 k) = m ((c : Thread nD τ).loc main_arg5) (ix1 k) := by
  entry_read
  pointwise

/-- The offset is read whole at every point. -/
theorem iblk5 (c : Dev nD) (t : Fin cfg0.N) (k : Fin 1024) :
    iblk m c 5 t (ix2 0 k) = m ((c : Thread nD τ).loc main_arg5) (ix1 k) := by
  rw [← V5 m]
  blk_ext [iblk, idx t]

/-- The output array after the run. -/
theorem final (c : Dev nD) : (dats m 0 c).arrAt 6 cfg0.N = out m c := by
  refine (dats m 0 c).arrAt_eq_of_covers 6 _ (by decide +kernel) fun t hf y => ?_
  blk_simp
  rw [after0_6]
  idx_vars y
  have hr : 512 * t.val + y0.val < 32768 := by have ht : t.val < 64 := lt_of_lt_of_eq t.isLt N_0; have := y0.isLt; omega
  have he : (win0_6.blk t).view.emb (ix2 y0 y1) = ix2 ⟨512 * t.val + y0.val, hr⟩ y1 := by
    blk_point [idx t]
  rw [Block.out_apply, he]
  simp only [iblk0 m c t y0 _ ⟨512 * t.val + y0.val, hr⟩ rfl, iblk1, iblk2, iblk3, iblk4, iblk5]
  rfl

/-- The dense block's kernel computes what its reference computes. -/
theorem algebraic : letI := Cert.DenseIdeal.Gen.facts; letI := Cert.DenseReferenceIdeal.Gen.facts;
    Cert.algebraic_DenseIdeal_DenseReferenceIdeal := by
  intro m g m' g' _ hm
  refine ⟨fun c => out m c, ?_, ?_⟩
  · exact (θ_run defs _ _).mono (fun r h c => ⟨(h c).1.trans (final m c), (h c).2⟩) (Cert.DenseIdeal.Value.run_blocks m g)
  · refine (θ_run Cert.DenseReferenceIdeal.defs _ _).mono (fun r h c => ⟨(h c).1.trans ?_, (h c).2⟩)
      (Cert.DenseReferenceIdeal.Value.run m' g')
    obtain ⟨h0, h1, h2, h3, h4, h5⟩ := hm c
    refine (Cert.DenseReferenceIdeal.Read.res_eq m' c).trans (funext fun i => ?_)
    rw [h0, h1, h2, h3, h4, h5, eq_ix2 i]
    exact Cert.DenseReferenceIdeal.Read.res_apply _ _ _ _ _ _ (i 0) (i 1)

end Cert.DenseIdeal.Result
end
-- ==== Proof.ExpertsTile.lean ====
/-
  One tile of the expert feed-forward as the kernel computes it, at any float instance: a chunk of 256 hidden units `part`,
  the seven chunks of one half of the hidden units `half`, what the first point of a tile stores (`first`, and `keep` for
  the rounded rows it leaves in the scratch) and what the second stores over it (`later`).
-/
module

public import proofs.«01_k».proof.Proof.Gen.ExpertsIdeal.Skeleton
public import Idealize.ShloMosaic.Lib.Pipeline.FrameBody

@[expose] public section

noncomputable section

namespace Cert.ExpertsIdeal.Tile

open Cert.ExpertsIdeal Cert.ExpertsIdeal.Gen Idealize.ShloMosaic

variable {F : FTy → Type} [FloatOps F]

/-- The whole block of rows. -/
abbrev whole : Rect S512x1024 := Rect.unit (s := S512x1024) ![0, 0] S512x1024.size inb_S512x1024_S512x1024_0_0

/-- Chunk `c`'s columns of half an expert's gate or up matrix. -/
def cols (w : Vec F S1x1024x1792 .bf16) : Fin 7 → Vec F S1x1024x256 .bf16 :=
  ![View.ld w (Rect.unit (s := S1x1024x1792) ![0, 0, 0] S1x1024x256.size inb_S1x1024x1792_S1x1024x256_0_0_0),
    View.ld w (Rect.unit (s := S1x1024x1792) ![0, 0, 256] S1x1024x256.size inb_S1x1024x1792_S1x1024x256_0_0_256),
    View.ld w (Rect.unit (s := S1x1024x1792) ![0, 0, 512] S1x1024x256.size inb_S1x1024x1792_S1x1024x256_0_0_512),
    View.ld w (Rect.unit (s := S1x1024x1792) ![0, 0, 768] S1x1024x256.size inb_S1x1024x1792_S1x1024x256_0_0_768),
    View.ld w (Rect.unit (s := S1x1024x1792) ![0, 0, 1024] S1x1024x256.size inb_S1x1024x1792_S1x1024x256_0_0_1024),
    View.ld w (Rect.unit (s := S1x1024x1792) ![0, 0, 1280] S1x1024x256.size inb_S1x1024x1792_S1x1024x256_0_0_1280),
    View.ld w (Rect.unit (s := S1x1024x1792) ![0, 0, 1536] S1x1024x256.size inb_S1x1024x1792_S1x1024x256_0_0_1536)]

/-- Chunk `c`'s rows of half an expert's down matrix. -/
def rows (w : Vec F S1x1792x1024 .bf16) : Fin 7 → Vec F S1x256x1024 .bf16 :=
  ![View.ld w (Rect.unit (s := S1x1792x1024) ![0, 0, 0] S1x256x1024.size inb_S1x1792x1024_S1x256x1024_0_0_0),
    View.ld w (Rect.unit (s := S1x1792x1024) ![0, 256, 0] S1x256x1024.size inb_S1x1792x1024_S1x256x1024_0_256_0),
    View.ld w (Rect.unit (s := S1x1792x1024) ![0, 512, 0] S1x256x1024.size inb_S1x1792x1024_S1x256x1024_0_512_0),
    View.ld w (Rect.unit (s := S1x1792x1024) ![0, 768, 0] S1x256x1024.size inb_S1x1792x1024_S1x256x1024_0_768_0),
    View.ld w (Rect.unit (s := S1x1792x1024) ![0, 1024, 0] S1x256x1024.size inb_S1x1792x1024_S1x256x1024_0_1024_0),
    View.ld w (Rect.unit (s := S1x1792x1024) ![0, 1280, 0] S1x256x1024.size inb_S1x1792x1024_S1x256x1024_0_1280_0),
    View.ld w (Rect.unit (s := S1x1792x1024) ![0, 1536, 0] S1x256x1024.size inb_S1x1792x1024_S1x256x1024_0_1536_0)]

/-- One chunk of 256 hidden units: the rows against the chunk's gate and up columns, the activated product against its down rows. -/
def part (x : FVec F S512x1024 .bf16) (g u : FVec F S1x1024x256 .bf16) (d : FVec F S1x256x1024 .bf16) : FVec F S512x1024 .f32 :=
  have a : FVec F S512x256 .f32 := matmul dot_S512x1024_S1024x256_S512x256_1_0_0_1_n_n none x
    (shapeCast S1024x256 g shapeCasts_S1x1024x256_S1024x256) (constant S512x256 .f32 0x00000000#32)
  have s : FVec F S512x256 .f32 := divf (broadcast S512x256 (Scalar.ofBits .f32 0x3F800000#32))
    (addf (broadcast S512x256 (Scalar.ofBits .f32 0x3F800000#32)) (exp (subf (broadcast S512x256 (Scalar.ofBits .f32 0x00000000#32)) a)))
  have b : FVec F S512x256 .f32 := matmul dot_S512x1024_S1024x256_S512x256_1_0_0_1_n_n none x
    (shapeCast S1024x256 u shapeCasts_S1x1024x256_S1024x256) (constant S512x256 .f32 0x00000000#32)
  matmul dot_S512x256_S256x1024_S512x1024_1_0_0_1_n_n none (truncf .bf16 (mulf (mulf a s) b) bitsLt_bf16_f32)
    (shapeCast S256x1024 d shapeCasts_S1x256x1024_S256x1024) (constant S512x1024 .f32 0x00000000#32)

/-- The seven chunks of half the hidden units, added up in order. -/
def half (x : FVec F S512x1024 .bf16) (w1 w3 : Vec F S1x1024x1792 .bf16) (w2 : Vec F S1x1792x1024 .bf16) : FVec F S512x1024 .f32 :=
  have q : Fin 7 → FVec F S512x1024 .f32 := fun c => part x (cols w1 c) (cols w3 c) (rows w2 c)
  addf (addf (addf (addf (addf (addf (q 0) (q 1)) (q 2)) (q 3)) (q 4)) (q 5)) (q 6)

/-- The rounded rows a tile's first point leaves in the scratch. -/
def keep (x : Vec F S512x1024 .f32) : Vec F S512x1024 .bf16 := k0_pay5 (View.ld x whole)

/-- What a tile's first point leaves in the output block. -/
def first (x : Vec F S512x1024 .f32) (w1 w3 : Vec F S1x1024x1792 .bf16) (w2 : Vec F S1x1792x1024 .bf16) : Vec F S512x1024 .f32 :=
  half (k0_pay4 (View.ld x whole)) w1 w3 w2

/-- What a tile's second point leaves there, from the block `y` and the scratch `x` the first left. -/
def later (y : Vec F S512x1024 .f32) (x : Vec F S512x1024 .bf16) (w1 w3 : Vec F S1x1024x1792 .bf16) (w2 : Vec F S1x1792x1024 .bf16) :
    Vec F S512x1024 .f32 :=
  addf (k0_pay16 (View.ld y whole)) (half (View.ld x whole) w1 w3 w2)

end Cert.ExpertsIdeal.Tile

end
-- ==== Proof.ExpertsRun.lean ====
/-
  The body of the expert kernel run in each of its four cases: a used tile's first point, its second point, an unused
  tile's first point, and its second point, at which nothing is stored.
-/
module

public import proofs.«01_k».proof.Proof.Gen.ExpertsIdeal.Launch
public import proofs.«01_k».proof.Proof.ExpertsTile
public import Idealize.ShloMosaic.Lib.Ring
public import Idealize.ShloMosaic.Lib.Pipeline.ValueKit
public import Idealize.ShloMosaic.Lib.Tactic

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, one a tile, as the body is handed it. -/
abbrev tabE : Memref sig .tc .smem S136 .i32 := Memref.whole main_arg1
/-- The number of used tiles, as the body is handed it. -/
abbrev tabN : Memref sig .tc .smem S1 .i32 := Memref.whole main_arg2

/-- A table's contents on core `c`. -/
abbrev Held (c : Dev nD) {S : Shape} {e : EltTy} (M : Memref sig .tc .smem S e) : Type := Buf (Elt F) (M.view.loc (c : Thread nD τ))
/-- The half of a table the body holds. -/
abbrev held (c : Dev nD) {S : Shape} {e : EltTy} (M : Memref sig .tc .smem S e) (f : Held (F := F) c M) : sProp 𝕄 :=
  M.view.loc (c : Thread nD τ) ↦{fullShare.right} f

/-- The number of used tiles, read off its table. -/
abbrev word (c : Dev nD) (n : Held (F := F) c tabN) : BitVec 32 :=
  tabN.view.readAt (Elt F) (Rect.unit (s := S1) ![0] S1.size inb_S1_S1_0).toLoadRect n (Shape.Idx.first (numel1_S1.symm ▸ Nat.one_pos))

/-- One whole store covers the block. -/
theorem covers {e : EltTy} (p : S512x1024.Idx → Elt F e) (y : S512x1024.Idx) :
    ∃ pc ∈ ([⟨whole, p⟩] : List (View.Piece (Elt F) S512x1024 e)), y ∈ pc.1.set :=
  View.cover_of_tiled [⟨whole, p⟩] S512x1024.size (by rfl) y

theorem origin : (![0, 0] : Fin S512x1024.rank → ℕ) = fun _ => 0 := by decide

section
variable (c : Dev nD) (E : Set ℕ) (i : grid0.Coords)
  (arg4 : Memref sig .tc .vmem S512x1024 .f32) (harg4 : arg4.IsWhole) (arg5 : Memref sig .tc .vmem S1x1024x1792 .bf16) (harg5 : arg5.IsWhole)
  (arg6 : Memref sig .tc .vmem S1x1024x1792 .bf16) (harg6 : arg6.IsWhole) (arg7 : Memref sig .tc .vmem S1x1792x1024 .bf16) (harg7 : arg7.IsWhole)
  (arg8 : Memref sig .tc .vmem S512x1024 .f32) (harg8 : arg8.IsWhole) (arg9 : Memref sig .tc .vmem S512x1024 .bf16) (harg9 : arg9.IsWhole)
  (x0 : Vec F S512x1024 .f32) (x1 x2 : Vec F S1x1024x1792 .bf16) (x3 : Vec F S1x1792x1024 .bf16)
  (te : Held (F := F) c tabE) (n : Held (F := F) c tabN)

set_option maxHeartbeats 1000000 in
/-- A used tile's first point: the scratch is left at the rounded rows and the output block at the first half's sum. -/
theorem run_first (K : PUnit → sProp 𝕄) (h1 : k0_cond1 i (word c n) = 1#1) (h2 : ¬k0_cond2 i (word c n) = 1#1) (h3 : ¬k0_cond3 i (word c n) = 1#1) :
    iprop(owns (c : Thread nD τ) arg4 fullShare x0 ∗ owns (c : Thread nD τ) arg5 fullShare x1 ∗ owns (c : Thread nD τ) arg6 fullShare x2
        ∗ owns (c : Thread nD τ) arg7 fullShare x3 ∗ (∃ d, owns (c : Thread nD τ) arg8 fullShare d) ∗ (∃ d, owns (c : Thread nD τ) arg9 fullShare d)
        ∗ held c tabE te ∗ held c tabN n
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare (first x0 x1 x2 x3)
            ∗ owns (c : Thread nD τ) arg9 fullShare (keep x0) ∗ held c tabE te ∗ held c tabN n) -∗ K ⟨⟩))
      ⊢ wp frame (wpE (defs₀ (F := F)) Variants.none c none) E
          (cc0_moe_experts i tabE (Memref.isWhole_whole _) tabN (Memref.isWhole_whole _) arg4 harg4 arg5 harg5 arg6 harg6 arg7 harg7 arg8 harg8 arg9 harg9) K := by
  simp only [cc0_moe_experts_eq_skeleton]; unfold cc0_moe_experts_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, HE, HN, Hk⟩
  subst hf0 hf1 hf2 hf3
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine ((View.read_writes_eq_canon _ _ _ (covers _)).trans (View.canon_unit_zero origin _ _)).trans ?_
    rfl
  isplitl [HS]
  · iexists _; isplitr
    swap; · iexact HS
    ipureintro
    refine ((View.read_writes_eq_canon _ _ _ (covers _)).trans (View.canon_unit_zero origin _ _)).trans ?_
    rfl
  isplitl [HE]; · iexact HE
  iexact HN

set_option maxHeartbeats 1000000 in
/-- A used tile's second point: the output block is left at what it held plus the second half's sum, on the rows in the scratch. -/
theorem run_later (K : PUnit → sProp 𝕄) (y : Vec F S512x1024 .f32) (xs : Vec F S512x1024 .bf16)
    (h1 : ¬k0_cond1 i (word c n) = 1#1) (h2 : k0_cond2 i (word c n) = 1#1) (h3 : ¬k0_cond3 i (word c n) = 1#1) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare y ∗ owns (c : Thread nD τ) arg9 fullShare xs
        ∗ held c tabE te ∗ held c tabN n
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare (later y xs x1 x2 x3)
            ∗ owns (c : Thread nD τ) arg9 fullShare xs ∗ held c tabE te ∗ held c tabN n) -∗ K ⟨⟩))
      ⊢ wp frame (wpE (defs₀ (F := F)) Variants.none c none) E
          (cc0_moe_experts i tabE (Memref.isWhole_whole _) tabN (Memref.isWhole_whole _) arg4 harg4 arg5 harg5 arg6 harg6 arg7 harg7 arg8 harg8 arg9 harg9) K := by
  simp only [cc0_moe_experts_eq_skeleton]; unfold cc0_moe_experts_skel
  simp only [k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, HE, HN, Hk⟩
  subst hf0 hf1 hf2 hf3 hf4 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine ((View.read_writes_eq_canon _ _ _ (covers _)).trans (View.canon_unit_zero origin _ _)).trans ?_
    rfl
  isplitl [HS]
  · iexists fs; isplitr; · ipureintro; rfl
    iexact HS
  isplitl [HE]; · iexact HE
  iexact HN

/-- An unused tile's first point: the output block is left at zeros, the scratch as it was. -/
theorem run_zero (K : PUnit → sProp 𝕄) (h1 : ¬k0_cond1 i (word c n) = 1#1) (h2 : ¬k0_cond2 i (word c n) = 1#1) (h3 : k0_cond3 i (word c n) = 1#1) :
    iprop((∃ d, owns (c : Thread nD τ) arg8 fullShare d) ∗ held c tabN n
        ∗ (iprop(owns (c : Thread nD τ) arg8 fullShare (k0_pay3 (F := F)) ∗ held c tabN n) -∗ K ⟨⟩))
      ⊢ wp frame (wpE (defs₀ (F := F)) Variants.none c none) E
          (cc0_moe_experts i tabE (Memref.isWhole_whole _) tabN (Memref.isWhole_whole _) arg4 harg4 arg5 harg5 arg6 harg6 arg7 harg7 arg8 harg8 arg9 harg9) K := by
  simp only [cc0_moe_experts_eq_skeleton]; unfold cc0_moe_experts_skel
  unfold owns
  iintro ⟨⟨%d4, %f4, -, H4⟩, HN, Hk⟩
  sl_exec (disch := first | sl_exact h1 | sl_exact h2 | sl_exact h3)
  sl_step
  iapply Hk
  isplitl [H4]
  · iexists _; isplitr
    swap; · iexact H4
    ipureintro
    exact (View.read_writes_eq_canon _ _ _ (covers _)).trans (View.canon_unit_zero origin _ _)
  iexact HN

/-- An unused tile's second point stores nothing. -/
theorem run_idle (K : PUnit → sProp 𝕄) (h1 : ¬k0_cond1 i (word c n) = 1#1) (h2 : ¬k0_cond2 i (word c n) = 1#1) (h3 : ¬k0_cond3 i (word c n) = 1#1) :
    iprop(held c tabN n ∗ (held c tabN n -∗ K ⟨⟩))
      ⊢ wp frame (wpE (defs₀ (F := F)) Variants.none c none) E
          (cc0_moe_experts i tabE (Memref.isWhole_whole _) tabN (Memref.isWhole_whole _) arg4 harg4 arg5 harg5 arg6 harg6 arg7 harg7 arg8 harg8 arg9 harg9) K := by
  simp only [cc0_moe_experts_eq_skeleton]; unfold cc0_moe_experts_skel
  iintro ⟨HN, Hk⟩
  sl_exec (disch := first | sl_exact h1 | sl_exact h2 | sl_exact h3)
  sl_step
  iapply Hk
  iexact HN

end

end Cert.ExpertsIdeal.Tile

end
-- ==== Proof.ExpertsKit.lean ====
/-
  What the run of the expert kernel stands on: the buffers as the pipeline finds them, the two tables, the windows' blocks,
  which of the body's four cases a grid point is in, and what each point leaves in the output block.
-/
module

public import proofs.«01_k».proof.Proof.ExpertsRun
public import Idealize.ShloMosaic.Lib.Pipeline.FrameBody
public import Idealize.ShloMosaic.Lib.WordCmp

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers as the pipeline finds them -/

/-- Core `c`'s buffers after the three host operations that round the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the three host operations, then the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the three host operations writes is found as launched. -/
theorem V_of_ne (c : Dev nD) {b : Ref sig .tc} (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-! ## The tables -/

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The words of the tables place every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of used tiles. -/
def nu : BitVec 32 := word 0 (tbl m 1)

/-- It is the word the body reads. -/
theorem word_eq (c : Dev nD) : word c (tbl m 1) = nu m := by
  obtain rfl : c = 0 := Subsingleton.elim _ _; rfl

/-- The halves of the tables the body is handed, one by one. -/
theorem tables_eq (c : Dev nD) : (Pipeline.ΦT pre0 (tbl m) c : sProp 𝕄) = iprop(held c tabE (tbl m 0) ∗ held c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The four cases -/

/-- Tile `i 0` is one of the used ones. -/
def Used (i : grid0.Coords) (v : BitVec 32) : Prop := Scalar.cmpi .slt (BitVec.ofNat 32 (i 0).val) v = 1#1

instance (i : grid0.Coords) (v : BitVec 32) : Decidable (Used i v) := by unfold Used; infer_instance

theorem step_cases (i : grid0.Coords) : (i 1).val = 0 ∨ (i 1).val = 1 := by
  have h : (i 1).val < 2 := (i 1).isLt
  omega

/-- A bit is 0 or 1. -/
theorem bit_cases (b : BitVec 1) : b = 0#1 ∨ b = 1#1 := by revert b; decide

/-- The first branch is taken at a used tile's first point, -/
theorem cond1_iff (i : grid0.Coords) (v : BitVec 32) : k0_cond1 i v = 1#1 ↔ Used i v ∧ (i 1).val = 0 := by
  unfold k0_cond1 Used
  dsimp only
  generalize Scalar.cmpi .slt (BitVec.ofNat 32 (i 0).val) v = b
  rcases step_cases i with h | h <;> rw [h] <;> rcases bit_cases b with rfl | rfl <;> decide

/-- the second at its second point, -/
theorem cond2_iff (i : grid0.Coords) (v : BitVec 32) : k0_cond2 i v = 1#1 ↔ Used i v ∧ (i 1).val = 1 := by
  unfold k0_cond2 Used
  dsimp only
  generalize Scalar.cmpi .slt (BitVec.ofNat 32 (i 0).val) v = b
  rcases step_cases i with h | h <;> rw [h] <;> rcases bit_cases b with rfl | rfl <;> decide

/-- and the third at an unused tile's first point. -/
theorem cond3_iff (i : grid0.Coords) (v : BitVec 32) : k0_cond3 i v = 1#1 ↔ ¬Used i v ∧ (i 1).val = 0 := by
  unfold k0_cond3 Used
  dsimp only
  generalize Scalar.cmpi .slt (BitVec.ofNat 32 (i 0).val) v = b
  rcases step_cases i with h | h <;> rw [h] <;> rcases bit_cases b with rfl | rfl <;> decide

/-- A point's tile. -/
theorem tile_val (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega

/-- A point's place within its tile. -/
theorem step_val (t : Fin grid0.N) : (grid0.coords t 1).val = t.val % 2 := by
  have e1 : (grid0.coords t 1).val = t.val / 1 % 2 := Pipeline.Grid.coords_val t 1 (by decide) rfl
  omega

/-- The point before `t`. -/
abbrev prev {N : ℕ} (t : Fin N) : Fin N := ⟨t.val - 1, Nat.lt_of_le_of_lt (Nat.sub_le _ _) t.isLt⟩

/-- A tile's two points are used or not together. -/
theorem used_prev (t : Fin grid0.N) (ht : t.val % 2 = 1) (v : BitVec 32) : Used (grid0.coords (prev t)) v ↔ Used (grid0.coords t) v := by
  unfold Used
  rw [tile_val, tile_val, show (prev t).val / 2 = t.val / 2 from by simp only; omega]

/-! ## The blocks, and what each point leaves -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the first point of a tile leaves in the output block. -/
def firstAt (hO : Ok m) (c : Dev nD) (t : Fin (cfgM m hO).N) : Vec F S512x1024 .f32 :=
  first (iblk m hO c 0 t) (iblk m hO c 1 t) (iblk m hO c 2 t) (iblk m hO c 3 t)

/-- What point `t` leaves in the output block: at a used tile the first point the sum over the first half, the second
    that plus the sum over the other half; at an unused tile zeros. -/
def outAt (hO : Ok m) (c : Dev nD) (t : Fin (cfgM m hO).N) : Vec F S512x1024 .f32 :=
  if Used (grid0.coords t) (nu m) then
    if t.val % 2 = 0 then firstAt m hO c t
    else later (firstAt m hO c (prev t)) (keep (iblk m hO c 0 (prev t))) (iblk m hO c 1 t) (iblk m hO c 2 t) (iblk m hO c 3 t)
  else k0_pay3

/-- The scratch, as the body is handed it. -/
abbrev scr : Memref sig .tc .vmem S512x1024 .bf16 := Memref.whole cc0_scratch0

/-- What is known of the scratch after `n` points: between a used tile's points it holds the tile's rounded rows. -/
def Scr (hO : Ok m) (c : Dev nD) (n : ℕ) (h : n ≤ (cfgM m hO).N) : sProp 𝕄 :=
  if hp : n % 2 = 1 then
    if Used (grid0.coords ⟨n - 1, by have : (cfgM m hO).N = grid0.N := rfl; omega⟩) (nu m) then
      owns (c : Thread nD τ) scr fullShare (keep (iblk m hO c 0 ⟨n - 1, by omega⟩))
    else iprop(∃ d, owns (c : Thread nD τ) scr fullShare d)
  else iprop(∃ d, owns (c : Thread nD τ) scr fullShare d)

/-- In any case it is held at some contents. -/
theorem Scr_any (hO : Ok m) (c : Dev nD) (n : ℕ) (h : n ≤ (cfgM m hO).N) :
    Scr m hO c n h ⊢ iprop(∃ d, owns (c : Thread nD τ) scr fullShare d) := by
  unfold Scr
  split
  · split
    · iintro H; iexists _; iexact H
    · exact .rfl
  · exact .rfl

/-- The kernel's own buffers at anything: the scratch, and the generator's register. -/
theorem scoped_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

end Cert.ExpertsIdeal.Tile

end
-- ==== Proof.ExpertsFrame.lean ====
/-
  The run of the expert kernel: the body at every grid point takes the blocks and the scratch from one point to the next,
  so the launch ends with the output array at `outAt`'s blocks, every argument as it was and every semaphore at zero.
-/
module

public import proofs.«01_k».proof.Proof.ExpertsKit

@[expose] public section

set_option maxRecDepth 16384

noncomputable section

namespace Cert.ExpertsIdeal.Tile

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-- What holds after `n` points: the scratch as `Scr` says, the generator's register and the halves of the tables. -/
def Inv (c : Dev nD) (n : ℕ) (h : n ≤ (cfgM m hO).N) : sProp 𝕄 :=
  iprop((Scr m hO c n h ∗ (∃ r, prngReg c r)) ∗ Pipeline.ΦT pre0 (tbl m) c)

/-- The pipeline's data: the arrays as found, each input's buffer left at its block, the output's at `outAt`. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Inv m hO c t.val (Nat.le_of_lt_succ t.isLt)
  q _ := fullShare
  owed _ := 0

theorem A_eq (c : Dev nD) (w : Fin (cfgM m hO).W) : (dats m hO 0 c).A w = V m c (Pipeline.arrRef spec0 w) := by
  dsimp only [dats]

theorem Inv_castSucc (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_out (c : Dev nD) (t : Fin (cfgM m hO).N) : (dats m hO 0 c).after 4 t = outAt m hO c t := by dsimp only [dats]; rfl

/-- Before the body, each input's buffer holds its block. -/
theorem before0 (c : Dev nD) (t : Fin (cfgM m hO).N) (d) : (dats m hO 0 c).before 0 t d = iblk m hO c 0 t :=
  ((dats m hO 0 c).before_in_eq_fetched 0 rfl (fun _ => rfl) (fun _ _ _ => rfl) (fun _ => rfl) t d).trans rfl
theorem before1 (c : Dev nD) (t : Fin (cfgM m hO).N) (d) : (dats m hO 0 c).before 1 t d = iblk m hO c 1 t :=
  ((dats m hO 0 c).before_in_eq_fetched 1 rfl (fun _ => rfl) (fun _ _ _ => rfl) (fun _ => rfl) t d).trans rfl
theorem before2 (c : Dev nD) (t : Fin (cfgM m hO).N) (d) : (dats m hO 0 c).before 2 t d = iblk m hO c 2 t :=
  ((dats m hO 0 c).before_in_eq_fetched 2 rfl (fun _ => rfl) (fun _ _ _ => rfl) (fun _ => rfl) t d).trans rfl
theorem before3 (c : Dev nD) (t : Fin (cfgM m hO).N) (d) : (dats m hO 0 c).before 3 t d = iblk m hO c 3 t :=
  ((dats m hO 0 c).before_in_eq_fetched 3 rfl (fun _ => rfl) (fun _ _ _ => rfl) (fun _ => rfl) t d).trans rfl

/-- The output's block is written back at each tile's second point. -/
theorem flush_out (t : Fin (cfgM m hO).N) : ((cfgM m hO).win 4).flush t = true ↔ t.val % 2 = 1 :=
  (fun t => Pipeline.Window.flushOf_reads cc0_transform_4 reads0_4 hreads0_4 0 (by decide) (by decide)
    (Pipeline.Window.sep_of_coord cc0_transform_4 0 0 (fun _ => rfl) (by decide)) (P := 2) (m := 1) (by decide) rfl t :
    ∀ t : Fin grid0.N, Pipeline.Window.flushOf grid0 true cc0_transform_4 t = true ↔ t.val % 2 = 1) t

/-- The body stores into the output's block at each tile's first point. -/
theorem live_out (t : Fin (cfgM m hO).N) (ht : t.val % 2 = 0) : (cfgM m hO).idle 4 (grid0.coords t) = false := by
  have h : ∀ v, (!(k0_cond1 (grid0.coords t) v == 1#1) && !(k0_cond2 (grid0.coords t) v == 1#1) && !(k0_cond3 (grid0.coords t) v == 1#1)) = false := by
    intro v
    have hs : (grid0.coords t 1).val = 0 := (step_val t).trans ht
    by_cases hu : Used (grid0.coords t) v
    · rw [(cond1_iff _ _).mpr ⟨hu, hs⟩]; rfl
    · rw [(cond3_iff _ _).mpr ⟨hu, hs⟩]; simp
  exact h _

/-- At a tile's second point the output's buffer holds what the first left. -/
theorem before_out (c : Dev nD) (t : Fin (cfgM m hO).N) (ht : t.val % 2 = 1) (d) : (dats m hO 0 c).before 4 t d = outAt m hO c (prev t) := by
  rw [(dats m hO 0 c).before_of_pos 4 t (by omega) (((cfgM m hO).win 4).fetch_out rfl t) d,
    if_neg (fun h => by have := (flush_out m hO _).mp h; simp only at this; omega)]
  unfold Dat.left
  rw [live_out m hO (prev t) (by simp only; omega)]
  show (dats m hO 0 c).kept 4 (prev t) d = _
  rfl

/-- The four inputs' buffers are left as found, -/
theorem leaves_in (c : Dev nD) (t : Fin (cfgM m hO).N) :
    (dats m hO 0 c).leavesExact 0 t = owns (c : Thread nD τ) (spec0_0.stage ((cfgM m hO).slots t 0)) fullShare (iblk m hO c 0 t)
    ∧ (dats m hO 0 c).leavesExact 1 t = owns (c : Thread nD τ) (spec0_1.stage ((cfgM m hO).slots t 1)) fullShare (iblk m hO c 1 t)
    ∧ (dats m hO 0 c).leavesExact 2 t = owns (c : Thread nD τ) (spec0_2.stage ((cfgM m hO).slots t 2)) fullShare (iblk m hO c 2 t)
    ∧ (dats m hO 0 c).leavesExact 3 t = owns (c : Thread nD τ) (spec0_3.stage ((cfgM m hO).slots t 3)) fullShare (iblk m hO c 3 t) :=
  ⟨rfl, rfl, rfl, rfl⟩

/-- and the output's at `outAt`, stored there or found there. -/
theorem leaves_out (c : Dev nD) (t : Fin (cfgM m hO).N) :
    (dats m hO 0 c).leavesExact 4 t = owns (c : Thread nD τ) (spec0_4.stage ((cfgM m hO).slots t 4)) fullShare (outAt m hO c t) := by
  rw [← after_out]
  unfold Dat.leavesExact
  rcases Nat.mod_two_eq_zero_or_one t.val with ht | ht
  · rw [live_out m hO t ht]; rfl
  · rw [(flush_out m hO t).mpr ht]
    cases (cfgM m hO).idle 4 ((cfgM m hO).grid.coords t) <;> rfl

/-- The body as the pipeline calls it at point `t`. -/
abbrev bodyAt (t : Fin (cfgM m hO).N) : Prog (TpuEff nD τ sig (Elt F) Λ₀ .tc) PUnit :=
  cc0_moe_experts (grid0.coords t) tabE (Memref.isWhole_whole _) tabN (Memref.isWhole_whole _)
    (spec0_0.stage ((cfgM m hO).slots t 0)) (hstage0_0 (((cfgM m hO).slots t 0).cast nbuf0_0))
    (spec0_1.stage ((cfgM m hO).slots t 1)) (hstage0_1 (((cfgM m hO).slots t 1).cast nbuf0_1))
    (spec0_2.stage ((cfgM m hO).slots t 2)) (hstage0_2 (((cfgM m hO).slots t 2).cast nbuf0_2))
    (spec0_3.stage ((cfgM m hO).slots t 3)) (hstage0_3 (((cfgM m hO).slots t 3).cast nbuf0_3))
    (spec0_4.stage ((cfgM m hO).slots t 4)) (hstage0_4 (((cfgM m hO).slots t 4).cast nbuf0_4)) scr (Memref.isWhole_whole _)

/-- What the body is called with at point `t`, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d)))

/-- and what it returns. -/
def bodyPost (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t
    ∗ (dats m hO 0 c).leavesExact 4 t)

/-- After a used tile's first point the scratch holds the rounded rows. -/
theorem Scr_first (c : Dev nD) (t : Fin (cfgM m hO).N) (ht : t.val % 2 = 0) (hu : Used (grid0.coords t) (nu m)) :
    Scr m hO c (t.val + 1) t.isLt = owns (c : Thread nD τ) scr fullShare (keep (iblk m hO c 0 t)) := by
  unfold Scr
  rw [dif_pos (show (t.val + 1) % 2 = 1 by omega)]
  exact if_pos hu

/-- Before its second point it still does. -/
theorem Scr_later (c : Dev nD) (t : Fin (cfgM m hO).N) (ht : t.val % 2 = 1) (hu : Used (grid0.coords t) (nu m)) :
    Scr m hO c t.val (Nat.le_of_lt t.isLt) = owns (c : Thread nD τ) scr fullShare (keep (iblk m hO c 0 (prev t))) := by
  unfold Scr
  rw [dif_pos ht]
  exact if_pos ((used_prev t ht _).mpr hu)

/-- After any other point nothing is claimed of it. -/
theorem Scr_other (c : Dev nD) (t : Fin (cfgM m hO).N) (h : t.val % 2 = 1 ∨ ¬Used (grid0.coords t) (nu m)) :
    Scr m hO c (t.val + 1) t.isLt = iprop(∃ d, owns (c : Thread nD τ) scr fullShare d) := by
  unfold Scr
  split
  · next hp =>
    rcases h with h | h
    · omega
    · exact if_neg h
  · rfl

set_option maxHeartbeats 6400000 in
/-- The body at any point. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).owesAt () t.succ = (dats m hO 0 c).owesAt () t.castSucc from rfl,
    (leaves_in m hO c t).1, (leaves_in m hO c t).2.1, (leaves_in m hO c t).2.2.1, (leaves_in m hO c t).2.2.2, leaves_out, Inv_castSucc,
    show (dats m hO 0 c).Φ t.succ = Inv m hO c (t.val + 1) t.isLt from rfl]
  unfold Inv
  rw [tables_eq]
  have hw : word c (tbl m 1) = nu m := word_eq m c
  have hs := step_val t
  by_cases hu : Used (grid0.coords t) (nu m)
  · rcases Nat.mod_two_eq_zero_or_one t.val with ht | ht
    · rw [Scr_first m hO c t ht hu, show outAt m hO c t = first (iblk m hO c 0 t) (iblk m hO c 1 t) (iblk m hO c 2 t) (iblk m hO c 3 t) from
        (if_pos hu).trans (if_pos ht)]
      iintro ⟨⟨⟨HS, Hg⟩, ⟨HE, HN⟩⟩, Ho, ⟨%d0, H0⟩, ⟨%d1, H1⟩, ⟨%d2, H2⟩, ⟨%d3, H3⟩, ⟨%d4, H4⟩⟩
      iapply run_first c Set.univ (grid0.coords t) _ _ _ _ _ _ _ _ _ _ scr _ (iblk m hO c 0 t) (iblk m hO c 1 t) (iblk m hO c 2 t)
        (iblk m hO c 3 t) (tbl m 0) (tbl m 1) _ (by rw [hw]; exact (cond1_iff _ _).mpr ⟨hu, hs.trans ht⟩)
        (by rw [hw]; intro h; have := ((cond2_iff _ _).mp h).2; omega) (by rw [hw]; intro h; exact ((cond3_iff _ _).mp h).1 hu)
      isplitl [H0]; · iexact H0
      isplitl [H1]; · iexact H1
      isplitl [H2]; · iexact H2
      isplitl [H3]; · iexact H3
      isplitl [H4]; · iexists _; iexact H4
      isplitl [HS]; · iapply Scr_any m hO c t.val (Nat.le_of_lt t.isLt); iexact HS
      isplitl [HE]; · iexact HE
      isplitl [HN]; · iexact HN
      iintro ⟨H0, H1, H2, H3, H4, HS, HE, HN⟩
      isplitl [HS Hg HE HN]
      · isplitl [HS Hg]
        · isplitl [HS]; · iexact HS
          iexact Hg
        isplitl [HE]; · iexact HE
        iexact HN
      isplitl [Ho]; · iexact Ho
      isplitl [H0]; · iexact H0
      isplitl [H1]; · iexact H1
      isplitl [H2]; · iexact H2
      isplitl [H3]; · iexact H3
      iexact H4
    · rw [Scr_later m hO c t ht hu, Scr_other m hO c t (.inl ht),
        show outAt m hO c t = later (firstAt m hO c (prev t)) (keep (iblk m hO c 0 (prev t))) (iblk m hO c 1 t) (iblk m hO c 2 t) (iblk m hO c 3 t) from
          (if_pos hu).trans (if_neg (by omega))]
      have hp : outAt m hO c (prev t) = firstAt m hO c (prev t) := (if_pos ((used_prev t ht _).mpr hu)).trans (if_pos (by simp only; omega))
      simp only [before_out m hO c t ht, hp]
      iintro ⟨⟨⟨HS, Hg⟩, ⟨HE, HN⟩⟩, Ho, ⟨%d0, H0⟩, ⟨%d1, H1⟩, ⟨%d2, H2⟩, ⟨%d3, H3⟩, ⟨%d4, H4⟩⟩
      iapply run_later c Set.univ (grid0.coords t) _ _ _ _ _ _ _ _ _ _ scr _ (iblk m hO c 0 t) (iblk m hO c 1 t) (iblk m hO c 2 t)
        (iblk m hO c 3 t) (tbl m 0) (tbl m 1) _ (firstAt m hO c (prev t)) (keep (iblk m hO c 0 (prev t)))
        (by rw [hw]; intro h; have := ((cond1_iff _ _).mp h).2; omega)
        (by rw [hw]; exact (cond2_iff _ _).mpr ⟨hu, hs.trans ht⟩) (by rw [hw]; intro h; exact ((cond3_iff _ _).mp h).1 hu)
      isplitl [H0]; · iexact H0
      isplitl [H1]; · iexact H1
      isplitl [H2]; · iexact H2
      isplitl [H3]; · iexact H3
      isplitl [H4]; · iexact H4
      isplitl [HS]; · iexact HS
      isplitl [HE]; · iexact HE
      isplitl [HN]; · iexact HN
      iintro ⟨H0, H1, H2, H3, H4, HS, HE, HN⟩
      isplitl [HS Hg HE HN]
      · isplitl [HS Hg]
        · isplitl [HS]; · iexists _; iexact HS
          iexact Hg
        isplitl [HE]; · iexact HE
        iexact HN
      isplitl [Ho]; · iexact Ho
      isplitl [H0]; · iexact H0
      isplitl [H1]; · iexact H1
      isplitl [H2]; · iexact H2
      isplitl [H3]; · iexact H3
      iexact H4
  · rw [Scr_other m hO c t (.inr hu), show outAt m hO c t = k0_pay3 (F := F) from if_neg hu]
    rcases Nat.mod_two_eq_zero_or_one t.val with ht | ht
    · iintro ⟨⟨⟨HS, Hg⟩, ⟨HE, HN⟩⟩, Ho, ⟨%d0, H0⟩, ⟨%d1, H1⟩, ⟨%d2, H2⟩, ⟨%d3, H3⟩, ⟨%d4, H4⟩⟩
      iapply run_zero c Set.univ (grid0.coords t) _ _ _ _ _ _ _ _ _ _ scr _ (tbl m 1) _
        (by rw [hw]; intro h; exact hu ((cond1_iff _ _).mp h).1) (by rw [hw]; intro h; exact hu ((cond2_iff _ _).mp h).1)
        (by rw [hw]; exact (cond3_iff _ _).mpr ⟨hu, hs.trans ht⟩)
      isplitl [H4]; · iexists _; iexact H4
      isplitl [HN]; · iexact HN
      iintro ⟨H4, HN⟩
      isplitl [HS Hg HE HN]
      · isplitl [HS Hg]
        · isplitl [HS]; · iapply Scr_any m hO c t.val (Nat.le_of_lt t.isLt); iexact HS
          iexact Hg
        isplitl [HE]; · iexact HE
        iexact HN
      isplitl [Ho]; · iexact Ho
      isplitl [H0]; · iexact H0
      isplitl [H1]; · iexact H1
      isplitl [H2]; · iexact H2
      isplitl [H3]; · iexact H3
      iexact H4
    · have hp : outAt m hO c (prev t) = k0_pay3 (F := F) := if_neg (fun h => hu ((used_prev t ht _).mp h))
      simp only [before_out m hO c t ht, hp]
      iintro ⟨⟨⟨HS, Hg⟩, ⟨HE, HN⟩⟩, Ho, ⟨%d0, H0⟩, ⟨%d1, H1⟩, ⟨%d2, H2⟩, ⟨%d3, H3⟩, ⟨%d4, H4⟩⟩
      iapply run_idle c Set.univ (grid0.coords t) _ _ _ _ _ _ _ _ _ _ scr _ (tbl m 1) _
        (by rw [hw]; intro h; exact hu ((cond1_iff _ _).mp h).1) (by rw [hw]; intro h; exact hu ((cond2_iff _ _).mp h).1)
        (by rw [hw]; intro h; have := ((cond3_iff _ _).mp h).2; omega)
      isplitl [HN]; · iexact HN
      iintro HN
      isplitl [HS Hg HE HN]
      · isplitl [HS Hg]
        · isplitl [HS]; · iapply Scr_any m hO c t.val (Nat.le_of_lt t.isLt); iexact HS
          iexact Hg
        isplitl [HE]; · iexact HE
        iexact HN
      isplitl [Ho]; · iexact Ho
      isplitl [H0]; · iexact H0
      isplitl [H1]; · iexact H1
      isplitl [H2]; · iexact H2
      isplitl [H3]; · iexact H3
      iexact H4

/-- The body the pipeline calls is `bodyAt`. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- The pipeline's obligation of its body, at every point. -/
theorem body_obligation (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- The launch hands over what holds before the first point, -/
theorem hin (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, scoped_eq]
  unfold Inv Scr
  exact .rfl

/-- and gets its buffers back after the last. -/
theorem hout (c : Dev nD) : (dats m hO 0 c).Φ (Fin.last (cfgM m hO).N) ⊢ Pipeline.ΦA spec0 c := by
  rw [show (dats m hO 0 c).Φ (Fin.last (cfgM m hO).N) = Inv m hO c (cfgM m hO).N le_rfl from rfl, scoped_eq]
  unfold Inv
  iintro ⟨⟨HS, Hg⟩, -⟩
  isplitl [HS]; · iapply Scr_any m hO c _ le_rfl; iexact HS
  iexact Hg

set_option backward.isDefEq.respectTransparency.types false in
/-- The launch: the output array ends at what the data says, everything else as found, the semaphores at zero. -/
theorem run_main : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- What an argument the pipeline neither stages nor writes ends at. -/
theorem rest_eq {r} (h : Pipeline.FramePost (Pipeline.pin pcfgs fun _ => adm m hO) (dats m hO) 0 (V m) r)
    (c : Dev nD) (b : Ref sig .tc) (hb : b ∈ Pipeline.restRefs sig spec0) (h0 : b ≠ main_v0) (h1 : b ≠ main_v1) (h2 : b ≠ main_v2) :
    r.2.mem ((c : Thread nD τ).loc b) = m ((c : Thread nD τ).loc b) :=
  ((h c).2 b hb).trans (V_of_ne m c h0 h1 h2)

/-- Every argument ends as it was, and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).1 0).trans (((dats m hO 0 c).arrAt_in 0 rfl _).trans ((A_eq m hO c 0).trans (V_of_ne m c (b := main_arg0) (by decide) (by decide) (by decide)))),
      rest_eq m hO h.1 c main_arg1 (by decide) (by decide) (by decide) (by decide),
      rest_eq m hO h.1 c main_arg2 (by decide) (by decide) (by decide) (by decide),
      rest_eq m hO h.1 c main_arg3 (by decide) (by decide) (by decide) (by decide),
      rest_eq m hO h.1 c main_arg4 (by decide) (by decide) (by decide) (by decide),
      rest_eq m hO h.1 c main_arg5 (by decide) (by decide) (by decide) (by decide)⟩, h.2⟩) (run_main m ρ hO)

end Cert.ExpertsIdeal.Tile

end
-- ==== Proof.ExpertsTables.lean ====
/-
  The tables' words as numbers: which block of rows, which expert and which half of the hidden units a grid point takes,
  and that every block lies inside its array where each word of the expert table names one of the eight experts.
-/
module

public import proofs.«01_k».proof.Proof.ExpertsKit
public import proofs.«01_k».proof.Proof.Gen.Pre_tables_in_range
public import Idealize.ShloMosaic.Lib.Affine
public import Idealize.ShloMosaic.Lib.DynamicIndex
public import Idealize.ShloMosaic.Lib.ReduceAll
public import Idealize.ShloMosaic.Lib.SortNet.Extract

@[expose] public section

set_option maxRecDepth 16384

noncomputable section

namespace Cert.ExpertsIdeal.Tile

open Cert.ExpertsIdeal Cert.ExpertsIdeal.Gen
open Idealize.ShloMosaic Idealize.ShloMosaic.TcCoe

variable {F : FTy → Type} [FloatOps F]

theorem tile_lt (i : grid0.Coords) : (i 0).val < 136 := (i 0).isLt

/-- The tile of a grid point. -/
abbrev tile (i : grid0.Coords) : Fin 136 := ⟨(i 0).val, tile_lt i⟩

/-- The word the table of experts holds for a point's tile. -/
abbrev expertAt (te : IVec S136 32) (i : grid0.Coords) : BitVec 32 := te (ix1 (tile i))

/-- The tile whose rows point `i` fetches: its own, or the last used one. -/
def tileOf (i : grid0.Coords) (v : BitVec 32) : BitVec 32 :=
  Scalar.maxsi (Scalar.minsi (BitVec.ofNat 32 (i 0).val) (Scalar.subi v 1#32)) 0#32

/-- The half of the hidden units point `i` fetches: its own, or the last. -/
def halfOf (i : grid0.Coords) (v : BitVec 32) : BitVec 32 :=
  Scalar.select (Scalar.cmpi .slt (BitVec.ofNat 32 (i 0).val) v) (BitVec.ofNat 32 (i 1).val) 1#32

/-- The entry of the table of experts the index maps load. -/
theorem entry_eq (i : grid0.Coords) :
    (Rect.unit (s := S136) (k0_off1 i) S1.size (k0_off1_inb i)).emb (Shape.Idx.first (numel1_S1.symm ▸ Nat.one_pos)) = ix1 (tile i) := by
  have h := tile_lt i
  funext a
  obtain rfl : a = 0 := Subsingleton.elim _ _
  refine Fin.ext ?_
  show (BitVec.ofNat 32 (i 0).val).toNat + _ * 0 = (i 0).val
  rw [BitVec.toNat_ofNat]
  omega

/-- A used point fetches its own tile's rows, -/
theorem tileOf_used (i : grid0.Coords) (v : BitVec 32) (h : Used i v) : (tileOf i v).toNat = (i 0).val := by
  have h0 := tile_lt i
  have e0 : (BitVec.ofNat 32 (i 0).val).toInt = ((i 0).val : ℤ) := toInt_ofNat_of_lt (by omega)
  have hv : (i 0).val < v.toInt := by
    have := (IntOp.cmpi_slt (x := BitVec.ofNat 32 (i 0).val) (y := v)).1 h
    omega
  have hm : v.toInt < 2 ^ 31 := by have := BitVec.toInt_lt (x := v); simpa using this
  have e1 : (v - 1#32).toInt = v.toInt - 1 := by
    rw [BitVec.toInt_sub, show (1#32 : BitVec 32).toInt = 1 from by decide, Int.bmod_eq_of_le] <;> omega
  have e : (tileOf i v).toInt = ((i 0).val : ℤ) := by
    show (IntOp.maxsi (IntOp.minsi _ (v - 1#32)) 0#32).toInt = _
    rw [SortNet.toInt_maxsi, SortNet.toInt_minsi, e0, e1, BitVec.toInt_zero]
    omega
  have := BitVec.toInt_eq_toNat_cond (tileOf i v)
  split at this <;> omega

/-- and any point some tile's. -/
theorem tileOf_lt (i : grid0.Coords) (v : BitVec 32) : (tileOf i v).toNat < 136 := by
  have h0 := tile_lt i
  have e0 : (BitVec.ofNat 32 (i 0).val).toInt = ((i 0).val : ℤ) := toInt_ofNat_of_lt (by omega)
  have e : (tileOf i v).toInt = max (min ((i 0).val : ℤ) (v - 1#32).toInt) 0 := by
    show (IntOp.maxsi (IntOp.minsi _ (v - 1#32)) 0#32).toInt = _
    rw [SortNet.toInt_maxsi, SortNet.toInt_minsi, e0, BitVec.toInt_zero]
  have hb := (tileOf i v).isLt
  have := BitVec.toInt_eq_toNat_cond (tileOf i v)
  split at this <;> omega

/-- A used point fetches its own half, -/
theorem halfOf_used (i : grid0.Coords) (v : BitVec 32) (h : Used i v) : (halfOf i v).toNat = (i 1).val := by
  have h1 : (i 1).val < 2 := (i 1).isLt
  unfold halfOf
  rw [h]
  show (BitVec.ofNat 32 (i 1).val).toNat = _
  rw [BitVec.toNat_ofNat]
  omega

/-- and any point one of the two. -/
theorem halfOf_lt (i : grid0.Coords) (v : BitVec 32) : (halfOf i v).toNat < 2 := by
  have h1 : (i 1).val < 2 := (i 1).isLt
  unfold halfOf
  rcases bit_cases (Scalar.cmpi .slt (BitVec.ofNat 32 (i 0).val) v) with h | h <;> rw [h]
  · show (1#32 : BitVec 32).toNat < 2; decide
  · show (BitVec.ofNat 32 (i 1).val).toNat < 2
    rw [BitVec.toNat_ofNat]; omega

variable (m : (ℓ : Loc nD τ sig) → Buf (Elt F) ℓ)

/-- The blocks' places, of the tables' words. -/
theorem rows_at (i : grid0.Coords) : cc0_transform_0 inb_S1_S1_0 numel1_S1 (tbl m) i = ![(tileOf i (nu m)).toNat, 0] := rfl

theorem gate_at (i : grid0.Coords) : cc0_transform_1 k0_off1_inb numel1_S1 inb_S1_S1_0 (tbl m) i
    = ![(expertAt (tbl m 0) i).toNat, 0, (halfOf i (nu m)).toNat] :=    congrArg (fun j : S136.Idx => ![(show BitVec 32 from tbl m 0 j).toNat, 0, (halfOf i (nu m)).toNat]) (entry_eq i)

theorem up_at (i : grid0.Coords) : cc0_transform_2 k0_off1_inb numel1_S1 inb_S1_S1_0 (tbl m) i
    = ![(expertAt (tbl m 0) i).toNat, 0, (halfOf i (nu m)).toNat] :=    congrArg (fun j : S136.Idx => ![(show BitVec 32 from tbl m 0 j).toNat, 0, (halfOf i (nu m)).toNat]) (entry_eq i)

theorem down_at (i : grid0.Coords) : cc0_transform_3 k0_off1_inb numel1_S1 inb_S1_S1_0 (tbl m) i
    = ![(expertAt (tbl m 0) i).toNat, (halfOf i (nu m)).toNat, 0] :=  congrArg (fun j : S136.Idx => ![(show BitVec 32 from tbl m 0 j).toNat, (halfOf i (nu m)).toNat, 0]) (entry_eq i)

/-- Where each word of the table of experts is below 8, every block lies inside its array. -/
theorem ok_of_lt (h : ∀ i : grid0.Coords, (expertAt (tbl m 0) i).toNat < 8) : Ok m := by
  refine ⟨fun i => ⟨?_, .inl rfl⟩, fun i => ⟨?_, .inr (Affine.block_words_dvd (by decide) (by decide))⟩,
    fun i => ⟨?_, .inr (Affine.block_words_dvd (by decide) (by decide))⟩, fun i => ⟨?_, .inr (Affine.block_words_dvd (by decide) (by decide))⟩⟩
  · rw [rows_at]
    have := tileOf_lt i (nu m)
    intro a
    fin_cases a
    · show ((tileOf i (nu m)).toNat + 1) * 512 ≤ 69632; omega
    · show (0 + 1) * 1024 ≤ 1024; omega
  · rw [gate_at]
    have := h i
    have := halfOf_lt i (nu m)
    intro a
    fin_cases a
    · show ((expertAt (tbl m 0) i).toNat + 1) * 1 ≤ 8; omega
    · show (0 + 1) * 1024 ≤ 1024; omega
    · show ((halfOf i (nu m)).toNat + 1) * 1792 ≤ 3584; omega
  · rw [up_at]
    have := h i
    have := halfOf_lt i (nu m)
    intro a
    fin_cases a
    · show ((expertAt (tbl m 0) i).toNat + 1) * 1 ≤ 8; omega
    · show (0 + 1) * 1024 ≤ 1024; omega
    · show ((halfOf i (nu m)).toNat + 1) * 1792 ≤ 3584; omega
  · rw [down_at]
    have := h i
    have := halfOf_lt i (nu m)
    intro a
    fin_cases a
    · show ((expertAt (tbl m 0) i).toNat + 1) * 1 ≤ 8; omega
    · show ((halfOf i (nu m)).toNat + 1) * 1792 ≤ 3584; omega
    · show (0 + 1) * 1024 ≤ 1024; omega

instance : Subsingleton Cert.Pre_tables_in_range.S_.Idx := ⟨fun a b => funext fun k => k.elim0⟩

/-- What the precondition says: each word of the table of experts is one of 0, …, 7. -/
theorem lt_of_pre [Cert.Pre_tables_in_range.Facts] (x : FVec F S69632x1024 .f32) (te : IVec S136 32) (n : IVec S1 32)
    (w1 w3 : FVec F S8x1024x3584 .f32) (w2 : FVec F S8x3584x1024 .f32)
    (h : Cert.Pre_tables_in_range.fn x te n w1 w3 w2 = fun _ => 1#1) (i : S136.Idx) : (te i).toNat < 8 := by
  have e := Host.reduce_andi_all _ _ _ _ (Shape.Idx.first Cert.Pre_tables_in_range.Facts.h_S_) (congrFun h _) i
  obtain ⟨e0, e1⟩ := IntOp.andi_eq_one.1 e
  have h0 : (0 : ℤ) ≤ (te i).toInt := IntOp.cmpi_sge.1 e0
  have h1 : (te i).toInt < 8 := IntOp.cmpi_slt.1 e1
  have := BitVec.toInt_eq_toNat_cond (te i)
  split at this <;> omega

end Cert.ExpertsIdeal.Tile

end
-- ==== Proof.ExpertsBlock.lean ====
/-
  The expert kernel's block over the extended reals: half a tile's hidden units as one sum, and what a tile's two points
  leave together, the whole sum.
-/
module

public import proofs.«01_k».proof.Proof.ExpertsTile
public import proofs.«01_k».proof.Proof.Swiglu
public import Idealize.ShloMosaic.Lib.Pipeline.ValueKit

@[expose] public section

set_option maxRecDepth 16384

noncomputable section

namespace Cert.ExpertsIdeal.Tile

open Cert.ExpertsIdeal Cert.ExpertsIdeal.Gen Idealize.ShloMosaic Cert.Swiglu

/-- A chunk's element is the sum over its hidden units. -/
theorem part_apply (x : FVec Ideal S512x1024 .bf16) (g u : FVec Ideal S1x1024x256 .bf16) (d : FVec Ideal S1x256x1024 .bf16)
    (p : Fin 512) (j : Fin 1024) :
    part x g u d (ix2 p j)
      = chunk (fun l => x (ix2 p l)) (fun k l => g (ix3 0 l k)) (fun k l => u (ix3 0 l k)) (fun k => d (ix3 0 k j)) := by
  pointwise [part, chunk, hid, act]
  simp only [zero_sub]

/-- Element `(l, k)` of chunk `c`'s columns is the half's at hidden unit `unit c k`. -/
theorem cols_apply (w : Vec Ideal S1x1024x1792 .bf16) (c : Fin 7) (l : Fin 1024) (k : Fin 256) :
    cols w c (ix3 0 l k) = w (ix3 0 l (unit c k)) := by
  fin_cases c <;> pointwise [cols] <;> blk_ext [unit]

/-- Element `(k, j)` of chunk `c`'s rows is the half's at hidden unit `unit c k`. -/
theorem rows_apply (w : Vec Ideal S1x1792x1024 .bf16) (c : Fin 7) (k : Fin 256) (j : Fin 1024) :
    rows w c (ix3 0 k j) = w (ix3 0 (unit c k) j) := by
  fin_cases c <;> pointwise [rows] <;> blk_ext [unit]

/-- The seven chunks together are the sum over the half's hidden units. -/
theorem half_apply (x : FVec Ideal S512x1024 .bf16) (w1 w3 : Vec Ideal S1x1024x1792 .bf16) (w2 : Vec Ideal S1x1792x1024 .bf16)
    (p : Fin 512) (j : Fin 1024) :
    half x w1 w3 w2 (ix2 p j) = ∑ k : Fin 1792, hid (fun l => x (ix2 p l)) (fun l => w1 (ix3 0 l k)) (fun l => w3 (ix3 0 l k)) * w2 (ix3 0 k j) := by
  pointwise [half]
  rw [sum_units 7 fun k : Fin (7 * 256) => hid (fun l => x (ix2 p l)) (fun l => w1 (ix3 0 l k)) (fun l => w3 (ix3 0 l k)) * w2 (ix3 0 k j)]
  rw [Fin.sum_univ_seven]
  simp only [part_apply, chunk, cols_apply, rows_apply]

/-- What a tile's first point leaves in the output block. -/
theorem first_apply (x : Vec Ideal S512x1024 .f32) (w1 w3 : Vec Ideal S1x1024x1792 .bf16) (w2 : Vec Ideal S1x1792x1024 .bf16)
    (p : Fin 512) (j : Fin 1024) :
    first x w1 w3 w2 (ix2 p j) = ∑ k : Fin 1792, hid (fun l => x (ix2 p l)) (fun l => w1 (ix3 0 l k)) (fun l => w3 (ix3 0 l k)) * w2 (ix3 0 k j) := by
  have h2 : (![0, 0] : Fin S512x1024.rank → ℕ) = fun _ => 0 := by decide
  rw [first, View.ld_unit_zero h2, half_apply]
  rfl

/-- What its second point leaves there. -/
theorem later_apply (y : Vec Ideal S512x1024 .f32) (x : Vec Ideal S512x1024 .f32) (w1 w3 : Vec Ideal S1x1024x1792 .bf16)
    (w2 : Vec Ideal S1x1792x1024 .bf16) (p : Fin 512) (j : Fin 1024) :
    later y (keep x) w1 w3 w2 (ix2 p j)
      = y (ix2 p j) + ∑ k : Fin 1792, hid (fun l => x (ix2 p l)) (fun l => w1 (ix3 0 l k)) (fun l => w3 (ix3 0 l k)) * w2 (ix3 0 k j) := by
  have h2 : (![0, 0] : Fin S512x1024.rank → ℕ) = fun _ => 0 := by decide
  rw [later, keep, View.ld_unit_zero h2, View.ld_unit_zero h2, View.ld_unit_zero h2]
  show k0_pay16 y (ix2 p j) + half (k0_pay5 x) w1 w3 w2 (ix2 p j) = _
  rw [half_apply]
  pointwise [k0_pay16, k0_pay5, k0_pay4]

/-- The two halves' sums are the sum over all hidden units. -/
theorem sum_halves (f : Fin 3584 → EReal) :
    ∑ k, f k = (∑ k : Fin 1792, f ⟨k.val, by have := k.isLt; omega⟩) + ∑ k : Fin 1792, f ⟨1792 + k.val, by have := k.isLt; omega⟩ :=
  Fin.sum_univ_add (a := 1792) (b := 1792) f

end Cert.ExpertsIdeal.Tile

end
-- ==== Proof.ExpertsValue.lean ====
/-
  What the expert kernel's output array holds after the run, over the extended reals: the routed feed-forward.
-/
module

public import proofs.«01_k».proof.Proof.ExpertsFrame
public import proofs.«01_k».proof.Proof.ExpertsTables
public import proofs.«01_k».proof.Proof.ExpertsBlock
public import Idealize.ShloMosaic.Lib.Claim

@[expose] public section

set_option maxRecDepth 16384

noncomputable section

namespace Cert.ExpertsIdeal.Tile

open Cert.ExpertsIdeal Cert.ExpertsIdeal.Gen Idealize.ShloMosaic Idealize.ShloMosaic.TcCoe Idealize.SL.Sem Cert.Swiglu

variable (m : (ℓ : Loc nD τ sig) → Buf (Elt Ideal) ℓ) (ρ : Dev nD → PrngReg) (hO : Ok m)

/-! ## The tables and the weights as launched -/

theorem tbl0 : tbl m 0 = m (((0 : Dev nD) : Thread nD τ).loc main_arg1) := V_of_ne m 0 (b := main_arg1) (by decide) (by decide) (by decide)
theorem tbl1 : tbl m 1 = m (((0 : Dev nD) : Thread nD τ).loc main_arg2) := V_of_ne m 0 (b := main_arg2) (by decide) (by decide) (by decide)

/-- The rounded gate matrix is the matrix. -/
theorem V0 (c : Dev nD) : V m c main_v0 = m ((c : Thread nD τ).loc main_arg3) := by
  funext i
  entry_read
  pointwise
theorem V1 (c : Dev nD) : V m c main_v1 = m ((c : Thread nD τ).loc main_arg4) := by
  funext i
  entry_read
  pointwise
theorem V2 (c : Dev nD) : V m c main_v2 = m ((c : Thread nD τ).loc main_arg5) := by
  funext i
  entry_read
  pointwise

/-! ## The blocks -/

/-- Point `t`'s blocks: the rows, the gate and up columns, and the down rows. -/
def xB (c : Dev nD) (t : Fin (cfgM m hO).N) : Vec Ideal S512x1024 .f32 := iblk m hO c 0 t
def gB (c : Dev nD) (t : Fin (cfgM m hO).N) : Vec Ideal S1x1024x1792 .bf16 := iblk m hO c 1 t
def uB (c : Dev nD) (t : Fin (cfgM m hO).N) : Vec Ideal S1x1024x1792 .bf16 := iblk m hO c 2 t
def dB (c : Dev nD) (t : Fin (cfgM m hO).N) : Vec Ideal S1x1792x1024 .bf16 := iblk m hO c 3 t

/-- Where each block sits. -/
theorem index0 (t : Fin (cfgM m hO).N) : (pcfg0.win (adm m hO) 0).index t = ![(tileOf (grid0.coords t) (nu m)).toNat, 0] := rows_at m _
theorem index1 (t : Fin (cfgM m hO).N) : (pcfg0.win (adm m hO) 1).index t
    = ![(expertAt (tbl m 0) (grid0.coords t)).toNat, 0, (halfOf (grid0.coords t) (nu m)).toNat] := gate_at m _
theorem index2 (t : Fin (cfgM m hO).N) : (pcfg0.win (adm m hO) 2).index t
    = ![(expertAt (tbl m 0) (grid0.coords t)).toNat, 0, (halfOf (grid0.coords t) (nu m)).toNat] := up_at m _
theorem index3 (t : Fin (cfgM m hO).N) : (pcfg0.win (adm m hO) 3).index t
    = ![(expertAt (tbl m 0) (grid0.coords t)).toNat, (halfOf (grid0.coords t) (nu m)).toNat, 0] := down_at m _
theorem index4 (t : Fin (cfgM m hO).N) : (pcfg0.win (adm m hO) 4).index t = ![t.val / 2, 0] := by
  have e : (pcfg0.win (adm m hO) 4).index t = ![(BitVec.ofNat 32 (grid0.coords t 0).val).toNat, 0] := rfl
  have := tile_lt (grid0.coords t)
  rw [e, BitVec.toNat_ofNat, Nat.mod_eq_of_lt (by omega), tile_val]

theorem iblk0 (c : Dev nD) (t : Fin (cfgM m hO).N) (hu : Used (grid0.coords t) (nu m)) (p : Fin 512) (l : Fin 1024) (r : Fin 69632)
    (hr : r.val = 512 * (t.val / 2) + p.val) : xB m hO c t (ix2 p l) = m ((c : Thread nD τ).loc main_arg0) (ix2 r l) := by
  have e : (tileOf (grid0.coords t) (nu m)).toNat = t.val / 2 := (tileOf_used _ _ hu).trans (tile_val t)
  blk_ext [xB, iblk, V]
  · exact (congrArg (fun n => n * 512 + p.val) ((congrFun (index0 m hO t) 0).trans e)).trans (by omega)
  · exact (congrArg (fun n => n * 1024 + l.val) (congrFun (index0 m hO t) 1)).trans (Nat.zero_add _)

theorem iblk1 (c : Dev nD) (t : Fin (cfgM m hO).N) (hu : Used (grid0.coords t) (nu m)) (l : Fin 1024) (k : Fin 1792) (e : Fin 8)
    (he : e.val = (expertAt (tbl m 0) (grid0.coords t)).toNat) (n : Fin 3584) (hn : n.val = 1792 * (t.val % 2) + k.val) :
    gB m hO c t (ix3 0 l k) = m ((c : Thread nD τ).loc main_arg3) (ix3 e l n) := by
  have h : (halfOf (grid0.coords t) (nu m)).toNat = t.val % 2 := (halfOf_used _ _ hu).trans (step_val t)
  rw [← V0 m]
  blk_ext [gB, iblk]
  · exact (congrFun (index1 m hO t) 0).trans he.symm
  · exact (congrArg (fun n => n * 1024 + l.val) (congrFun (index1 m hO t) 1)).trans (Nat.zero_add _)
  · exact (congrArg (fun n => n * 1792 + k.val) ((congrFun (index1 m hO t) 2).trans h)).trans (by omega)

theorem iblk2 (c : Dev nD) (t : Fin (cfgM m hO).N) (hu : Used (grid0.coords t) (nu m)) (l : Fin 1024) (k : Fin 1792) (e : Fin 8)
    (he : e.val = (expertAt (tbl m 0) (grid0.coords t)).toNat) (n : Fin 3584) (hn : n.val = 1792 * (t.val % 2) + k.val) :
    uB m hO c t (ix3 0 l k) = m ((c : Thread nD τ).loc main_arg4) (ix3 e l n) := by
  have h : (halfOf (grid0.coords t) (nu m)).toNat = t.val % 2 := (halfOf_used _ _ hu).trans (step_val t)
  rw [← V1 m]
  blk_ext [uB, iblk]
  · exact (congrFun (index2 m hO t) 0).trans he.symm
  · exact (congrArg (fun n => n * 1024 + l.val) (congrFun (index2 m hO t) 1)).trans (Nat.zero_add _)
  · exact (congrArg (fun n => n * 1792 + k.val) ((congrFun (index2 m hO t) 2).trans h)).trans (by omega)

theorem iblk3 (c : Dev nD) (t : Fin (cfgM m hO).N) (hu : Used (grid0.coords t) (nu m)) (k : Fin 1792) (j : Fin 1024) (e : Fin 8)
    (he : e.val = (expertAt (tbl m 0) (grid0.coords t)).toNat) (n : Fin 3584) (hn : n.val = 1792 * (t.val % 2) + k.val) :
    dB m hO c t (ix3 0 k j) = m ((c : Thread nD τ).loc main_arg5) (ix3 e n j) := by
  have h : (halfOf (grid0.coords t) (nu m)).toNat = t.val % 2 := (halfOf_used _ _ hu).trans (step_val t)
  rw [← V2 m]
  blk_ext [dB, iblk]
  · exact (congrFun (index3 m hO t) 0).trans he.symm
  · exact (congrArg (fun n => n * 1792 + k.val) ((congrFun (index3 m hO t) 1).trans h)).trans (by omega)
  · exact (congrArg (fun n => n * 1024 + j.val) (congrFun (index3 m hO t) 2)).trans (Nat.zero_add _)

/-! ## The output -/

/-- The result array: the routed feed-forward of the launched arrays. -/
def out (c : Dev nD) : FVec Ideal S69632x1024 .f32 := fun i =>
  routed (fun r l => m ((c : Thread nD τ).loc main_arg0) (ix2 r l)) (fun i => m ((c : Thread nD τ).loc main_arg1) (ix1 i))
    (m ((c : Thread nD τ).loc main_arg2) (ix1 0)) (fun e l k => m ((c : Thread nD τ).loc main_arg3) (ix3 e l k))
    (fun e l k => m ((c : Thread nD τ).loc main_arg4) (ix3 e l k)) (fun e k j => m ((c : Thread nD τ).loc main_arg5) (ix3 e k j)) (i 0) (i 1)

/-- The number of used tiles is the launched word. -/
theorem nu_eq (c : Dev nD) : nu m = m ((c : Thread nD τ).loc main_arg2) (ix1 0) := by
  obtain rfl : c = 0 := Subsingleton.elim _ _
  rw [← tbl1 m]
  exact congrArg (fun j : S1.Idx => (show BitVec 32 from tbl m 1 j)) (funext fun a => Fin.ext (by
    have := ((Rect.unit (s := S1) ![0] S1.size inb_S1_S1_0).emb (Shape.Idx.first (numel1_S1.symm ▸ Nat.one_pos)) a).isLt
    fin_cases a; rfl))

/-- One half of a used tile's sum, at either point. -/
theorem half_at (c : Dev nD) (t : Fin (cfgM m hO).N) (hu : Used (grid0.coords t) (nu m)) (x : Fin 1024 → EReal) (j : Fin 1024) (e : Fin 8)
    (he : e.val = (expertAt (tbl m 0) (grid0.coords t)).toNat) (f : Fin 1792 → Fin 3584) (hf : ∀ k, (f k).val = 1792 * (t.val % 2) + k.val) :
    (∑ k : Fin 1792, hid x (fun l => gB m hO c t (ix3 0 l k)) (fun l => uB m hO c t (ix3 0 l k)) * dB m hO c t (ix3 0 k j))
      = ∑ k : Fin 1792, hid x (fun l => m ((c : Thread nD τ).loc main_arg3) (ix3 e l (f k))) (fun l => m ((c : Thread nD τ).loc main_arg4) (ix3 e l (f k)))
          * m ((c : Thread nD τ).loc main_arg5) (ix3 e (f k) j) := by
  refine Finset.sum_congr rfl fun k _ => ?_
  rw [iblk3 m hO c t hu k j e he (f k) (hf k), show (fun l => gB m hO c t (ix3 0 l k)) = _ from funext fun l => iblk1 m hO c t hu l k e he (f k) (hf k),
    show (fun l => uB m hO c t (ix3 0 l k)) = _ from funext fun l => iblk2 m hO c t hu l k e he (f k) (hf k)]

/-- What a used tile's second point leaves, by its blocks and the first point's. -/
theorem outAt_used (c : Dev nD) (t : Fin (cfgM m hO).N) (ht : t.val % 2 = 1) (hu : Used (grid0.coords t) (nu m)) :
    outAt m hO c t = later (first (xB m hO c (prev t)) (gB m hO c (prev t)) (uB m hO c (prev t)) (dB m hO c (prev t))) (keep (xB m hO c (prev t)))
        (gB m hO c t) (uB m hO c t) (dB m hO c t) := by
  unfold outAt
  rw [if_pos hu, if_neg (by omega)]
  rfl

/-- The tile of a row. -/
abbrev tileAt (r : Fin 69632) : Fin 136 := ⟨r.val / 512, by have := r.isLt; omega⟩

/-- The expert of a row. -/
abbrev expertOf (c : Dev nD) (r : Fin 69632) : Fin 8 := pick (fun i => m ((c : Thread nD τ).loc main_arg1) (ix1 i)) (tileAt r)

/-- What a used tile's second point leaves is the row's feed-forward with the tile's expert. -/
theorem used_apply (hE : ∀ i : S136.Idx, (show BitVec 32 from tbl m 0 i).toNat < 8) (c : Dev nD) (t : Fin (cfgM m hO).N) (ht : t.val % 2 = 1)
    (hu : Used (grid0.coords t) (nu m)) (p : Fin 512) (j : Fin 1024) (r : Fin 69632) (hr : r.val = 512 * (t.val / 2) + p.val) :
    outAt m hO c t (ix2 p j) = ffn (fun l => m ((c : Thread nD τ).loc main_arg0) (ix2 r l))
      (fun l k => m ((c : Thread nD τ).loc main_arg3) (ix3 (expertOf m c r) l k)) (fun l k => m ((c : Thread nD τ).loc main_arg4) (ix3 (expertOf m c r) l k))
      (fun k j => m ((c : Thread nD τ).loc main_arg5) (ix3 (expertOf m c r) k j)) j := by
  have hp := p.isLt
  have h0 : (grid0.coords t 0).val = t.val / 2 := tile_val t
  have hpe : (prev t).val / 2 = t.val / 2 := by simp only; omega
  have hpm : (prev t).val % 2 = 0 := by simp only; omega
  have hpu : Used (grid0.coords (prev t)) (nu m) := (used_prev t ht _).mpr hu
  have hi : tileAt r = tile (grid0.coords t) := Fin.ext ((show r.val / 512 = t.val / 2 by omega).trans h0.symm)
  have hpt : tile (grid0.coords (prev t)) = tile (grid0.coords t) := Fin.ext (((tile_val (prev t)).trans hpe).trans h0.symm)
  have he : (expertOf m c r).val = (expertAt (tbl m 0) (grid0.coords t)).toNat := by
    obtain rfl : c = 0 := Subsingleton.elim _ _
    rw [expertOf, hi, ← tbl0 m]
    exact Nat.mod_eq_of_lt (hE _)
  have hep : (expertOf m c r).val = (expertAt (tbl m 0) (grid0.coords (prev t))).toNat := by
    rw [he]
    exact congrArg (fun i => (show BitVec 32 from tbl m 0 (ix1 i)).toNat) hpt.symm
  rw [outAt_used m hO c t ht hu, later_apply, first_apply]
  rw [show (fun l => xB m hO c (prev t) (ix2 p l)) = _ from funext fun l => iblk0 m hO c (prev t) hpu p l r (by rw [hpe]; exact hr)]
  rw [half_at m hO c (prev t) hpu _ j _ hep (fun k => ⟨k.val, by have := k.isLt; omega⟩) (fun k => by rw [hpm]; simp),
    half_at m hO c t hu _ j _ he (fun k => ⟨1792 + k.val, by have := k.isLt; omega⟩) (fun k => by rw [ht])]
  exact (sum_halves fun k => hid (fun l => m ((c : Thread nD τ).loc main_arg0) (ix2 r l)) (fun l => m ((c : Thread nD τ).loc main_arg3) (ix3 (expertOf m c r) l k))
    (fun l => m ((c : Thread nD τ).loc main_arg4) (ix3 (expertOf m c r) l k)) * m ((c : Thread nD τ).loc main_arg5) (ix3 (expertOf m c r) k j)).symm

/-- What an unused tile's second point leaves is zero. -/
theorem unused_apply (c : Dev nD) (t : Fin (cfgM m hO).N) (hu : ¬Used (grid0.coords t) (nu m)) (p : Fin 512) (j : Fin 1024) :
    outAt m hO c t (ix2 p j) = (0 : EReal) := by
  have h : outAt m hO c t = k0_pay3 (F := Ideal) := by unfold outAt; exact if_neg hu
  rw [h]
  pointwise [k0_pay3]

/-- What a tile's second point leaves is the routed feed-forward of the tile's rows. -/
theorem outAt_apply (hE : ∀ i : S136.Idx, (show BitVec 32 from tbl m 0 i).toNat < 8) (c : Dev nD) (t : Fin (cfgM m hO).N) (ht : t.val % 2 = 1)
    (p : Fin 512) (j : Fin 1024) (r : Fin 69632) (hr : r.val = 512 * (t.val / 2) + p.val) :
    outAt m hO c t (ix2 p j) = out m c (ix2 r j) := by
  have hp := p.isLt
  have h0 : (grid0.coords t 0).val = r.val / 512 := (tile_val t).trans (by omega)
  have hc : Used (grid0.coords t) (nu m) ↔ IntOp.cmpi .slt (BitVec.ofNat 32 (r.val / 512)) (m ((c : Thread nD τ).loc main_arg2) (ix1 0)) = 1#1 := by
    rw [← nu_eq m c, ← h0]; exact Iff.rfl
  unfold out routed
  by_cases hu : Used (grid0.coords t) (nu m)
  · exact (used_apply m hO hE c t ht hu p j r hr).trans (if_pos (hc.mp hu)).symm
  · exact (unused_apply m hO c t hu p j).trans (if_neg fun h => hu (hc.mpr h)).symm

/-- Every tile's rows are written back, at its second point. -/
theorem covered : ((cfgM m hO).win 4).Covers := by
  refine ⟨fun a => ?_, fun β => ?_⟩
  · match a with
    | ⟨0, _⟩ => show 0 < 512; decide
    | ⟨1, _⟩ => show 0 < 1024; decide
  have h0 : (β ⟨0, Nat.zero_lt_two⟩).val < (69632 + 512 - 1) / 512 := (β ⟨0, Nat.zero_lt_two⟩).isLt
  have h1 : (β ⟨1, Nat.one_lt_two⟩).val < (1024 + 1024 - 1) / 1024 := (β ⟨1, Nat.one_lt_two⟩).isLt
  have hN : (cfgM m hO).N = 272 := N_0
  have hb : 2 * (β ⟨0, Nat.zero_lt_two⟩).val + 1 < (cfgM m hO).N := lt_of_lt_of_eq (by omega) hN.symm
  refine ⟨⟨2 * (β ⟨0, Nat.zero_lt_two⟩).val + 1, hb⟩, (flush_out m hO _).mpr (by simp only; omega), fun a => ⟨?_, .inl rfl⟩⟩
  refine (congrFun (index4 m hO _) a).trans ?_
  match a with
  | ⟨0, _⟩ => show (2 * (β ⟨0, Nat.zero_lt_two⟩).val + 1) / 2 = (β ⟨0, Nat.zero_lt_two⟩).val; omega
  | ⟨1, _⟩ => show 0 = (β ⟨1, Nat.one_lt_two⟩).val; omega

/-- The output array after the run. -/
theorem final (hE : ∀ i : S136.Idx, (show BitVec 32 from tbl m 0 i).toNat < 8) (c : Dev nD) : (dats m hO 0 c).arrAt 4 (cfgM m hO).N = out m c := by
  refine (dats m hO 0 c).arrAt_eq_of_covers 4 _ (covered m hO) fun t hf y => ?_
  have ht := (flush_out m hO t).mp hf
  blk_simp
  rw [after_out]
  have hG : ∀ y : S512x1024.Idx, outAt m hO c t y = out m c ((((cfgM m hO).win 4).blk t).view.emb y) := fun y => ?_
  · exact hG y
  have e4 := index4 m hO t
  idx_vars y
  have hr : 512 * (t.val / 2) + y0.val < 69632 := by have ht : t.val < 272 := lt_of_lt_of_eq t.isLt N_0; have := y0.isLt; omega
  have he : (((cfgM m hO).win 4).blk t).view.emb (ix2 y0 y1) = ix2 ⟨512 * (t.val / 2) + y0.val, hr⟩ y1 := by
    blk_point
    · exact (congrArg (fun n => n * 512 + y0.val) (congrFun e4 0)).trans (by show t.val / 2 * 512 + y0.val = _; omega)
    · exact (congrArg (fun n => n * 1024 + y1.val) (congrFun e4 1)).trans (Nat.zero_add _)
  rw [he]
  exact outAt_apply m hO hE c t ht y0 y1 _ rfl

end Cert.ExpertsIdeal.Tile

end
-- ==== Proof.ExpertsReference.lean ====
/-
  The experts' reference, read off: its loop goes over the 136 tiles in order; trip `k` writes block `k` of the accumulator
  with the feed-forward of tile `k`'s rows by the expert the table gives it; at the end the tiles past the used count are
  cleared. The result is `routed`, element by element.
-/
module

public import proofs.«01_k».proof.Proof.Gen.ExpertsReferenceIdeal.Run
public import proofs.«01_k».proof.Proof.Swiglu
public import Idealize.ShloMosaic.Lib.DynamicIndex
public import Idealize.ShloMosaic.Lib.Pipeline.Value
public import Idealize.ShloMosaic.Lib.Claim

@[expose] public section

set_option maxRecDepth 16384

noncomputable section

namespace Cert.ExpertsReferenceIdeal.Read

open Cert.ExpertsReferenceIdeal Cert.ExpertsReferenceIdeal.Gen Cert.ExpertsReferenceIdeal.Value Idealize.ShloMosaic
  Idealize.ShloMosaic.StableHlo Cert.Swiglu

/-- One slab of a stack of matrices, sliced out at a start that is in range. -/
theorem slab_apply {α : Type} {n a b : ℕ} (w : (⟨3, ![n, a, b]⟩ : Shape).Idx → α) (start : Fin 3 → Int)
    (h : (⟨3, ![n, a, b]⟩ : Shape).Slices (fun _ => 0) ⟨3, ![1, a, b]⟩) (e : Fin n) (h0 : start 0 = (e.val : Int)) (h1 : start 1 = 0) (h2 : start 2 = 0)
    (l : Fin a) (k : Fin b) : Host.dynamicSlice ⟨3, ![1, a, b]⟩ w start h (ix3 0 l k) = w (ix3 e l k) := by
  have s0 : Host.clampedStart ⟨3, ![n, a, b]⟩ ⟨3, ![1, a, b]⟩ h.1 start 0 = e.val := Host.clampedStart_of_le h.1 start 0 e.val h0 (by show e.val + 1 ≤ n; exact e.isLt)
  have s1 : Host.clampedStart ⟨3, ![n, a, b]⟩ ⟨3, ![1, a, b]⟩ h.1 start 1 = 0 := Host.clampedStart_of_le h.1 start 1 0 h1 (by show 0 + a ≤ a; omega)
  have s2 : Host.clampedStart ⟨3, ![n, a, b]⟩ ⟨3, ![1, a, b]⟩ h.1 start 2 = 0 := Host.clampedStart_of_le h.1 start 2 0 h2 (by show 0 + b ≤ b; omega)
  refine (Host.dynamicSlice_apply w start h _).trans (congrArg w (funext fun x => Fin.ext ?_))
  match x with
  | ⟨0, _⟩ => exact (congrArg (fun s => s + 0) s0)
  | ⟨1, _⟩ => exact (congrArg (fun s => s + l.val) s1).trans (Nat.zero_add _)
  | ⟨2, _⟩ => exact (congrArg (fun s => s + k.val) s2).trans (Nat.zero_add _)

/-- One slab of a stack of matrices written at a start that is in range: the slab there, the stack elsewhere. -/
theorem put_apply {α : Type} {n a b : ℕ} (w : (⟨3, ![n, a, b]⟩ : Shape).Idx → α) (u : (⟨3, ![1, a, b]⟩ : Shape).Idx → α) (start : Fin 3 → Int)
    (h : (⟨3, ![n, a, b]⟩ : Shape).Slices (fun _ => 0) ⟨3, ![1, a, b]⟩) (e : Fin n) (h0 : start 0 = (e.val : Int)) (h1 : start 1 = 0) (h2 : start 2 = 0)
    (i : Fin n) (l : Fin a) (k : Fin b) : Host.dynamicUpdateSlice w u start h (ix3 i l k) = if i = e then u (ix3 0 l k) else w (ix3 i l k) := by
  have s0 : Host.clampedStart ⟨3, ![n, a, b]⟩ ⟨3, ![1, a, b]⟩ h.1 start 0 = e.val := Host.clampedStart_of_le h.1 start 0 e.val h0 (by show e.val + 1 ≤ n; exact e.isLt)
  have s1 : Host.clampedStart ⟨3, ![n, a, b]⟩ ⟨3, ![1, a, b]⟩ h.1 start 1 = 0 := Host.clampedStart_of_le h.1 start 1 0 h1 (by show 0 + a ≤ a; omega)
  have s2 : Host.clampedStart ⟨3, ![n, a, b]⟩ ⟨3, ![1, a, b]⟩ h.1 start 2 = 0 := Host.clampedStart_of_le h.1 start 2 0 h2 (by show 0 + b ≤ b; omega)
  have hl := l.isLt
  have hk := k.isLt
  rw [Host.dynamicUpdateSlice_apply]
  by_cases hi : i = e
  · rw [if_pos hi, dif_pos]
    · refine congrArg u (funext fun x => Fin.ext ?_)
      match x with
      | ⟨0, _⟩ => exact (congrArg (fun s => i.val - s) s0).trans (by rw [hi]; exact Nat.sub_self _)
      | ⟨1, _⟩ => exact (congrArg (fun s => l.val - s) s1)
      | ⟨2, _⟩ => exact (congrArg (fun s => k.val - s) s2)
    · intro x
      match x with
      | ⟨0, _⟩ => exact ⟨le_of_eq_of_le s0 (by rw [hi]; exact le_refl _), lt_of_lt_of_eq (show i.val < e.val + 1 by rw [hi]; omega) (congrArg (fun s => s + 1) s0.symm)⟩
      | ⟨1, _⟩ => exact ⟨le_of_eq_of_le s1 (Nat.zero_le _), lt_of_lt_of_eq (show l.val < 0 + a by omega) (congrArg (fun s => s + a) s1.symm)⟩
      | ⟨2, _⟩ => exact ⟨le_of_eq_of_le s2 (Nat.zero_le _), lt_of_lt_of_eq (show k.val < 0 + b by omega) (congrArg (fun s => s + b) s2.symm)⟩
  · rw [if_neg hi, dif_neg]
    intro hin
    have h := hin 0
    have ha : e.val ≤ i.val := le_of_eq_of_le s0.symm h.1
    have hb : i.val < e.val + 1 := lt_of_lt_of_eq h.2 (congrArg (fun s => s + 1) s0)
    exact hi (Fin.ext (by omega))

/-- The rows of a one-slab stack. -/
theorem drop_rows (x : FVec Ideal S1x512x1024 .f32) (p : Fin 512) (l : Fin 1024) :
    shapeCast S512x1024 x shapeCasts_S1x512x1024_S512x1024 (ix2 p l) = x (ix3 0 p l) := by
  pointwise

/-- A one-slab stack of input-side weights, as a matrix. -/
theorem drop_in (x : FVec Ideal S1x1024x3584 .f32) (l : Fin 1024) (k : Fin 3584) :
    shapeCast S1024x3584 x shapeCasts_S1x1024x3584_S1024x3584 (ix2 l k) = x (ix3 0 l k) := by
  pointwise

/-- A one-slab stack of output-side weights, as a matrix. -/
theorem drop_out (x : FVec Ideal S1x3584x1024 .f32) (k : Fin 3584) (j : Fin 1024) :
    shapeCast S3584x1024 x shapeCasts_S1x3584x1024_S3584x1024 (ix2 k j) = x (ix3 0 k j) := by
  pointwise

/-- The feed-forward of one tile's rows with one expert's weights, as the reference writes it. -/
def block (x : FVec Ideal S512x1024 .f32) (w1 w3 : FVec Ideal S1024x3584 .f32) (w2 : FVec Ideal S3584x1024 .f32) : FVec Ideal S512x1024 .f32 :=
  Host.dotGeneral dot_S512x3584_S3584x1024_S512x1024_1_0_0_1_n_n none
    (mulf (mulf (Host.dotGeneral dot_S512x1024_S1024x3584_S512x3584_1_0_0_1_n_n none x w1)
      (Host.divf (broadcastInDim S512x3584 ![] bcast_S_S512x3584 (constant S_ .f32 0x3F800000#32))
        (addf (broadcastInDim S512x3584 ![] bcast_S_S512x3584 (constant S_ .f32 0x3F800000#32))
          (Host.exp (Host.negf (Host.dotGeneral dot_S512x1024_S1024x3584_S512x3584_1_0_0_1_n_n none x w1))))))
      (Host.dotGeneral dot_S512x1024_S1024x3584_S512x3584_1_0_0_1_n_n none x w3)) w2

/-- An element of a tile's feed-forward. -/
theorem block_apply (x : FVec Ideal S512x1024 .f32) (w1 w3 : FVec Ideal S1024x3584 .f32) (w2 : FVec Ideal S3584x1024 .f32) (p : Fin 512) (j : Fin 1024) :
    block x w1 w3 w2 (ix2 p j) = ffn (fun l => x (ix2 p l)) (fun l k => w1 (ix2 l k)) (fun l k => w3 (ix2 l k)) (fun k j => w2 (ix2 k j)) j := by
  pointwise [block, ffn, hid, act]

/-! ### One trip -/

variable (V : Valuation τ sig (Elt Ideal))

/-- The rows, tile by tile, as a trip reads them. -/
def rowsV : FVec Ideal S136x512x1024 .f32 := V (Proc.devRef .tc main_v2_0)
/-- The table of experts, as a trip reads it. -/
def tableV : IVec S136 32 := V (Proc.devRef .tc main_v2_1)
/-- The gate weights, as a trip reads them. -/
def gateV : FVec Ideal S8x1024x3584 .f32 := V (Proc.devRef .tc main_v2_2)
/-- The up weights, as a trip reads them. -/
def upV : FVec Ideal S8x1024x3584 .f32 := V (Proc.devRef .tc main_v2_3)
/-- The down weights, as a trip reads them. -/
def downV : FVec Ideal S8x3584x1024 .f32 := V (Proc.devRef .tc main_v2_4)
/-- The trip's number. -/
def countV : IVec S_ 32 := V (Proc.devRef .tc main_v2_5)
/-- The blocks written so far. -/
def accV : FVec Ideal S136x512x1024 .f32 := V (Proc.devRef .tc main_v2_6)

/-- The starts at trip number `i`: the block's, then zeros. -/
def startAt (i : IVec S_ 32) : Fin 3 → Int := fun k => ((![i, constantI S_ 32 0#32, constantI S_ 32 0#32] : Fin 3 → IVec S_ 32) k (Shape.Idx.first h_S_)).toInt

/-- The starts of an expert's slab in a stack of `a` by `b` matrices, negative words counted from the end. -/
def startOf (e : IVec S_ 32) (a b : BitVec 32) : Fin 3 → Int := fun k =>
  ((![select (cmpi .slt e (constantI S_ 32 0#32)) (addi e (constantI S_ 32 8#32)) e,
    select (cmpi .slt (constantI S_ 32 0#32) (constantI S_ 32 0#32)) (addi (constantI S_ 32 0#32) (constantI S_ 32 a)) (constantI S_ 32 0#32),
    select (cmpi .slt (constantI S_ 32 0#32) (constantI S_ 32 0#32)) (addi (constantI S_ 32 0#32) (constantI S_ 32 b)) (constantI S_ 32 0#32)] : Fin 3 → IVec S_ 32)
    k (Shape.Idx.first h_S_)).toInt

/-- The trip's word of the table. -/
def wordV : IVec S_ 32 := res_main_while0b_v11 V

/-- What a trip leaves in the accumulator. -/
theorem step_acc : accV (STEP V) = Host.dynamicUpdateSlice (accV V) (broadcastInDim S1x512x1024 ![1, 2] bcast_S512x1024_S1x512x1024_1_2
    (block (shapeCast S512x1024 (Host.dynamicSlice S1x512x1024 (rowsV V) (startAt (countV V)) sliceFits_S136x512x1024_S1x512x1024) shapeCasts_S1x512x1024_S512x1024)
      (shapeCast S1024x3584 (Host.dynamicSlice S1x1024x3584 (gateV V) (startOf (wordV V) 1024#32 3584#32) sliceFits_S8x1024x3584_S1x1024x3584) shapeCasts_S1x1024x3584_S1024x3584)
      (shapeCast S1024x3584 (Host.dynamicSlice S1x1024x3584 (upV V) (startOf (wordV V) 1024#32 3584#32) sliceFits_S8x1024x3584_S1x1024x3584) shapeCasts_S1x1024x3584_S1024x3584)
      (shapeCast S3584x1024 (Host.dynamicSlice S1x3584x1024 (downV V) (startOf (wordV V) 3584#32 1024#32) sliceFits_S8x3584x1024_S1x3584x1024) shapeCasts_S1x3584x1024_S3584x1024)))
    (startAt (countV V)) updateFits_S136x512x1024_S1x512x1024 :=
  STEP_main_v2_6 V

variable {V}

/-- The block's start at trip `k`. -/
theorem startAt_zero {i : IVec S_ 32} (k : Fin 136) (h : i = fun _ => BitVec.ofNat 32 k.val) : startAt i 0 = (k.val : Int) := by
  subst h
  exact Idealize.ShloMosaic.toInt_ofNat_of_lt (by have := k.isLt; omega)

/-- The trip's word is the table's entry `k`. -/
theorem word_eq (k : Fin 136) (h : countV V = fun _ => BitVec.ofNat 32 k.val) (i : S_.Idx) : wordV V i = tableV V (ix1 k) := by
  have hk : (BitVec.ofNat 32 k.val).toInt = (k.val : Int) := Idealize.ShloMosaic.toInt_ofNat_of_lt (by have := k.isLt; omega)
  have s0 : Host.clampedStart S136 S1 sliceFits_S136_S1.1 (fun x => ((![countV V] : Fin 1 → IVec S_ 32) x (Shape.Idx.first h_S_)).toInt) 0 = k.val :=
    Host.clampedStart_of_le _ _ 0 k.val (by rw [h]; exact hk) (by show k.val + 1 ≤ 136; exact k.isLt)
  have e : wordV V i = Host.dynamicSlice S1 (tableV V) (fun x => ((![countV V] : Fin 1 → IVec S_ 32) x (Shape.Idx.first h_S_)).toInt) sliceFits_S136_S1 (ix1 0) := by
    unfold wordV res_main_while0b_v11
    refine shapeCast_apply _ _ _ _ ?_
    exact congrArg Fin.val (Subsingleton.elim (α := Fin 1) _ _)
  rw [e]
  refine (Host.dynamicSlice_apply _ _ _ _).trans (congrArg (tableV V) (funext fun x => Fin.ext ?_))
  match x with
  | ⟨0, _⟩ => exact congrArg (fun s => s + 0) s0

/-- An expert's slab starts at its number. -/
theorem startOf_zero {w : IVec S_ 32} (v : BitVec 32) (hw : ∀ i, w i = v) (hv : v.toNat < 8) (a b : BitVec 32) (e : Fin 8) (he : e.val = v.toNat) :
    startOf w a b 0 = (e.val : Int) := by
  have hi : v.toInt = (v.toNat : Int) := by rw [BitVec.toInt_eq_toNat_cond, if_pos (by omega)]
  show (select (cmpi .slt w (constantI S_ 32 0#32)) (addi w (constantI S_ 32 8#32)) w (Shape.Idx.first h_S_)).toInt = _
  rw [select_slt_zero_of_nonneg w _ _ _ (by rw [hw, hi]; omega), hw, hi, he]

/-- A trip's accumulator, element by element: block `k` is tile `k`'s feed-forward, the others are as before. -/
theorem step_apply (k : Fin 136) (h : countV V = fun _ => BitVec.ofNat 32 k.val) (e : Fin 8) (he : e.val = (tableV V (ix1 k)).toNat)
    (b : Fin 136) (p : Fin 512) (j : Fin 1024) : accV (STEP V) (ix3 b p j) = if b = k then
      ffn (fun l => rowsV V (ix3 k p l)) (fun l n => gateV V (ix3 e l n)) (fun l n => upV V (ix3 e l n)) (fun n j => downV V (ix3 e n j)) j
      else accV V (ix3 b p j) := by
  have hs := startAt_zero k h
  have ho := fun a b => startOf_zero (w := wordV V) _ (word_eq k h) (by rw [← he]; exact e.isLt) a b e he
  rw [step_acc, put_apply _ _ _ _ k hs rfl rfl]
  refine if_congr Iff.rfl ?_ rfl
  have hb : ∀ y : FVec Ideal S512x1024 .f32, broadcastInDim S1x512x1024 ![1, 2] bcast_S512x1024_S1x512x1024_1_2 y (ix3 0 p j) = y (ix2 p j) := fun y => by pointwise
  rw [hb, block_apply]
  simp only [drop_rows, drop_in, drop_out, slab_apply _ _ _ k hs rfl rfl, slab_apply _ _ _ e (ho _ _) rfl rfl]

/-! ### All trips -/

variable (m : (ℓ : Loc nD τ sig) → Buf (Elt Ideal) ℓ) (c : Dev nD)

/-- The rows, tile by tile. -/
def tiles : FVec Ideal S136x512x1024 .f32 := shapeCast S136x512x1024 (m ((c.tc : Thread nD τ).loc main_arg0)) shapeCasts_S69632x1024_S136x512x1024

/-- The contents before trip `k`: the arguments and the trip's number; the blocks before `k` are written. -/
structure At (k : ℕ) (V : Valuation τ sig (Elt Ideal)) : Prop where
  rows : rowsV V = tiles m c
  table : tableV V = m ((c.tc : Thread nD τ).loc main_arg1)
  gate : gateV V = m ((c.tc : Thread nD τ).loc main_arg3)
  up : upV V = m ((c.tc : Thread nD τ).loc main_arg4)
  down : downV V = m ((c.tc : Thread nD τ).loc main_arg5)
  count : countV V = fun _ => BitVec.ofNat 32 k
  acc : ∀ (b : Fin 136) (p : Fin 512) (j : Fin 1024), accV V (ix3 b p j) = if b.val < k then
    have e := pick (fun i => m ((c.tc : Thread nD τ).loc main_arg1) (ix1 i)) b
    ffn (fun l => tiles m c (ix3 b p l)) (fun l n => m ((c.tc : Thread nD τ).loc main_arg3) (ix3 e l n))
      (fun l n => m ((c.tc : Thread nD τ).loc main_arg4) (ix3 e l n)) (fun n j => m ((c.tc : Thread nD τ).loc main_arg5) (ix3 e n j)) j else 0

/-- The loop's entry. -/
theorem at_zero : At m c 0 (entryContents preI m c) where
  rows := by
    show after hostOps0 (fun b => m (c, b)) (Proc.devRef .tc main_v2_0) = _
    entry_read
    rfl
  table := by
    show after hostOps0 (fun b => m (c, b)) (Proc.devRef .tc main_v2_1) = _
    entry_read
    rfl
  gate := by
    show after hostOps0 (fun b => m (c, b)) (Proc.devRef .tc main_v2_2) = _
    entry_read
    rfl
  up := by
    show after hostOps0 (fun b => m (c, b)) (Proc.devRef .tc main_v2_3) = _
    entry_read
    rfl
  down := by
    show after hostOps0 (fun b => m (c, b)) (Proc.devRef .tc main_v2_4) = _
    entry_read
    rfl
  count := by
    show after hostOps0 (fun b => m (c, b)) (Proc.devRef .tc main_v2_5) = _
    entry_read
    rfl
  acc := fun b p j => by
    rw [if_neg (Nat.not_lt_zero _)]
    show after hostOps0 (fun b => m (c, b)) (Proc.devRef .tc main_v2_6) (ix3 b p j) = _
    entry_read
    pointwise [id]

/-- One trip carries the contents on. -/
theorem at_succ (hE : ∀ i : S136.Idx, ((show IVec S136 32 from m ((c.tc : Thread nD τ).loc main_arg1)) i).toNat < 8) (k : Fin 136)
    (V : Valuation τ sig (Elt Ideal)) (h : At m c k.val V) : At m c (k.val + 1) (STEP V) where
  rows := (STEP_main_v2_0 V).trans h.rows
  table := (STEP_main_v2_1 V).trans h.table
  gate := (STEP_main_v2_2 V).trans h.gate
  up := (STEP_main_v2_3 V).trans h.up
  down := (STEP_main_v2_4 V).trans h.down
  count := by
    refine (STEP_main_v2_5 V).trans ?_
    show addi (countV V) (constantI S_ 32 1#32) = _
    rw [h.count]
    exact funext fun _ => (BitVec.ofNat_add k.val 1).symm
  acc := fun b p j => by
    have he : (pick (fun i => m ((c.tc : Thread nD τ).loc main_arg1) (ix1 i)) k).val = (tableV V (ix1 k)).toNat := by
      rw [h.table]
      exact Nat.mod_eq_of_lt (hE _)
    rw [step_apply k h.count _ he, h.acc, h.rows, h.gate, h.up, h.down]
    by_cases hb : b = k
    · subst hb
      rw [if_pos rfl, if_pos (Nat.lt_succ_self _)]
    · have hn : b.val ≠ k.val := fun e => hb (Fin.ext e)
      rw [if_neg hb]
      exact if_congr (by omega) rfl rfl

/-- The contents after `k` trips. -/
theorem at_iter (hE : ∀ i : S136.Idx, ((show IVec S136 32 from m ((c.tc : Thread nD τ).loc main_arg1)) i).toNat < 8) :
    ∀ k : ℕ, k ≤ 136 → At m c k (STEP^[k] (entryContents preI m c))
  | 0, _ => at_zero m c
  | k + 1, hk => by
    rw [Function.iterate_succ_apply']
    exact at_succ m c hE ⟨k, hk⟩ _ (at_iter hE k (by omega))

/-- The rows of a stack of tiles, one matrix. -/
theorem flat_apply (x : FVec Ideal S136x512x1024 .f32) (b : Fin 136) (p : Fin 512) (r : Fin 69632) (hr : r.val = 512 * b.val + p.val) (j : Fin 1024) :
    shapeCast S69632x1024 x shapeCasts_S136x512x1024_S69632x1024 (ix2 r j) = x (ix3 b p j) := by
  refine shapeCast_apply _ _ _ _ ?_
  rw [Shape.rowMajor_val_three, Shape.rowMajor_val_two]
  show (b.val * 512 + p.val) * 1024 + j.val = r.val * 1024 + j.val
  omega

/-- A tile's row is a row of the matrix. -/
theorem tiles_apply (b : Fin 136) (p : Fin 512) (r : Fin 69632) (hr : r.val = 512 * b.val + p.val) (l : Fin 1024) :
    tiles m c (ix3 b p l) = m ((c.tc : Thread nD τ).loc main_arg0) (ix2 r l) := by
  refine shapeCast_apply _ _ _ _ ?_
  show (S69632x1024.rowMajor (ix2 r l)).val = _
  rw [Shape.rowMajor_val_two, Shape.rowMajor_val_three]
  show r.val * 1024 + l.val = (b.val * 512 + p.val) * 1024 + l.val
  omega

/-- The cleared stack: tiles before the used count are kept, the rest are zero. -/
theorem clear_apply (n : IVec S1 32) (x : FVec Ideal S136x512x1024 .f32) (b : Fin 136) (p : Fin 512) (j : Fin 1024) :
    select (broadcastInDim S136x512x1024 ![0, 1, 2] bcast_S136x1x1_S136x512x1024_0_1_2 (cmpi .slt (broadcastInDim S136x1x1 ![0] bcast_S136_S136x1x1_0 (iotaInDim S136 32 0))
      (broadcastInDim S136x1x1 ![0, 1, 2] bcast_S1x1x1_S136x1x1_0_1_2 (broadcastInDim S1x1x1 ![2] bcast_S1_S1x1x1_2 n)))) x
      (broadcastInDim S136x512x1024 ![] bcast_S_S136x512x1024 (id (constant (F := Ideal) S_ .f32 0x00000000#32))) (ix3 b p j)
      = if IntOp.cmpi .slt (BitVec.ofNat 32 b.val) (n (ix1 0)) = 1#1 then x (ix3 b p j) else 0 := by
  pointwise [id]
  rfl

/-- The reference's result, element by element. -/
theorem res_apply (hE : ∀ i : S136.Idx, ((show IVec S136 32 from m ((c.tc : Thread nD τ).loc main_arg1)) i).toNat < 8) (r : Fin 69632) (j : Fin 1024) :
    out_main_v9 (STEP^[136] (entryContents preI m c)) (ix2 r j) = routed (fun r l => m ((c.tc : Thread nD τ).loc main_arg0) (ix2 r l))
      (fun i => m ((c.tc : Thread nD τ).loc main_arg1) (ix1 i)) (m ((c.tc : Thread nD τ).loc main_arg2) (ix1 0))
      (fun e l k => m ((c.tc : Thread nD τ).loc main_arg3) (ix3 e l k)) (fun e l k => m ((c.tc : Thread nD τ).loc main_arg4) (ix3 e l k))
      (fun e k j => m ((c.tc : Thread nD τ).loc main_arg5) (ix3 e k j)) r j := by
  have hr := r.isLt
  have hA := at_iter m c hE 136 le_rfl
  have hb : r.val = 512 * (⟨r.val / 512, by omega⟩ : Fin 136).val + (⟨r.val % 512, by omega⟩ : Fin 512).val := by simp only; omega
  unfold out_main_v9
  refine (flat_apply _ ⟨r.val / 512, by omega⟩ ⟨r.val % 512, by omega⟩ r hb j).trans ?_
  refine (clear_apply _ _ _ _ _).trans ?_
  rw [iter_main_arg2 m c 136]
  unfold routed
  refine if_congr Iff.rfl ?_ rfl
  refine (hA.acc _ _ _).trans ((if_pos (by simp only; omega)).trans ?_)
  exact congrArg (fun x => ffn x _ _ _ j) (funext fun l => tiles_apply m c _ _ r hb l)

end Cert.ExpertsReferenceIdeal.Read

end
-- ==== Proof.Experts.lean ====
/-
  The claims about the expert feed-forward: the kernel's frames at both readings, and that kernel and reference end with
  one result.
-/
module

public import proofs.«01_k».proof.Proof.ExpertsValue
public import proofs.«01_k».proof.Proof.ExpertsReference
public import proofs.«01_k».proof.Proof.Gen.Experts
public import proofs.«01_k».proof.Proof.Gen.Pre_tables_in_range
public import proofs.«01_k».proof.Defs

@[expose] public section

set_option maxRecDepth 16384

noncomputable section

namespace Cert.ExpertsIdeal.Result

open Cert.ExpertsIdeal Cert.ExpertsIdeal.Gen Cert.ExpertsIdeal.Tile Idealize.ShloMosaic Idealize.ShloMosaic.TcCoe Idealize.SL.Sem

section
variable {F : FTy → Type} [FloatOps F] (m : (ℓ : Loc nD τ sig) → Buf (Elt F) ℓ)

/-- Under the precondition each word of the table, as the kernel's index maps read it, is below 8. -/
theorem table_lt [Cert.Pre_tables_in_range.Facts]
    (h : Cert.Pre_tables_in_range.fn (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) = fun _ => 1#1) (i : S136.Idx) : (show BitVec 32 from tbl m 0 i).toNat < 8 := by
  have e : tbl m 0 = m (((0 : Dev nD) : Thread nD τ).loc main_arg1) := V_of_ne m 0 (b := main_arg1) (by decide) (by decide) (by decide)
  rw [e]
  exact lt_of_pre _ _ _ _ _ _ h i

end

/-- The kernel over the extended reals runs and leaves its arguments. -/
theorem frame_ideal : letI := Cert.ExpertsIdeal.Gen.facts; letI := Cert.Pre_tables_in_range.Gen.facts; Cert.quiescent_ExpertsIdeal :=
  fun m g h => letI := Cert.Pre_tables_in_range.Gen.facts
    frame m g (ok_of_lt m fun _ => table_lt m (h 0) _)

/-- The two programs' bodies are one. -/
theorem body_eq {F : FTy → Type} [FloatOps F] : (Cert.Experts.defs₀ (F := F)) = Cert.ExpertsIdeal.defs₀ (F := F) := by
  unfold Cert.Experts.defs₀ Cert.ExpertsIdeal.defs₀
  refine congrArg Defs.onTc (funext fun l => ?_)
  match l with
  | ⟨0, _⟩ => rfl

/-- The two programs' definitions are one. -/
theorem defs_eq {F : FTy → Type} [FloatOps F] : (Cert.Experts.defs (F := F)) = Cert.ExpertsIdeal.defs (F := F) :=
  congrArg (Pipeline.defs (Cert.Experts.pcfgs (F := F))) body_eq

set_option maxHeartbeats 4000000 in
/-- The kernel on machine words runs and leaves its arguments. -/
theorem frame_words : letI := Cert.Experts.Gen.facts; letI := Cert.Pre_tables_in_range.Gen.facts; Cert.quiescent_Experts := by
  intro m g h
  letI := Cert.Pre_tables_in_range.Gen.facts
  have e : ∀ i, (show BitVec 32 from tbl (F := Bits) m 0 i).toNat < 8 := table_lt (F := Bits) m (h 0)
  have r := frame (F := Bits) m g (ok_of_lt (F := Bits) m fun _ => e _)
  rw [defs_eq]
  exact r

/-- The reference runs and leaves its arguments. -/
theorem frame_reference : letI := Cert.ExpertsReferenceIdeal.Gen.facts; Cert.quiescent_ExpertsReferenceIdeal :=
  fun m g _ => (θ_run Cert.ExpertsReferenceIdeal.defs _ _).mono (fun _ h => ⟨fun c => (h c).2, funext fun s => nomatch s⟩) (Cert.ExpertsReferenceIdeal.Value.run m g)

/-- The same, of the initial memories that the precondition allows. -/
theorem frame_reference_pre : letI := Cert.ExpertsReferenceIdeal.Gen.facts; letI := Cert.Pre_tables_in_range.Gen.facts;
    Cert.quiescent_ExpertsReferenceIdeal_pre_tables_in_range :=
  fun m g _ => (θ_run Cert.ExpertsReferenceIdeal.defs _ _).mono (fun _ h => ⟨fun c => (h c).2, funext fun s => nomatch s⟩) (Cert.ExpertsReferenceIdeal.Value.run m g)

/-- The expert feed-forward's kernel computes what its reference computes. -/
theorem algebraic : letI := Cert.ExpertsIdeal.Gen.facts; letI := Cert.ExpertsReferenceIdeal.Gen.facts; letI := Cert.Pre_tables_in_range.Gen.facts;
    Cert.algebraic_ExpertsIdeal_ExpertsReferenceIdeal := by
  letI := Cert.Pre_tables_in_range.Gen.facts
  intro m g m' g' hpre hm
  have hE := table_lt m (hpre 0)
  have hO : Ok m := ok_of_lt m fun _ => hE _
  refine ⟨fun c => out m c, ?_, ?_⟩
  · refine (θ_run defs _ _).mono (fun r h c => ⟨((h.1 c).1 4).trans (final m hO hE c), ?_⟩) (run_main m g hO)
    exact ⟨((h.1 c).1 0).trans (((dats m hO 0 c).arrAt_in 0 rfl _).trans ((A_eq m hO c 0).trans (V_of_ne m c (b := main_arg0) (by decide) (by decide) (by decide)))),
      rest_eq m hO h.1 c main_arg1 (by decide) (by decide) (by decide) (by decide),
      rest_eq m hO h.1 c main_arg2 (by decide) (by decide) (by decide) (by decide),
      rest_eq m hO h.1 c main_arg3 (by decide) (by decide) (by decide) (by decide),
      rest_eq m hO h.1 c main_arg4 (by decide) (by decide) (by decide) (by decide),
      rest_eq m hO h.1 c main_arg5 (by decide) (by decide) (by decide) (by decide)⟩
  · refine (θ_run Cert.ExpertsReferenceIdeal.defs _ _).mono (fun r h c => ⟨(h c).1.trans ?_, (h c).2⟩)
      (Cert.ExpertsReferenceIdeal.Value.run m' g')
    obtain ⟨h0, h1, h2, h3, h4, h5⟩ := hm c
    have hE' : ∀ i : S136.Idx, ((show IVec S136 32 from m' ((c.tc : Thread Cert.ExpertsReferenceIdeal.nD Cert.ExpertsReferenceIdeal.τ).loc Cert.ExpertsReferenceIdeal.main_arg1)) i).toNat < 8 := by
      rw [h1]
      obtain rfl : c = 0 := Subsingleton.elim _ _
      rw [← tbl0 m]
      exact hE
    refine funext fun i => ?_
    rw [eq_ix2 i]
    refine (Cert.ExpertsReferenceIdeal.Read.res_apply m' c hE' (i 0) (i 1)).trans ?_
    rw [h0, h1, h2, h3, h4, h5]
    rfl

end Cert.ExpertsIdeal.Result

end
-- ==== Proof.OutProjReference.lean ====
/-
  The output projection's reference read element by element: a row of the three mixers' concatenated outputs times the
  projection, added to the scaled residual row, and the layer norm of that.
-/
module

public import proofs.«01_k».proof.Proof.Gen.OutProjReferenceIdeal.Run
public import proofs.«01_k».proof.Proof.Swiglu

@[expose] public section

noncomputable section

namespace Cert.Swiglu

/-- One row of the three mixers' outputs, side by side. -/
def joined (a : Fin 384 → EReal) (b : Fin 256 → EReal) (c : Fin 384 → EReal) (l : Fin 1024) : EReal :=
  if h : l.val < 384 then a ⟨l.val, h⟩
  else if h' : l.val - 384 < 256 then b ⟨l.val - 384, h'⟩ else c ⟨l.val - 384 - 256, by have := l.isLt; omega⟩

/-- Element `j` of a row entering the output projection's layer norm. -/
def mixed (x y : Fin 1024 → EReal) (w : Fin 1024 → Fin 1024 → EReal) (j : Fin 1024) : EReal :=
  Idealize.ShloMosaic.Ideal.ofBits .f32 0x3FB504F3#32 * x j + ∑ l, y l * w l j

end Cert.Swiglu

namespace Cert.OutProjReferenceIdeal.Read

open Cert.OutProjReferenceIdeal Cert.OutProjReferenceIdeal.Gen Idealize.ShloMosaic Cert.Swiglu

variable (a : FVec Ideal S32768x384 .bf16) (b : FVec Ideal S32768x256 .bf16) (c : FVec Ideal S32768x384 .bf16)
  (x : FVec Ideal S32768x1024 .f32) (w : FVec Ideal S1024x1024 .f32) (g o : FVec Ideal S1024 .f32)

/-- The three mixers' outputs side by side. -/
def cat : FVec Ideal S32768x1024 .bf16 :=
  concatenate S32768x1024 1 [⟨S32768x384, a⟩, ⟨S32768x256, b⟩, ⟨S32768x384, c⟩] concatenates_S32768x384_S32768x256_S32768x384_S32768x1024_d1

/-- The rows entering the reference's layer norm. -/
def pre : FVec Ideal S32768x1024 .f32 :=
  addf (mulf (broadcastInDim S32768x1024 ![] bcast_S_S32768x1024 (constant S_ .f32 0x3FB504F3#32)) x)
    (Host.dotGeneral dot_S32768x1024_S1024x1024_S32768x1024_1_0_0_1_n_n none (extf .f32 (cat a b c) bitsLt_bf16_f32) w)

/-- A row's mean, as a column. -/
def mean (y : FVec Ideal S32768x1024 .f32) : FVec Ideal S32768x1 .f32 :=
  Host.divf (broadcastInDim S32768x1 ![0] bcast_S32768_S32768x1_0
      (Host.reduceAdd y (constant S_ .f32 0x00000000#32) reducesTo_S32768x1024_S32768_d1 h_S_))
    (broadcastInDim S32768x1 ![] bcast_S_S32768x1 (constant S_ .f32 0x44800000#32))

/-- The rows less their means. -/
def centred (y : FVec Ideal S32768x1024 .f32) : FVec Ideal S32768x1024 .f32 :=
  subf y (broadcastInDim S32768x1024 ![0, 1] bcast_S32768x1_S32768x1024_0_1 (mean y))

/-- The reference's layer norm. -/
def norm (y : FVec Ideal S32768x1024 .f32) : FVec Ideal S32768x1024 .f32 :=
  addf (mulf (mulf (centred y) (broadcastInDim S32768x1024 ![0, 1] bcast_S32768x1_S32768x1024_0_1
      (Host.rsqrt (addf (mean (mulf (centred y) (centred y)))
        (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 o))

/-- An element of the joined row. -/
theorem cat_apply (r : Fin 32768) (l : Fin 1024) : cat a b c (ix2 r l)
    = joined (fun l => a (ix2 r l)) (fun l => b (ix2 r l)) (fun l => c (ix2 r l)) l := by
  pointwise [cat, joined]

/-- An element entering the layer norm. -/
theorem pre_apply (r : Fin 32768) (j : Fin 1024) : pre a b c x w (ix2 r j)
    = mixed (fun l => x (ix2 r l)) (joined (fun l => a (ix2 r l)) (fun l => b (ix2 r l)) (fun l => c (ix2 r l)))
        (fun l j => w (ix2 l j)) j := by
  unfold pre mixed
  simp only [← cat_apply]
  pointwise

/-- An element of the layer norm. -/
theorem norm_apply (y : FVec Ideal S32768x1024 .f32) (r : Fin 32768) (j : Fin 1024) : norm g o y (ix2 r j)
    = lnorm (fun l => y (ix2 r l)) (g (ix1 j)) (o (ix1 j)) j := by
  pointwise [norm, centred, mean, lnorm, Swiglu.mean]

/-- The reference's result, element by element. -/
theorem res_apply (r : Fin 32768) (j : Fin 1024) : norm g o (pre a b c x w) (ix2 r j)
    = lnorm (mixed (fun l => x (ix2 r l)) (joined (fun l => a (ix2 r l)) (fun l => b (ix2 r l)) (fun l => c (ix2 r l)))
        (fun l j => w (ix2 l j))) (g (ix1 j)) (o (ix1 j)) j := by
  rw [norm_apply]
  exact congrArg (fun y => lnorm y _ _ j) (funext fun l => pre_apply a b c x w r l)

variable (m : (ℓ : Loc nD τ sig) → Buf (Elt Ideal) ℓ) (d : Dev nD)

/-- The reference's result is the layer norm of `pre`. -/
theorem res_eq : Value.res_out0 m d = norm (m ((d.tc : Thread nD τ).loc main_arg5)) (m ((d.tc : Thread nD τ).loc main_arg6))
    (pre (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4))) := rfl

end Cert.OutProjReferenceIdeal.Read
end
-- ==== Proof.OutProj.lean ====
/-
  The output projection with its layer norm: one block of the kernel's result element by element, the whole array, and the
  equality with the reference.
-/
module

public import proofs.«01_k».proof.Proof.Gen.OutProjIdeal.Value
public import proofs.«01_k».proof.Proof.OutProjReference
public import proofs.«01_k».proof.Defs
public import Idealize.ShloMosaic.Lib.Pipeline.ValueKit

@[expose] public section

set_option maxRecDepth 16384

noncomputable section

namespace Cert.OutProjIdeal.Result

open Cert.OutProjIdeal Cert.OutProjIdeal.Gen Idealize.ShloMosaic Idealize.ShloMosaic.TcCoe Idealize.SL.Sem Cert.Swiglu

/-- A block's three mixers' outputs side by side. -/
def cat (a : Vec Ideal S512x384 .bf16) (b : Vec Ideal S512x256 .bf16) (c : Vec Ideal S512x384 .bf16) : FVec Ideal S512x1024 .bf16 :=
  concatenate S512x1024 1 [⟨S512x384, a⟩, ⟨S512x256, b⟩, ⟨S512x384, c⟩] concatenates_S512x384_S512x256_S512x384_S512x1024_d1

/-- The rows entering the kernel's layer norm. -/
def pre (y : FVec Ideal S512x1024 .bf16) (w : Vec Ideal S1024x1024 .bf16) (x : Vec Ideal S512x1024 .f32) : FVec Ideal S512x1024 .f32 :=
  addf (mulf (broadcast S512x1024 (Scalar.ofBits .f32 0x3FB504F3#32)) x)
    (matmul dot_S512x1024_S1024x1024_S512x1024_1_0_0_1_n_n none y
      (shapeCast S1024x1024 w shapeCasts_S1024x1024_S1024x1024 : FVec Ideal S1024x1024 .bf16)
      (constant S512x1024 .f32 0x00000000#32))

/-- The kernel's layer norm. -/
def norm (y : FVec Ideal S512x1024 .f32) (g o : Vec Ideal S1x1024 .f32) : FVec Ideal S512x1024 .f32 :=
  have mean : FVec Ideal S512x1024 .f32 → FVec Ideal S512x1 .f32 := fun z =>
    divf (shapeCast S512x1 (multiReduction .add [1] S512 z 0x00000000#32 reduces_S512x1024_S512 (.inl rfl) rfl) shapeCasts_S512_S512x1)
      (broadcast S512x1 (Scalar.ofBits .f32 0x44800000#32))
  have d : FVec Ideal S512x1024 .f32 := subf y (broadcastTo S512x1024 (mean y) broadcasts_S512x1_S512x1024)
  addf (mulf (mulf d (broadcastTo S512x1024 (rsqrt (addf (mean (mulf d d)) (broadcast S512x1 (Scalar.ofBits .f32 0x3727C5AC#32))))
      broadcasts_S512x1_S512x1024))
      (broadcastTo S512x1024 (shapeCast S1x1024 g shapeCasts_S1x1024_S1x1024) broadcasts_S1x1024_S512x1024))
    (broadcastTo S512x1024 (shapeCast S1x1024 o shapeCasts_S1x1024_S1x1024) broadcasts_S1x1024_S512x1024)

/-- The stored value is the layer norm of `pre` of the joined rows. -/
theorem pay_eq (a : Vec Ideal S512x384 .bf16) (b : Vec Ideal S512x256 .bf16) (c : Vec Ideal S512x384 .bf16)
    (w : Vec Ideal S1024x1024 .bf16) (x : Vec Ideal S512x1024 .f32) (g o : Vec Ideal S1x1024 .f32) :
    k0_pay1 a b c w x g o = norm (pre (cat a b c) w x) g o := rfl

theorem cat_apply (a : Vec Ideal S512x384 .bf16) (b : Vec Ideal S512x256 .bf16) (c : Vec Ideal S512x384 .bf16) (p : Fin 512)
    (l : Fin 1024) : cat a b c (ix2 p l) = joined (fun l => a (ix2 p l)) (fun l => b (ix2 p l)) (fun l => c (ix2 p l)) l := by
  pointwise [cat, joined]

theorem pre_apply (y : FVec Ideal S512x1024 .bf16) (w : Vec Ideal S1024x1024 .bf16) (x : Vec Ideal S512x1024 .f32) (p : Fin 512)
    (j : Fin 1024) : pre y w x (ix2 p j) = mixed (fun l => x (ix2 p l)) (fun l => y (ix2 p l)) (fun l j => w (ix2 l j)) j := by
  pointwise [pre, mixed]

theorem norm_apply (y : FVec Ideal S512x1024 .f32) (g o : Vec Ideal S1x1024 .f32) (p : Fin 512) (j : Fin 1024) :
    norm y g o (ix2 p j) = lnorm (fun l => y (ix2 p l)) (g (ix2 0 j)) (o (ix2 0 j)) j := by
  pointwise [norm, lnorm, mean]

/-- One block of the output, element by element. -/
theorem out_apply (x0 : Vec Ideal S512x384 .bf16) (x1 : Vec Ideal S512x256 .bf16) (x2 : Vec Ideal S512x384 .bf16)
    (x3 : Vec Ideal S512x1024 .f32) (x4 : Vec Ideal S1024x1024 .bf16) (x5 x6 : Vec Ideal S1x1024 .f32) (p : Fin 512) (j : Fin 1024) :
    out0_7 x0 x1 x2 x3 x4 x5 x6 (ix2 p j)
      = lnorm (mixed (fun l => x3 (ix2 p l)) (joined (fun l => x0 (ix2 p l)) (fun l => x1 (ix2 p l)) (fun l => x2 (ix2 p l)))
          (fun l j => x4 (ix2 l j))) (x5 (ix2 0 j)) (x6 (ix2 0 j)) j := by
  have ha : (![0, 0] : Fin S512x384.rank → ℕ) = fun _ => 0 := by decide
  have hb : (![0, 0] : Fin S512x256.rank → ℕ) = fun _ => 0 := by decide
  have hx : (![0, 0] : Fin S512x1024.rank → ℕ) = fun _ => 0 := by decide
  have hw : (![0, 0] : Fin S1024x1024.rank → ℕ) = fun _ => 0 := by decide
  have hg : (![0, 0] : Fin S1x1024.rank → ℕ) = fun _ => 0 := by decide
  unfold out0_7
  rw [View.canon_unit_zero hx, View.ld_unit_zero ha, View.ld_unit_zero hb, View.ld_unit_zero ha, View.ld_unit_zero hx,
    View.ld_unit_zero hw, View.ld_unit_zero hg, View.ld_unit_zero hg, pay_eq, norm_apply]
  refine congrArg (fun y => lnorm y _ _ j) (funext fun l => ?_)
  rw [pre_apply]
  exact congrArg (fun y => mixed _ y _ l) (funext fun k => cat_apply x0 x1 x2 p k)

variable (m : (ℓ : Loc nD τ sig) → Buf (Elt Ideal) ℓ) (ρ : Dev nD → PrngReg)

/-- Where each window's block sits: the row blocks move with the point, the projection and the two rows stay. -/
theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] := by
  decide +kernel

/-- The result array, element by element: the layer norm of the scaled residual row plus the projected joined row. -/
def out (c : Dev nD) : FVec Ideal S32768x1024 .f32 := fun i =>
  lnorm (mixed (fun l => m ((c : Thread nD τ).loc main_arg3) (ix2 (i 0) l))
    (joined (fun l => m ((c : Thread nD τ).loc main_arg0) (ix2 (i 0) l)) (fun l => m ((c : Thread nD τ).loc main_arg1) (ix2 (i 0) l))
      (fun l => m ((c : Thread nD τ).loc main_arg2) (ix2 (i 0) l)))
    (fun l j => m ((c : Thread nD τ).loc main_arg4) (ix2 l j)))
    (m ((c : Thread nD τ).loc main_arg5) (ix1 (i 1))) (m ((c : Thread nD τ).loc main_arg6) (ix1 (i 1))) (i 1)

theorem iblk0 (c : Dev nD) (t : Fin cfg0.N) (p : Fin 512) (l : Fin 384) (r : Fin 32768) (hr : r.val = 512 * t.val + p.val) :
    iblk m c 0 t (ix2 p l) = m ((c : Thread nD τ).loc main_arg0) (ix2 r l) := by
  blk_ext [iblk, V, idx t]

theorem iblk1 (c : Dev nD) (t : Fin cfg0.N) (p : Fin 512) (l : Fin 256) (r : Fin 32768) (hr : r.val = 512 * t.val + p.val) :
    iblk m c 1 t (ix2 p l) = m ((c : Thread nD τ).loc main_arg1) (ix2 r l) := by
  blk_ext [iblk, V, idx t]

theorem iblk2 (c : Dev nD) (t : Fin cfg0.N) (p : Fin 512) (l : Fin 384) (r : Fin 32768) (hr : r.val = 512 * t.val + p.val) :
    iblk m c 2 t (ix2 p l) = m ((c : Thread nD τ).loc main_arg2) (ix2 r l) := by
  blk_ext [iblk, V, idx t]

theorem iblk3 (c : Dev nD) (t : Fin cfg0.N) (p : Fin 512) (l : Fin 1024) (r : Fin 32768) (hr : r.val = 512 * t.val + p.val) :
    iblk m c 3 t (ix2 p l) = m ((c : Thread nD τ).loc main_arg3) (ix2 r l) := by
  blk_ext [iblk, V, idx t]

/-- The projection is read whole at every point. -/
theorem iblk4 (c : Dev nD) (t : Fin cfg0.N) (l j : Fin 1024) :
    iblk m c 4 t (ix2 l j) = m ((c : Thread nD τ).loc main_arg4) (ix2 l j) := by
  blk_ext [iblk, V, idx t]

/-- The gain enters as a one-row matrix. -/
theorem V5 (c : Dev nD) (k : Fin 1024) : V m c main_v1 (ix2 0 k) = m ((c : Thread nD τ).loc main_arg5) (ix1 k) := by
  entry_read
  pointwise

theorem iblk5 (c : Dev nD) (t : Fin cfg0.N) (k : Fin 1024) :
    iblk m c 5 t (ix2 0 k) = m ((c : Thread nD τ).loc main_arg5) (ix1 k) := by
  rw [← V5 m]
  blk_ext [iblk, idx t]

/-- The offset enters as a one-row matrix. -/
theorem V6 (c : Dev nD) (k : Fin 1024) : V m c main_v2 (ix2 0 k) = m ((c : Thread nD τ).loc main_arg6) (ix1 k) := by
  entry_read
  pointwise

theorem iblk6 (c : Dev nD) (t : Fin cfg0.N) (k : Fin 1024) :
    iblk m c 6 t (ix2 0 k) = m ((c : Thread nD τ).loc main_arg6) (ix1 k) := by
  rw [← V6 m]
  blk_ext [iblk, idx t]

/-- The output array after the run. -/
theorem final (c : Dev nD) : (dats m 0 c).arrAt 7 cfg0.N = out m c := by
  refine (dats m 0 c).arrAt_eq_of_covers 7 _ (by decide +kernel) fun t hf y => ?_
  blk_simp
  rw [after0_7]
  idx_vars y
  have hr : 512 * t.val + y0.val < 32768 := by have ht : t.val < 64 := lt_of_lt_of_eq t.isLt N_0; have := y0.isLt; omega
  have he : (win0_7.blk t).view.emb (ix2 y0 y1) = ix2 ⟨512 * t.val + y0.val, hr⟩ y1 := by
    blk_point [idx t]
  rw [out_apply, he]
  simp only [iblk0 m c t y0 _ ⟨512 * t.val + y0.val, hr⟩ rfl, iblk1 m c t y0 _ ⟨512 * t.val + y0.val, hr⟩ rfl,
    iblk2 m c t y0 _ ⟨512 * t.val + y0.val, hr⟩ rfl, iblk3 m c t y0 _ ⟨512 * t.val + y0.val, hr⟩ rfl, iblk4, iblk5, iblk6]
  rfl

/-- The output projection's kernel computes what its reference computes. -/
theorem algebraic : letI := Cert.OutProjIdeal.Gen.facts; letI := Cert.OutProjReferenceIdeal.Gen.facts;
    Cert.algebraic_OutProjIdeal_OutProjReferenceIdeal := by
  intro m g m' g' _ hm
  refine ⟨fun c => out m c, ?_, ?_⟩
  · exact (θ_run defs _ _).mono (fun r h c => ⟨(h c).1.trans (final m c), (h c).2⟩) (Cert.OutProjIdeal.Value.run_blocks m g)
  · refine (θ_run Cert.OutProjReferenceIdeal.defs _ _).mono (fun r h c => ⟨(h c).1.trans ?_, (h c).2⟩)
      (Cert.OutProjReferenceIdeal.Value.run m' g')
    obtain ⟨h0, h1, h2, h3, h4, h5, h6⟩ := hm c
    refine (Cert.OutProjReferenceIdeal.Read.res_eq m' c).trans (funext fun i => ?_)
    rw [h0, h1, h2, h3, h4, h5, h6, eq_ix2 i]
    exact Cert.OutProjReferenceIdeal.Read.res_apply _ _ _ _ _ _ _ (i 0) (i 1)

end Cert.OutProjIdeal.Result
end
-- ==== Proof.InProjPieces.lean ====
/-
  What the input projection's body stores, as short expressions: the two sliding buffers (a head of past rows, then the block's
  own 512 rows), the seven shifted copies, the windowed sums taken from them 128 rows at a time, and the products.
-/
module

public import proofs.«01_k».proof.Proof.Gen.InProjIdeal.Frame

@[expose] public section

set_option maxRecDepth 16384

noncomputable section

namespace Cert.InProjIdeal.Pieces

open Cert.InProjIdeal Cert.InProjIdeal.Gen Idealize.ShloMosaic Idealize.ShloMosaic.TcCoe Idealize.ShloMosaic.Tactic

variable {F : FTy → Type} [FloatOps F]

/-- The gated rows' buffer: 32 rows kept from before, then the block's 512. -/
def buf32 (hd : Vec F S32x256 .f32) (u : Vec F S512x256 .f32) : List (View.Piece (Elt F) S544x256 .f32) :=
  [⟨Rect.unit ![32, 0] S512x256.size inb_S544x256_S512x256_32_0, u⟩, ⟨Rect.unit ![0, 0] S32x256.size inb_S544x256_S32x256_0_0, hd⟩]

/-- The projected rows' buffer: 8 rows kept from before, then the block's 512. -/
def buf8 (hd : Vec F S8x1152 .f32) (u : Vec F S512x1152 .f32) : List (View.Piece (Elt F) S520x1152 .f32) :=
  [⟨Rect.unit ![8, 0] S512x1152.size inb_S520x1152_S512x1152_8_0, u⟩, ⟨Rect.unit ![0, 0] S8x1152.size inb_S520x1152_S8x1152_0_0, hd⟩]

theorem inb_rows {n k w o : ℕ} (h : o + k ≤ n) :
    ∀ a, (![o, 0] : Fin 2 → ℕ) a + (⟨2, ![k, w]⟩ : Shape).size a ≤ (⟨2, ![n, w]⟩ : Shape).size a :=
  Fin.forall_fin_two.mpr ⟨h, (Nat.zero_add _).le⟩

theorem inb_slab {m n k w p o : ℕ} (hp : p + 1 ≤ m) (h : o + k ≤ n) :
    ∀ a, (![p, o, 0] : Fin 3 → ℕ) a + (⟨3, ![1, k, w]⟩ : Shape).size a ≤ (⟨3, ![m, n, w]⟩ : Shape).size a :=
  Fin.forall_fin_succ.mpr ⟨hp, Fin.forall_fin_two.mpr ⟨h, (Nat.zero_add _).le⟩⟩

/-- The buffer's copy shifted by `p + 1` rows. -/
def shifted (arg18 : Memref sig .tc .vmem S544x256 .f32) (L : List (View.Piece (Elt F) S544x256 .f32)) (p : Fin 7) : View.Piece (Elt F) S7x536x256 .f32 :=
  ⟨Rect.unit ![p.val, 0, 0] S1x536x256.size (inb_slab p.isLt (by decide)),
    shapeCast S1x536x256 (arg18.view.readCov L (Rect.unit (s := S544x256) ![p.val + 1, 0] S536x256.size
      (inb_rows (by have := p.isLt; omega))).toLoadRect) shapeCasts_S536x256_S1x536x256⟩

/-- The seven shifted copies. -/
def copies (arg18 : Memref sig .tc .vmem S544x256 .f32) (L : List (View.Piece (Elt F) S544x256 .f32)) : List (View.Piece (Elt F) S7x536x256 .f32) :=
  [shifted arg18 L 6, shifted arg18 L 5, shifted arg18 L 4, shifted arg18 L 3, shifted arg18 L 2, shifted arg18 L 1, shifted arg18 L 0]

/-- Rows `lo … lo + 127` of the buffer, taken from the copy `lo` reaches with a multiple of eight. -/
def tap (arg18 : Memref sig .tc .vmem S544x256 .f32) (arg19 : Memref sig .tc .vmem S7x536x256 .f32)
    (L : List (View.Piece (Elt F) S544x256 .f32)) (lo : ℕ) (h : lo ≤ 416) : FVec F S128x256 .f32 :=
  if h8 : lo % 8 = 0 then
    arg18.view.readCov L (Rect.unit (s := S544x256) ![lo, 0] S128x256.size (inb_rows (by omega))).toLoadRect
  else
    shapeCast S128x256 (arg19.view.readCov (copies arg18 L) (Rect.unit (s := S7x536x256) ![lo % 8 - 1, lo - lo % 8, 0] S1x128x256.size
      (inb_slab (by omega) (by omega))).toLoadRect) shapeCasts_S1x128x256_S128x256

/-- Row `j` of the 31 weight rows. -/
def wrow (arg5 : Memref sig .tc .vmem S31x256 .f32) (harg5 : arg5.IsWhole) (x4 : Vec F S31x256 .f32) (j : Fin 31) : Vec F S1x256 .f32 :=
  View.readAt (Elt F) arg5.view (Rect.unit (s := S31x256) ![j.val, 0] S1x256.size (inb_rows j.isLt)).toLoadRect (harg5.unread x4)

/-- The bias plus the 31 weighted taps, in order. -/
def window (cb : Vec F S1x256 .f32) (w : Fin 31 → Vec F S1x256 .f32) (T : Fin 31 → FVec F S128x256 .f32) : FVec F S128x256 .f32 :=
  ([0, 1, 2, 3, 4, 5, 6, 7, 8, 9, 10, 11, 12, 13, 14, 15, 16, 17, 18, 19, 20, 21, 22, 23, 24, 25, 26, 27, 28, 29, 30] : List (Fin 31)).foldl
    (fun acc j => addf acc (mulf (broadcastTo S128x256 (w j) broadcasts_S1x256_S128x256) (T j)))
    (addf (broadcast S128x256 (Scalar.ofBits .f32 0x00000000#32))
      (broadcastTo S128x256 (shapeCast S1x256 cb shapeCasts_S1x256_S1x256) broadcasts_S1x256_S128x256))

/-- The layer norm, activation and mixing scale of 128 rows. -/
def finish (y : FVec F S128x256 .f32) (g b s : Vec F S1x256 .f32) : FVec F S128x256 .bf16 :=
  have mean : FVec F S128x256 .f32 → FVec F S128x1 .f32 := fun z =>
    divf (shapeCast S128x1 (multiReduction .add [1] S128 z 0x00000000#32 reduces_S128x256_S128 (.inl rfl) rfl) shapeCasts_S128_S128x1)
      (broadcast S128x1 (Scalar.ofBits .f32 0x43800000#32))
  have d : FVec F S128x256 .f32 := subf y (broadcastTo S128x256 (mean y) broadcasts_S128x1_S128x256)
  have n : FVec F S128x256 .f32 := addf (mulf (mulf d (broadcastTo S128x256 (rsqrt (addf (mean (mulf d d)) (broadcast S128x1 (Scalar.ofBits .f32 0x3727C5AC#32))))
      broadcasts_S128x1_S128x256))
      (broadcastTo S128x256 (shapeCast S1x256 g shapeCasts_S1x256_S1x256) broadcasts_S1x256_S128x256))
    (broadcastTo S128x256 (shapeCast S1x256 b shapeCasts_S1x256_S1x256) broadcasts_S1x256_S128x256)
  truncf .bf16 (mulf (mulf n (divf (broadcast S128x256 (Scalar.ofBits .f32 0x3F800000#32))
      (addf (broadcast S128x256 (Scalar.ofBits .f32 0x3F800000#32)) (exp (subf (broadcast S128x256 (Scalar.ofBits .f32 0x00000000#32)) n)))))
    (broadcastTo S128x256 (shapeCast S1x256 s shapeCasts_S1x256_S1x256) broadcasts_S1x256_S128x256)) bitsLt_bf16_f32

/-- Row `k` of the four weight rows. -/
def wrow4 (arg4 : Memref sig .tc .vmem S4x1152 .f32) (harg4 : arg4.IsWhole) (x3 : Vec F S4x1152 .f32) (k : Fin 4) : Vec F S1x1152 .f32 :=
  View.readAt (Elt F) arg4.view (Rect.unit (s := S4x1152) ![k.val, 0] S1x1152.size (inb_rows k.isLt)).toLoadRect (harg4.unread x3)

/-- Rows `lo … lo + 127` of the projected rows' buffer. -/
def tap4 (arg17 : Memref sig .tc .vmem S520x1152 .f32) (L : List (View.Piece (Elt F) S520x1152 .f32)) (lo : ℕ) (h : lo ≤ 392) : FVec F S128x1152 .f32 :=
  arg17.view.readCov L (Rect.unit (s := S520x1152) ![lo, 0] S128x1152.size (inb_rows (by omega))).toLoadRect

/-- The four weighted taps, activated. -/
def window4 (w : Fin 4 → Vec F S1x1152 .f32) (T : Fin 4 → FVec F S128x1152 .f32) : FVec F S128x1152 .f32 :=
  have y : FVec F S128x1152 .f32 := ([0, 1, 2, 3] : List (Fin 4)).foldl
    (fun acc j => addf acc (mulf (broadcastTo S128x1152 (w j) broadcasts_S1x1152_S128x1152) (T j)))
    (broadcast S128x1152 (Scalar.ofBits .f32 0x00000000#32))
  mulf y (divf (broadcast S128x1152 (Scalar.ofBits .f32 0x3F800000#32))
      (addf (broadcast S128x1152 (Scalar.ofBits .f32 0x3F800000#32)) (exp (subf (broadcast S128x1152 (Scalar.ofBits .f32 0x00000000#32)) y))))

/-- Rows `128 b …` of the windowed branch. -/
def rowsOb (arg5 : Memref sig .tc .vmem S31x256 .f32) (harg5 : arg5.IsWhole) (arg18 : Memref sig .tc .vmem S544x256 .f32)
    (arg19 : Memref sig .tc .vmem S7x536x256 .f32) (L : List (View.Piece (Elt F) S544x256 .f32)) (x4 : Vec F S31x256 .f32)
    (cb g b s : Vec F S1x256 .f32) (k : Fin 4) : View.Piece (Elt F) S512x256 .bf16 :=
  ⟨Rect.unit (s := S512x256) ![128 * k.val, 0] S128x256.size (inb_rows (by have := k.isLt; omega)),
    finish (window cb (wrow arg5 harg5 x4) fun j => tap arg18 arg19 L (128 * k.val + 2 + j.val) (by have := k.isLt; have := j.isLt; omega)) g b s⟩

/-- The windowed branch's four stores. -/
def piecesOb (arg5 : Memref sig .tc .vmem S31x256 .f32) (harg5 : arg5.IsWhole) (arg18 : Memref sig .tc .vmem S544x256 .f32)
    (arg19 : Memref sig .tc .vmem S7x536x256 .f32) (L : List (View.Piece (Elt F) S544x256 .f32)) (x4 : Vec F S31x256 .f32)
    (cb g b s : Vec F S1x256 .f32) : List (View.Piece (Elt F) S512x256 .bf16) :=
  [rowsOb arg5 harg5 arg18 arg19 L x4 cb g b s 3, rowsOb arg5 harg5 arg18 arg19 L x4 cb g b s 2,
    rowsOb arg5 harg5 arg18 arg19 L x4 cb g b s 1, rowsOb arg5 harg5 arg18 arg19 L x4 cb g b s 0]

/-- Rows `128 b …` of the four-tap branch. -/
def rowsQ (arg4 : Memref sig .tc .vmem S4x1152 .f32) (harg4 : arg4.IsWhole) (arg17 : Memref sig .tc .vmem S520x1152 .f32)
    (L : List (View.Piece (Elt F) S520x1152 .f32)) (x3 : Vec F S4x1152 .f32) (k : Fin 4) : View.Piece (Elt F) S512x1152 .f32 :=
  ⟨Rect.unit (s := S512x1152) ![128 * k.val, 0] S128x1152.size (inb_rows (by have := k.isLt; omega)),
    window4 (wrow4 arg4 harg4 x3) fun j => tap4 arg17 L (128 * k.val + 5 + j.val) (by have := k.isLt; have := j.isLt; omega)⟩

/-- The four-tap branch's four stores. -/
def piecesQ (arg4 : Memref sig .tc .vmem S4x1152 .f32) (harg4 : arg4.IsWhole) (arg17 : Memref sig .tc .vmem S520x1152 .f32)
    (L : List (View.Piece (Elt F) S520x1152 .f32)) (x3 : Vec F S4x1152 .f32) : List (View.Piece (Elt F) S512x1152 .f32) :=
  [rowsQ arg4 harg4 arg17 L x3 3, rowsQ arg4 harg4 arg17 L x3 2, rowsQ arg4 harg4 arg17 L x3 1, rowsQ arg4 harg4 arg17 L x3 0]

/-- A one-row operand, read whole. -/
abbrev row (a : Memref sig .tc .vmem S1x256 .f32) (ha : a.IsWhole) (x : Vec F S1x256 .f32) : Vec F S1x256 .f32 :=
  View.readAt (Elt F) a.view (Rect.unit (s := S1x256) ![0, 0] S1x256.size inb_S1x256_S1x256_0_0).toLoadRect (ha.unread x)

/-- The block's rows, read whole. -/
abbrev rows (a : Memref sig .tc .vmem S512x1024 .f32) (ha : a.IsWhole) (x : Vec F S512x1024 .f32) : Vec F S512x1024 .f32 :=
  View.readAt (Elt F) a.view (Rect.unit (s := S512x1024) ![0, 0] S512x1024.size inb_S512x1024_S512x1024_0_0).toLoadRect (ha.unread x)

/-- Columns `o …` of the wide weight. -/
abbrev colsQ (a : Memref sig .tc .vmem S1024x3200 .bf16) (ha : a.IsWhole) (x : Vec F S1024x3200 .bf16) : Vec F S1024x1152 .bf16 :=
  View.readAt (Elt F) a.view (Rect.unit (s := S1024x3200) ![0, 0] S1024x1152.size inb_S1024x3200_S1024x1152_0_0).toLoadRect (ha.unread x)

/-- The gated branch's columns of the wide weight. -/
abbrev colsU (a : Memref sig .tc .vmem S1024x3200 .bf16) (ha : a.IsWhole) (x : Vec F S1024x3200 .bf16) : Vec F S1024x512 .bf16 :=
  View.readAt (Elt F) a.view (Rect.unit (s := S1024x3200) ![0, 1536] S1024x512.size inb_S1024x3200_S1024x512_0_1536).toLoadRect (ha.unread x)

/-- 384 columns of the wide weight, from column `o`. -/
abbrev cols (a : Memref sig .tc .vmem S1024x3200 .bf16) (ha : a.IsWhole) (x : Vec F S1024x3200 .bf16) (o : ℕ) (h : o ≤ 2816) :
    Vec F S1024x384 .bf16 :=
  View.readAt (Elt F) a.view (Rect.unit (s := S1024x3200) ![0, o] S1024x384.size
    (Fin.forall_fin_two.mpr ⟨le_rfl, Nat.add_le_add_right h 384⟩)).toLoadRect (ha.unread x)

/-- The narrow weight, read whole. -/
abbrev narrow (a : Memref sig .tc .vmem S1024x256 .bf16) (ha : a.IsWhole) (x : Vec F S1024x256 .bf16) : Vec F S1024x256 .bf16 :=
  View.readAt (Elt F) a.view (Rect.unit (s := S1024x256) ![0, 0] S1024x256.size inb_S1024x256_S1024x256_0_0).toLoadRect (ha.unread x)

/-- The narrow weight's first half. -/
abbrev half (a : Memref sig .tc .vmem S1024x256 .bf16) (ha : a.IsWhole) (x : Vec F S1024x256 .bf16) : Vec F S1024x128 .bf16 :=
  View.readAt (Elt F) a.view (Rect.unit (s := S1024x256) ![0, 0] S1024x128.size inb_S1024x256_S1024x128_0_0).toLoadRect (ha.unread x)

/-- One store of a whole block. -/
abbrev one {n w : ℕ} {e : EltTy} (h : ∀ a, (![0, 0] : Fin 2 → ℕ) a + (⟨2, ![n, w]⟩ : Shape).size a ≤ (⟨2, ![n, w]⟩ : Shape).size a)
    (v : Vec F ⟨2, ![n, w]⟩ e) : List (View.Piece (Elt F) ⟨2, ![n, w]⟩ e) :=
  [⟨Rect.unit (s := ⟨2, ![n, w]⟩) ![0, 0] (⟨2, ![n, w]⟩ : Shape).size h, v⟩]

variable (c : Dev nD) (i : grid0.Coords) (arg1 : Memref sig .tc .vmem S512x1024 .f32) (harg1 : arg1.IsWhole)
  (arg2 : Memref sig .tc .vmem S1024x3200 .bf16) (harg2 : arg2.IsWhole) (arg3 : Memref sig .tc .vmem S1024x256 .bf16)
  (harg3 : arg3.IsWhole) (arg4 : Memref sig .tc .vmem S4x1152 .f32) (harg4 : arg4.IsWhole)
  (arg5 : Memref sig .tc .vmem S31x256 .f32) (harg5 : arg5.IsWhole) (arg6 : Memref sig .tc .vmem S1x256 .f32)
  (harg6 : arg6.IsWhole) (arg7 : Memref sig .tc .vmem S1x256 .f32) (harg7 : arg7.IsWhole)
  (arg8 : Memref sig .tc .vmem S1x256 .f32) (harg8 : arg8.IsWhole) (arg9 : Memref sig .tc .vmem S1x256 .f32)
  (harg9 : arg9.IsWhole) (arg10 : Memref sig .tc .vmem S512x1152 .f32) (harg10 : arg10.IsWhole)
  (arg11 : Memref sig .tc .vmem S512x384 .f32) (harg11 : arg11.IsWhole) (arg12 : Memref sig .tc .vmem S512x256 .bf16)
  (harg12 : arg12.IsWhole) (arg13 : Memref sig .tc .vmem S512x384 .bf16) (harg13 : arg13.IsWhole)
  (arg14 : Memref sig .tc .vmem S512x384 .bf16) (harg14 : arg14.IsWhole) (arg15 : Memref sig .tc .vmem S512x384 .bf16)
  (harg15 : arg15.IsWhole) (arg16 : Memref sig .tc .vmem S512x128 .f32) (harg16 : arg16.IsWhole)
  (arg17 : Memref sig .tc .vmem S520x1152 .f32) (harg17 : arg17.IsWhole) (arg18 : Memref sig .tc .vmem S544x256 .f32)
  (harg18 : arg18.IsWhole) (arg19 : Memref sig .tc .vmem S7x536x256 .f32) (harg19 : arg19.IsWhole)

section A

variable (hc0 : cond0_0 i) (hc1 : ¬cond0_1 i)
variable (x0 : Vec F S512x1024 .f32) (x1 : Vec F S1024x3200 .bf16) (x2 : Vec F S1024x256 .bf16) (x3 : Vec F S4x1152 .f32)
  (x4 : Vec F S31x256 .f32) (x5 : Vec F S1x256 .f32) (x6 : Vec F S1x256 .f32) (x7 : Vec F S1x256 .f32) (x8 : Vec F S1x256 .f32)
  (xs0 : Vec F S520x1152 .f32) (xs1 : Vec F S544x256 .f32)

theorem runA_s1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.2.2.2.1
    = buf32 (shapeCast S32x256 (broadcast S32x256 (Scalar.ofBits .f32 0x00000000#32)) shapeCasts_S32x256_S32x256)
        (k0_pay7 (rows arg1 harg1 x0) (colsU arg2 harg2 x1)) := by
  sl_kernel_rfl

theorem runA_s0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.2.2.1
    = buf8 (shapeCast S8x1152 (broadcast S8x1152 (Scalar.ofBits .f32 0x00000000#32)) shapeCasts_S8x1152_S8x1152)
        (k0_pay67 (k0_pay2 (rows arg1 harg1 x0)) (colsQ arg2 harg2 x1)) := by
  sl_kernel_rfl

theorem runA_q : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).1
    = piecesQ arg4 harg4 arg17 (buf8 (shapeCast S8x1152 (broadcast S8x1152 (Scalar.ofBits .f32 0x00000000#32)) shapeCasts_S8x1152_S8x1152)
        (k0_pay67 (k0_pay2 (rows arg1 harg1 x0)) (colsQ arg2 harg2 x1))) x3 := by
  sl_kernel_rfl

theorem runA_ob : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.1
    = piecesOb arg5 harg5 arg18 arg19 (buf32 (shapeCast S32x256 (broadcast S32x256 (Scalar.ofBits .f32 0x00000000#32)) shapeCasts_S32x256_S32x256)
        (k0_pay7 (rows arg1 harg1 x0) (colsU arg2 harg2 x1))) x4 (row arg6 harg6 x5) (row arg7 harg7 x6) (row arg8 harg8 x7)
        (row arg9 harg9 x8) := by
  sl_kernel_rfl

theorem runA_gate : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.1
    = one inb_S512x384_S512x384_0_0 (k0_pay77 (k0_pay2 (rows arg1 harg1 x0)) (cols arg2 harg2 x1 1152 (by decide))) := by
  sl_kernel_rfl

theorem runA_fq : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.1
    = one inb_S512x384_S512x384_0_0 (k0_pay78 (k0_pay2 (rows arg1 harg1 x0)) (cols arg2 harg2 x1 2048 (by decide))) := by
  sl_kernel_rfl

theorem runA_fk : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.1
    = one inb_S512x384_S512x384_0_0 (k0_pay79 (k0_pay2 (rows arg1 harg1 x0)) (cols arg2 harg2 x1 2432 (by decide))) := by
  sl_kernel_rfl

theorem runA_fv : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.1
    = one inb_S512x384_S512x384_0_0 (k0_pay80 (k0_pay2 (rows arg1 harg1 x0)) (cols arg2 harg2 x1 2816 (by decide))) := by
  sl_kernel_rfl

theorem runA_small : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8).2.2.2.2.2.2.1
    = one inb_S512x128_S512x128_0_0 (k0_pay1 (rows arg1 harg1 x0) (k0_pay2 (rows arg1 harg1 x0)) (narrow arg3 harg3 x2) (half arg3 harg3 x2)) := by
  sl_kernel_rfl

end A

section B

variable (hc0 : ¬cond0_0 i) (hc1 : cond0_1 i)
variable (x0 : Vec F S512x1024 .f32) (x1 : Vec F S1024x3200 .bf16) (x2 : Vec F S1024x256 .bf16) (x3 : Vec F S4x1152 .f32)
  (x4 : Vec F S31x256 .f32) (x5 : Vec F S1x256 .f32) (x6 : Vec F S1x256 .f32) (x7 : Vec F S1x256 .f32) (x8 : Vec F S1x256 .f32)
  (xs0 : Vec F S520x1152 .f32) (xs1 : Vec F S544x256 .f32)

/-- The 32 rows kept for the gated branch: the last of the buffer left before. -/
abbrev kept32 : Vec F S32x256 .f32 :=
  shapeCast S32x256 (View.readAt (Elt F) arg18.view (Rect.unit (s := S544x256) ![512, 0] S32x256.size inb_S544x256_S32x256_512_0).toLoadRect
    (harg18.unread xs1)) shapeCasts_S32x256_S32x256

/-- The 8 rows kept for the four-tap branch: the last of the buffer left before. -/
abbrev kept8 : Vec F S8x1152 .f32 :=
  shapeCast S8x1152 (View.readAt (Elt F) arg17.view (Rect.unit (s := S520x1152) ![512, 0] S8x1152.size inb_S520x1152_S8x1152_512_0).toLoadRect
    (harg17.unread xs0)) shapeCasts_S8x1152_S8x1152

theorem runB_s1 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.2.2.2.2.2.1
    = buf32 (kept32 arg18 harg18 xs1) (k0_pay7 (rows arg1 harg1 x0) (colsU arg2 harg2 x1)) := by
  sl_kernel_rfl

theorem runB_s0 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.2.2.2.2.1
    = buf8 (kept8 arg17 harg17 xs0) (k0_pay67 (k0_pay2 (rows arg1 harg1 x0)) (colsQ arg2 harg2 x1)) := by
  sl_kernel_rfl

theorem runB_q : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).1
    = piecesQ arg4 harg4 arg17 (buf8 (kept8 arg17 harg17 xs0) (k0_pay67 (k0_pay2 (rows arg1 harg1 x0)) (colsQ arg2 harg2 x1))) x3 := by
  sl_kernel_rfl

theorem runB_ob : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.1
    = piecesOb arg5 harg5 arg18 arg19 (buf32 (kept32 arg18 harg18 xs1) (k0_pay7 (rows arg1 harg1 x0) (colsU arg2 harg2 x1))) x4
        (row arg6 harg6 x5) (row arg7 harg7 x6) (row arg8 harg8 x7) (row arg9 harg9 x8) := by
  sl_kernel_rfl

theorem runB_gate : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.1
    = one inb_S512x384_S512x384_0_0 (k0_pay77 (k0_pay2 (rows arg1 harg1 x0)) (cols arg2 harg2 x1 1152 (by decide))) := by
  sl_kernel_rfl

theorem runB_fq : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.1
    = one inb_S512x384_S512x384_0_0 (k0_pay78 (k0_pay2 (rows arg1 harg1 x0)) (cols arg2 harg2 x1 2048 (by decide))) := by
  sl_kernel_rfl

theorem runB_fk : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.2.1
    = one inb_S512x384_S512x384_0_0 (k0_pay79 (k0_pay2 (rows arg1 harg1 x0)) (cols arg2 harg2 x1 2432 (by decide))) := by
  sl_kernel_rfl

theorem runB_fv : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.2.2.1
    = one inb_S512x384_S512x384_0_0 (k0_pay80 (k0_pay2 (rows arg1 harg1 x0)) (cols arg2 harg2 x1 2816 (by decide))) := by
  sl_kernel_rfl

theorem runB_small : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 xs0 xs1).2.2.2.2.2.2.1
    = one inb_S512x128_S512x128_0_0 (k0_pay1 (rows arg1 harg1 x0) (k0_pay2 (rows arg1 harg1 x0)) (narrow arg3 harg3 x2) (half arg3 harg3 x2)) := by
  sl_kernel_rfl

end B

end Cert.InProjIdeal.Pieces

end
-- ==== Proof.InProjSpec.lean ====
/-
  The input projection's branches as functions of extended reals, apart from any program: the activation gate, the windowed sum
  over past rows with zeros before a sequence's first row, the layer norm of 256 columns, and sums written out in order.
-/
module

public import proofs.«01_k».proof.Proof.Swiglu

@[expose] public section

noncomputable section

namespace Cert.InProj.Spec

open Idealize.ShloMosaic Cert.Swiglu

/-- A value gated by the logistic function of another. -/
def glu (a b : EReal) : EReal := a * Ideal.div 1 (1 + Ideal.exp (-b))

/-- The `k`-th of the `K` rows that end with row `r`; zero where that lies before the first row of `r`'s sequence of 8192. -/
def back (K : ℕ) (f : ℕ → EReal) (r k : ℕ) : EReal := if r % 8192 + k + 1 < K then 0 else f (r + k + 1 - K)

/-- Row `a` of a buffer holding `h` earlier rows and then the 512 rows of block `t`; the earlier rows are zero where a sequence
    of sixteen blocks begins. -/
def held (h : ℕ) (f : ℕ → EReal) (t a : ℕ) : EReal := if t % 16 = 0 ∧ a < h then 0 else f (512 * t + a - h)

/-- The 31-tap branch's buffer row read for tap `k` of row `r`. -/
theorem held_32 (f : ℕ → EReal) (t b p k : ℕ) (hb : b < 4) (hp : p < 128) (hk : k < 31) :
    held 32 f t (128 * b + 2 + k + p) = back 31 f (512 * t + (128 * b + p)) k := by
  have h1 : (512 * t + (128 * b + p)) % 8192 = 512 * (t % 16) + (128 * b + p) := by omega
  unfold held back
  rw [h1]
  by_cases h : t % 16 = 0 ∧ 128 * b + 2 + k + p < 32
  · rw [if_pos h, if_pos (by omega)]
  · rw [if_neg h, if_neg (by omega)]
    exact congrArg f (by omega)

/-- The four-tap branch's buffer row read for tap `k` of row `r`. -/
theorem held_8 (f : ℕ → EReal) (t b p k : ℕ) (hb : b < 4) (hp : p < 128) (hk : k < 4) :
    held 8 f t (128 * b + 5 + k + p) = back 4 f (512 * t + (128 * b + p)) k := by
  have h1 : (512 * t + (128 * b + p)) % 8192 = 512 * (t % 16) + (128 * b + p) := by omega
  unfold held back
  rw [h1]
  by_cases h : t % 16 = 0 ∧ 128 * b + 5 + k + p < 8
  · rw [if_pos h, if_pos (by omega)]
  · rw [if_neg h, if_neg (by omega)]
    exact congrArg f (by omega)

/-- A mean of 256. -/
def mean256 (y : Fin 256 → EReal) : EReal := Ideal.div (∑ j, y j) (Ideal.ofBits .f32 0x43800000#32)

/-- Element `j` of a 256-wide row's layer norm with gain `g` and offset `b` there. -/
def norm256 (y : Fin 256 → EReal) (g b : EReal) (j : Fin 256) : EReal :=
  (y j - mean256 y) * Ideal.rsqrt (mean256 (fun l => (y l - mean256 y) * (y l - mean256 y)) + Ideal.ofBits .f32 0x3727C5AC#32) * g + b

/-- The gated branch: the windowed sum of past rows, normalised, activated and scaled. -/
def branch (u : ℕ → Fin 256 → EReal) (w : Fin 31 → Fin 256 → EReal) (cb : Fin 256 → EReal) (g b s : EReal) (r : ℕ) (j : Fin 256) : EReal :=
  act (norm256 (fun l => cb l + ∑ k : Fin 31, w k l * back 31 (fun n => u n l) r k.val) g b j) * s

/-- The four-tap branch: the windowed sum of past rows, activated. -/
def short (v : ℕ → EReal) (w : Fin 4 → EReal) (r : ℕ) : EReal := act (∑ k : Fin 4, w k * back 4 v r k.val)

/-- Element `j` of row `n` of the projected rows. -/
def proj (x : Fin 32768 → Fin 1024 → EReal) (w : Fin 1024 → Fin 3218 → EReal) (n : ℕ) (j : Fin 3218) : EReal :=
  ∑ l, x ⟨n % 32768, Nat.mod_lt _ (by decide)⟩ l * w l j

theorem proj_row (x : Fin 32768 → Fin 1024 → EReal) (w : Fin 1024 → Fin 3218 → EReal) (n : ℕ) (j : Fin 3218) (r : Fin 32768)
    (hr : r.val = n) : proj x w n j = ∑ l, x r l * w l j := by
  have e : (⟨n % 32768, Nat.mod_lt _ (by decide)⟩ : Fin 32768) = r :=
    Fin.ext ((Nat.mod_eq_of_lt (hr ▸ r.isLt)).trans hr.symm)
  unfold proj
  rw [e]

/-- The gated rows. -/
def gated (x : Fin 32768 → Fin 1024 → EReal) (w : Fin 1024 → Fin 3218 → EReal) (n : ℕ) (j : Fin 256) : EReal :=
  glu (proj x w n ⟨1548 + j.val, by have := j.isLt; omega⟩) (proj x w n ⟨1804 + j.val, by have := j.isLt; omega⟩)

/-- The projected rows the four-tap branch takes. -/
def heads (x : Fin 32768 → Fin 1024 → EReal) (w : Fin 1024 → Fin 3218 → EReal) (n : ℕ) (j : Fin 1152) : EReal :=
  proj x w n ⟨j.val, by have := j.isLt; omega⟩

/-- The small projections: twelve columns, six more, and zeros. -/
def few (x : Fin 32768 → Fin 1024 → EReal) (w : Fin 1024 → Fin 3218 → EReal) (n : ℕ) (j : Fin 128) : EReal :=
  if h : j.val < 12 then proj x w n ⟨1152 + j.val, by omega⟩
  else if h' : j.val < 18 then proj x w n ⟨3200 + j.val, by omega⟩ else 0

/-- Three runs of six columns, the first two next to each other. -/
theorem few_cases (f : Fin 3218 → EReal) (j : Fin 128) :
    (if h : j.val < 6 then f ⟨1152 + j.val, by omega⟩
      else if h : j.val - 6 < 6 then f ⟨1158 + (j.val - 6), by omega⟩
      else if h : j.val - 6 - 6 < 6 then f ⟨3212 + (j.val - 6 - 6), by omega⟩ else 0)
    = if h : j.val < 12 then f ⟨1152 + j.val, by omega⟩ else if h' : j.val < 18 then f ⟨3200 + j.val, by omega⟩ else 0 := by
  by_cases h6 : j.val < 6
  · rw [dif_pos h6, dif_pos (show j.val < 12 by omega)]
  · rw [dif_neg h6]
    by_cases h12 : j.val < 12
    · rw [dif_pos (show j.val - 6 < 6 by omega), dif_pos h12]
      exact congrArg f (Fin.ext (show 1158 + (j.val - 6) = 1152 + j.val by omega))
    · rw [dif_neg (show ¬ j.val - 6 < 6 by omega), dif_neg h12]
      by_cases h18 : j.val < 18
      · rw [dif_pos (show j.val - 6 - 6 < 6 by omega), dif_pos h18]
        exact congrArg f (Fin.ext (show 3212 + (j.val - 6 - 6) = 3200 + j.val by omega))
      · rw [dif_neg (show ¬ j.val - 6 - 6 < 6 by omega), dif_neg h18]

/-- A fold of vector additions, read at an index. -/
theorem foldl_apply {s : Shape} {α : Type} (f : α → FVec Ideal s .f32) (l : List α) (z : FVec Ideal s .f32) (i : s.Idx) :
    l.foldl (fun acc k => addf acc (f k)) z i = l.foldl (fun a k => a + f k i) (z i : EReal) := by
  induction l generalizing z with
  | nil => rfl
  | cons a l ih => rw [List.foldl_cons, List.foldl_cons, ih]; rfl

/-- Adding up a list's terms one after the other. -/
theorem foldl_add {α : Type} (f : α → EReal) (l : List α) (z : EReal) : l.foldl (fun a k => a + f k) z = z + (l.map f).sum := by
  induction l generalizing z with
  | nil => simp
  | cons a l ih => rw [List.foldl_cons, ih, List.map_cons, List.sum_cons, add_assoc]

/-- The thirty-one terms added in order. -/
theorem foldl_31 (f : Fin 31 → EReal) (z : EReal) :
    ([0, 1, 2, 3, 4, 5, 6, 7, 8, 9, 10, 11, 12, 13, 14, 15, 16, 17, 18, 19, 20, 21, 22, 23, 24, 25, 26, 27, 28, 29, 30] : List (Fin 31)).foldl
      (fun a k => a + f k) z = z + ∑ k, f k := by
  rw [foldl_add, Fin.sum_univ_def]
  rfl

/-- The four terms added in order. -/
theorem foldl_4 (f : Fin 4 → EReal) (z : EReal) : ([0, 1, 2, 3] : List (Fin 4)).foldl (fun a k => a + f k) z = z + ∑ k, f k := by
  rw [foldl_add, Fin.sum_univ_def]
  rfl

end Cert.InProj.Spec

end
-- ==== Proof.InProjKit.lean ====
/-
  The input projection's stored blocks, element by element, in terms of the two sliding buffers' rows.
-/
module

public import proofs.«01_k».proof.Proof.InProjPieces
public import proofs.«01_k».proof.Proof.InProjSpec
public import Idealize.ShloMosaic.Lib.Pipeline.ValueKit
public import Idealize.ShloMosaic.Lib.WholeRead

@[expose] public section

set_option maxRecDepth 16384

noncomputable section

namespace Cert.InProjIdeal.Kit

open Cert.InProjIdeal Cert.InProjIdeal.Gen Cert.InProjIdeal.Pieces Idealize.ShloMosaic Idealize.ShloMosaic.TcCoe
open Cert.InProj.Spec Cert.Swiglu

/-- A store of `k` whole rows from row `o`, read back at row `a`: its own row where `a` is among them. -/
theorem canon_hit {n k w o : ℕ} {e : EltTy} (h) (v : Vec Ideal ⟨2, ![k, w]⟩ e) (L : List (View.Piece (Elt Ideal) ⟨2, ![n, w]⟩ e))
    (a : Fin n) (r : Fin k) (j : Fin w) (ha : a.val = o + r.val) :
    View.canon (Val := Elt Ideal) (⟨Rect.unit (s := ⟨2, ![n, w]⟩) ![o, 0] (⟨2, ![k, w]⟩ : Shape).size h, v⟩ :: L) (ix2 a j) = v (ix2 r j) := by
  have e1 : ix2 a j = (Rect.unit (s := ⟨2, ![n, w]⟩) ![o, 0] (⟨2, ![k, w]⟩ : Shape).size h).emb (ix2 r j) := by
    refine funext (Fin.forall_fin_two.mpr ⟨Fin.ext ?_, Fin.ext ?_⟩)
    · show a.val = o + 1 * r.val
      omega
    · show j.val = 0 + 1 * j.val
      omega
  rw [e1]
  exact View.canon_cons_emb _ _ _ _

/-- … and what was there before where it is not. -/
theorem canon_miss {n k w o : ℕ} {e : EltTy} (h) (v : Vec Ideal ⟨2, ![k, w]⟩ e) (L : List (View.Piece (Elt Ideal) ⟨2, ![n, w]⟩ e))
    (a : Fin n) (j : Fin w) (ha : a.val < o ∨ o + k ≤ a.val) :
    View.canon (Val := Elt Ideal) (⟨Rect.unit (s := ⟨2, ![n, w]⟩) ![o, 0] (⟨2, ![k, w]⟩ : Shape).size h, v⟩ :: L) (ix2 a j)
      = View.canon (Val := Elt Ideal) L (ix2 a j) := by
  refine View.canon_cons_of_not_mem _ _ fun hm => ?_
  have h0 : o ≤ a.val ∧ a.val < o + k := Rect.mem_set_unit (inb := h) |>.mp hm 0
  omega

/-- A store of one whole slab, read back in it. -/
theorem slab_hit {m n w p : ℕ} {e : EltTy} (h) (v : Vec Ideal ⟨3, ![1, n, w]⟩ e) (L : List (View.Piece (Elt Ideal) ⟨3, ![m, n, w]⟩ e))
    (q : Fin m) (a : Fin n) (j : Fin w) (hq : q.val = p) :
    View.canon (Val := Elt Ideal) (⟨Rect.unit (s := ⟨3, ![m, n, w]⟩) ![p, 0, 0] (⟨3, ![1, n, w]⟩ : Shape).size h, v⟩ :: L) (ix3 q a j)
      = v (ix3 0 a j) := by
  have e1 : ix3 q a j = (Rect.unit (s := ⟨3, ![m, n, w]⟩) ![p, 0, 0] (⟨3, ![1, n, w]⟩ : Shape).size h).emb (ix3 0 a j) := by
    refine funext (Fin.forall_fin_succ.mpr ⟨Fin.ext ?_, Fin.forall_fin_two.mpr ⟨Fin.ext ?_, Fin.ext ?_⟩⟩)
    · show q.val = p + 1 * 0
      omega
    · show a.val = 0 + 1 * a.val
      omega
    · show j.val = 0 + 1 * j.val
      omega
  rw [e1]
  exact View.canon_cons_emb _ _ _ _

/-- … and in another. -/
theorem slab_miss {m n w p : ℕ} {e : EltTy} (h) (v : Vec Ideal ⟨3, ![1, n, w]⟩ e) (L : List (View.Piece (Elt Ideal) ⟨3, ![m, n, w]⟩ e))
    (q : Fin m) (a : Fin n) (j : Fin w) (hq : q.val ≠ p) :
    View.canon (Val := Elt Ideal) (⟨Rect.unit (s := ⟨3, ![m, n, w]⟩) ![p, 0, 0] (⟨3, ![1, n, w]⟩ : Shape).size h, v⟩ :: L) (ix3 q a j)
      = View.canon (Val := Elt Ideal) L (ix3 q a j) := by
  refine View.canon_cons_of_not_mem _ _ fun hm => hq ?_
  have h0 : p ≤ q.val ∧ q.val < p + 1 := Rect.mem_set_unit (inb := h) |>.mp hm 0
  omega

/-- One store of a whole block, read back. -/
theorem canon_one {n w : ℕ} {e : EltTy} (h) (v : Vec Ideal ⟨2, ![n, w]⟩ e) (a : Fin n) (j : Fin w) :
    View.canon (Val := Elt Ideal) (one h v) (ix2 a j) = v (ix2 a j) :=
  canon_hit h v [] a a j (Nat.zero_add _).symm

variable (arg17 : Memref sig .tc .vmem S520x1152 .f32) (arg18 : Memref sig .tc .vmem S544x256 .f32)
  (arg19 : Memref sig .tc .vmem S7x536x256 .f32)

theorem shifted_apply (L : List (View.Piece (Elt Ideal) S544x256 .f32)) (p : Fin 7) (a : Fin 536) (j : Fin 256) (r : Fin 544)
    (hr : r.val = p.val + 1 + a.val) : (shifted arg18 L p).2 (ix3 0 a j) = View.canon (Val := Elt Ideal) L (ix2 r j) := by
  unfold shifted
  dsimp only
  rw [shapeCast_apply _ _ (ix3 0 a j) (ix2 a j) (by rw [Shape.rowMajor_val_two, Shape.rowMajor_val_three]; simp), View.readCov_eq_canon']
  refine congrArg (View.canon (Val := Elt Ideal) L) (funext (Fin.forall_fin_two.mpr ⟨Fin.ext ?_, Fin.ext ?_⟩))
  · show p.val + 1 + 1 * a.val = r.val
    omega
  · show 0 + 1 * j.val = j.val
    omega

/-- Row `a` of copy `q` is the buffer's row `q + 1 + a`. -/
theorem copies_apply (L : List (View.Piece (Elt Ideal) S544x256 .f32)) (q : Fin 7) (a : Fin 536) (j : Fin 256) (r : Fin 544)
    (hr : r.val = q.val + 1 + a.val) :
    View.canon (Val := Elt Ideal) (copies arg18 L) (ix3 q a j) = View.canon (Val := Elt Ideal) L (ix2 r j) := by
  have step : ∀ (p : Fin 7) (T : List (View.Piece (Elt Ideal) S7x536x256 .f32)),
      (q ≠ p → View.canon (Val := Elt Ideal) T (ix3 q a j) = View.canon (Val := Elt Ideal) L (ix2 r j)) →
      View.canon (Val := Elt Ideal) (shifted arg18 L p :: T) (ix3 q a j) = View.canon (Val := Elt Ideal) L (ix2 r j) := fun p T hT => by
    by_cases h : q = p
    · refine (slab_hit _ _ _ q a j (congrArg Fin.val h)).trans ?_
      exact shifted_apply arg18 L p a j r (by rw [← h]; exact hr)
    · exact (slab_miss _ _ _ q a j (fun e => h (Fin.ext e))).trans (hT h)
  unfold copies
  refine step 6 _ fun h6 => step 5 _ fun h5 => step 4 _ fun h4 => step 3 _ fun h3 => step 2 _ fun h2 => step 1 _ fun h1 => step 0 _ fun h0 => ?_
  exfalso
  have := q.isLt
  simp only [ne_eq, Fin.ext_iff] at h0 h1 h2 h3 h4 h5 h6
  simp at h0 h1 h2 h3 h4 h5 h6
  omega

/-- A tap is the buffer's rows. -/
theorem tap_apply (L : List (View.Piece (Elt Ideal) S544x256 .f32)) (lo : ℕ) (h : lo ≤ 416) (p : Fin 128) (j : Fin 256) (r : Fin 544)
    (hr : r.val = lo + p.val) : tap arg18 arg19 L lo h (ix2 p j) = View.canon (Val := Elt Ideal) L (ix2 r j) := by
  unfold tap
  split
  · rw [View.readCov_eq_canon']
    refine congrArg (View.canon (Val := Elt Ideal) L) (funext (Fin.forall_fin_two.mpr ⟨Fin.ext ?_, Fin.ext ?_⟩))
    · show lo + 1 * p.val = r.val
      omega
    · show 0 + 1 * j.val = j.val
      omega
  · rename_i h8
    have hq : lo % 8 - 1 < 7 := by omega
    have ha : lo - lo % 8 + p.val < 536 := by have := p.isLt; omega
    rw [shapeCast_apply _ _ (ix2 p j) (ix3 0 p j) (by rw [Shape.rowMajor_val_two, Shape.rowMajor_val_three]; simp), View.readCov_eq_canon']
    refine Eq.trans ?_ (copies_apply arg18 L ⟨lo % 8 - 1, hq⟩ ⟨lo - lo % 8 + p.val, ha⟩ j r (by
      show r.val = lo % 8 - 1 + 1 + (lo - lo % 8 + p.val)
      omega))
    refine congrArg (View.canon (Val := Elt Ideal) (copies arg18 L))
      (funext (Fin.forall_fin_succ.mpr ⟨Fin.ext ?_, Fin.forall_fin_two.mpr ⟨Fin.ext ?_, Fin.ext ?_⟩⟩))
    · show lo % 8 - 1 + 1 * 0 = lo % 8 - 1
      omega
    · show lo - lo % 8 + 1 * p.val = lo - lo % 8 + p.val
      omega
    · show 0 + 1 * j.val = j.val
      omega

theorem tap4_apply (L : List (View.Piece (Elt Ideal) S520x1152 .f32)) (lo : ℕ) (h : lo ≤ 392) (p : Fin 128) (j : Fin 1152) (r : Fin 520)
    (hr : r.val = lo + p.val) : tap4 arg17 L lo h (ix2 p j) = View.canon (Val := Elt Ideal) L (ix2 r j) := by
  unfold tap4
  rw [View.readCov_eq_canon']
  refine congrArg (View.canon (Val := Elt Ideal) L) (funext (Fin.forall_fin_two.mpr ⟨Fin.ext ?_, Fin.ext ?_⟩))
  · show lo + 1 * p.val = r.val
    omega
  · show 0 + 1 * j.val = j.val
    omega

theorem wrow_apply (arg5 : Memref sig .tc .vmem S31x256 .f32) (harg5 : arg5.IsWhole) (x4 : Vec Ideal S31x256 .f32) (k : Fin 31) (j : Fin 256) :
    wrow arg5 harg5 x4 k (ix2 0 j) = x4 (ix2 k j) := by
  unfold wrow
  rw [Memref.IsWhole.readAt_unread]
  refine congrArg x4 (funext (Fin.forall_fin_two.mpr ⟨Fin.ext ?_, Fin.ext ?_⟩))
  · show k.val + 1 * 0 = k.val
    omega
  · show 0 + 1 * j.val = j.val
    omega

theorem wrow4_apply (arg4 : Memref sig .tc .vmem S4x1152 .f32) (harg4 : arg4.IsWhole) (x3 : Vec Ideal S4x1152 .f32) (k : Fin 4) (j : Fin 1152) :
    wrow4 arg4 harg4 x3 k (ix2 0 j) = x3 (ix2 k j) := by
  unfold wrow4
  rw [Memref.IsWhole.readAt_unread]
  refine congrArg x3 (funext (Fin.forall_fin_two.mpr ⟨Fin.ext ?_, Fin.ext ?_⟩))
  · show k.val + 1 * 0 = k.val
    omega
  · show 0 + 1 * j.val = j.val
    omega

theorem window_apply (cb : Vec Ideal S1x256 .f32) (w : Fin 31 → Vec Ideal S1x256 .f32) (T : Fin 31 → FVec Ideal S128x256 .f32) (p : Fin 128)
    (j : Fin 256) : window cb w T (ix2 p j) = cb (ix2 0 j) + ∑ k, w k (ix2 0 j) * T k (ix2 p j) := by
  unfold window
  rw [foldl_apply, foldl_31]
  pointwise

theorem window4_apply (w : Fin 4 → Vec Ideal S1x1152 .f32) (T : Fin 4 → FVec Ideal S128x1152 .f32) (p : Fin 128)
    (j : Fin 1152) : window4 w T (ix2 p j) = act (∑ k, w k (ix2 0 j) * T k (ix2 p j)) := by
  have h : (([0, 1, 2, 3] : List (Fin 4)).foldl
      (fun acc j => addf acc (mulf (broadcastTo S128x1152 (w j) broadcasts_S1x1152_S128x1152) (T j)))
      (broadcast S128x1152 (Scalar.ofBits .f32 0x00000000#32)) : FVec Ideal S128x1152 .f32) (ix2 p j) = ∑ k, w k (ix2 0 j) * T k (ix2 p j) := by
    rw [foldl_apply, foldl_4]
    pointwise
  unfold window4
  rw [← h]
  pointwise [act]
  simp only [zero_sub]

theorem finish_apply (y : FVec Ideal S128x256 .f32) (g b s : Vec Ideal S1x256 .f32) (p : Fin 128) (j : Fin 256) :
    finish y g b s (ix2 p j) = act (norm256 (fun l => y (ix2 p l)) (g (ix2 0 j)) (b (ix2 0 j)) j) * s (ix2 0 j) := by
  pointwise [finish, act, norm256, mean256]
  simp only [zero_sub]

theorem row_apply (a : Memref sig .tc .vmem S1x256 .f32) (ha : a.IsWhole) (x : Vec Ideal S1x256 .f32) (j : Fin 256) :
    row a ha x (ix2 0 j) = x (ix2 0 j) := by
  unfold row
  rw [Memref.IsWhole.readAt_unread]
  refine congrArg x (funext (Fin.forall_fin_two.mpr ⟨Fin.ext ?_, Fin.ext ?_⟩))
  · show 0 + 1 * 0 = 0
    omega
  · show 0 + 1 * j.val = j.val
    omega

/-- The windowed branch's stores, read back: row `y` of block `t`, where the buffer's rows are those held for block `t`. -/
theorem ob_apply (arg5 : Memref sig .tc .vmem S31x256 .f32) (harg5 : arg5.IsWhole) (L : List (View.Piece (Elt Ideal) S544x256 .f32))
    (u : ℕ → Fin 256 → EReal) (t : ℕ)
    (hL : ∀ (a : Fin 544) (j : Fin 256), View.canon (Val := Elt Ideal) L (ix2 a j) = held 32 (fun n => u n j) t a.val)
    (x4 : Vec Ideal S31x256 .f32) (cb g b s : Vec Ideal S1x256 .f32) (y : Fin 512) (j : Fin 256) :
    View.canon (Val := Elt Ideal) (piecesOb arg5 harg5 arg18 arg19 L x4 cb g b s) (ix2 y j)
      = branch u (fun k l => x4 (ix2 k l)) (fun l => cb (ix2 0 l)) (g (ix2 0 j)) (b (ix2 0 j)) (s (ix2 0 j)) (512 * t + y.val) j := by
  have val : ∀ (k : Fin 4) (p : Fin 128), y.val = 128 * k.val + p.val →
      (rowsOb arg5 harg5 arg18 arg19 L x4 cb g b s k).2 (ix2 p j)
        = branch u (fun k l => x4 (ix2 k l)) (fun l => cb (ix2 0 l)) (g (ix2 0 j)) (b (ix2 0 j)) (s (ix2 0 j)) (512 * t + y.val) j := fun k p hy => by
    refine (finish_apply _ g b s p j).trans (congrArg (fun f => act (norm256 f _ _ j) * _) (funext fun l => ?_))
    rw [window_apply]
    refine congrArg (_ + ·) (Finset.sum_congr rfl fun q _ => ?_)
    rw [wrow_apply, tap_apply arg18 arg19 L _ _ p l ⟨128 * k.val + 2 + q.val + p.val, by have := k.isLt; have := p.isLt; have := q.isLt; omega⟩ rfl, hL,
      hy, ← held_32 _ t k.val p.val q.val k.isLt p.isLt q.isLt]
  have step : ∀ (k : Fin 4) (T : List (View.Piece (Elt Ideal) S512x256 .bf16)),
      (y.val / 128 ≠ k.val → View.canon (Val := Elt Ideal) T (ix2 y j)
        = branch u (fun k l => x4 (ix2 k l)) (fun l => cb (ix2 0 l)) (g (ix2 0 j)) (b (ix2 0 j)) (s (ix2 0 j)) (512 * t + y.val) j) →
      View.canon (Val := Elt Ideal) (rowsOb arg5 harg5 arg18 arg19 L x4 cb g b s k :: T) (ix2 y j)
        = branch u (fun k l => x4 (ix2 k l)) (fun l => cb (ix2 0 l)) (g (ix2 0 j)) (b (ix2 0 j)) (s (ix2 0 j)) (512 * t + y.val) j := fun k T hT => by
    by_cases h : y.val / 128 = k.val
    · have hp : y.val - 128 * k.val < 128 := by omega
      refine (canon_hit _ _ _ y ⟨y.val - 128 * k.val, hp⟩ j ?_).trans (val k ⟨y.val - 128 * k.val, hp⟩ ?_)
      · show y.val = 128 * k.val + (y.val - 128 * k.val)
        omega
      · show y.val = 128 * k.val + (y.val - 128 * k.val)
        omega
    · refine (canon_miss _ _ _ y j ?_).trans (hT h)
      omega
  unfold piecesOb
  refine step 3 _ fun h3 => step 2 _ fun h2 => step 1 _ fun h1 => step 0 _ fun h0 => ?_
  exfalso
  have := y.isLt
  simp at h0 h1 h2 h3
  omega

/-- The four-tap branch's stores, read back: row `y` of block `t`, where the buffer's rows are those held for block `t`. -/
theorem q_apply (arg4 : Memref sig .tc .vmem S4x1152 .f32) (harg4 : arg4.IsWhole) (L : List (View.Piece (Elt Ideal) S520x1152 .f32))
    (v : ℕ → Fin 1152 → EReal) (t : ℕ)
    (hL : ∀ (a : Fin 520) (j : Fin 1152), View.canon (Val := Elt Ideal) L (ix2 a j) = held 8 (fun n => v n j) t a.val)
    (x3 : Vec Ideal S4x1152 .f32) (y : Fin 512) (j : Fin 1152) :
    View.canon (Val := Elt Ideal) (piecesQ arg4 harg4 arg17 L x3) (ix2 y j)
      = short (fun n => v n j) (fun k => x3 (ix2 k j)) (512 * t + y.val) := by
  have val : ∀ (k : Fin 4) (p : Fin 128), y.val = 128 * k.val + p.val →
      (rowsQ arg4 harg4 arg17 L x3 k).2 (ix2 p j) = short (fun n => v n j) (fun k => x3 (ix2 k j)) (512 * t + y.val) := fun k p hy => by
    refine (window4_apply _ _ p j).trans (congrArg act (Finset.sum_congr rfl fun q _ => ?_))
    rw [wrow4_apply, tap4_apply arg17 L _ _ p j ⟨128 * k.val + 5 + q.val + p.val, by have := k.isLt; have := p.isLt; have := q.isLt; omega⟩ rfl, hL,
      hy, ← held_8 _ t k.val p.val q.val k.isLt p.isLt q.isLt]
  have step : ∀ (k : Fin 4) (T : List (View.Piece (Elt Ideal) S512x1152 .f32)),
      (y.val / 128 ≠ k.val → View.canon (Val := Elt Ideal) T (ix2 y j) = short (fun n => v n j) (fun k => x3 (ix2 k j)) (512 * t + y.val)) →
      View.canon (Val := Elt Ideal) (rowsQ arg4 harg4 arg17 L x3 k :: T) (ix2 y j)
        = short (fun n => v n j) (fun k => x3 (ix2 k j)) (512 * t + y.val) := fun k T hT => by
    by_cases h : y.val / 128 = k.val
    · have hp : y.val - 128 * k.val < 128 := by omega
      refine (canon_hit _ _ _ y ⟨y.val - 128 * k.val, hp⟩ j ?_).trans (val k ⟨y.val - 128 * k.val, hp⟩ ?_)
      · show y.val = 128 * k.val + (y.val - 128 * k.val)
        omega
      · show y.val = 128 * k.val + (y.val - 128 * k.val)
        omega
    · refine (canon_miss _ _ _ y j ?_).trans (hT h)
      omega
  unfold piecesQ
  refine step 3 _ fun h3 => step 2 _ fun h2 => step 1 _ fun h1 => step 0 _ fun h0 => ?_
  exfalso
  have := y.isLt
  simp at h0 h1 h2 h3
  omega

/-- The gated rows' buffer, row by row. -/
theorem buf32_apply (hd : Vec Ideal S32x256 .f32) (u : Vec Ideal S512x256 .f32) (f : ℕ → EReal) (t : ℕ) (j : Fin 256)
    (h0 : ∀ a : Fin 32, hd (ix2 a j) = held 32 f t a.val) (h1 : ∀ p : Fin 512, u (ix2 p j) = f (512 * t + p.val)) (a : Fin 544) :
    View.canon (Val := Elt Ideal) (buf32 hd u) (ix2 a j) = held 32 f t a.val := by
  unfold buf32
  by_cases h : a.val < 32
  · refine (canon_miss _ _ _ a j (Or.inl h)).trans ((canon_hit _ _ _ a ⟨a.val, h⟩ j (Nat.zero_add _).symm).trans (h0 _))
  · have hp : a.val - 32 < 512 := by have := a.isLt; omega
    refine (canon_hit _ _ _ a ⟨a.val - 32, hp⟩ j ?_).trans ((h1 _).trans ?_)
    · show a.val = 32 + (a.val - 32)
      omega
    · unfold held
      rw [if_neg (by omega)]
      refine congrArg f ?_
      show 512 * t + (a.val - 32) = 512 * t + a.val - 32
      omega

/-- The projected rows' buffer, row by row. -/
theorem buf8_apply (hd : Vec Ideal S8x1152 .f32) (u : Vec Ideal S512x1152 .f32) (f : ℕ → EReal) (t : ℕ) (j : Fin 1152)
    (h0 : ∀ a : Fin 8, hd (ix2 a j) = held 8 f t a.val) (h1 : ∀ p : Fin 512, u (ix2 p j) = f (512 * t + p.val)) (a : Fin 520) :
    View.canon (Val := Elt Ideal) (buf8 hd u) (ix2 a j) = held 8 f t a.val := by
  unfold buf8
  by_cases h : a.val < 8
  · refine (canon_miss _ _ _ a j (Or.inl h)).trans ((canon_hit _ _ _ a ⟨a.val, h⟩ j (Nat.zero_add _).symm).trans (h0 _))
  · have hp : a.val - 8 < 512 := by have := a.isLt; omega
    refine (canon_hit _ _ _ a ⟨a.val - 8, hp⟩ j ?_).trans ((h1 _).trans ?_)
    · show a.val = 8 + (a.val - 8)
      omega
    · unfold held
      rw [if_neg (by omega)]
      refine congrArg f ?_
      show 512 * t + (a.val - 8) = 512 * t + a.val - 8
      omega

end Cert.InProjIdeal.Kit

end
-- ==== Proof.InProjBlocks.lean ====
/-
  The input projection's operands block by block, in terms of its arguments, and its products element by element.
-/
module

public import proofs.«01_k».proof.Proof.InProjKit
public import proofs.«01_k».proof.Pre_finite_small
public import Idealize.ShloMosaic.Lib.ReduceAll
public import Idealize.ShloMosaic.Lib.Tactic

@[expose] public section

set_option maxRecDepth 16384

noncomputable section

namespace Cert.InProjIdeal.Blocks

open Cert.InProjIdeal Cert.InProjIdeal.Gen Cert.InProjIdeal.Pieces Cert.InProjIdeal.Kit Idealize.ShloMosaic Idealize.ShloMosaic.TcCoe Idealize.ShloMosaic.Tactic
open Cert.InProj.Spec Cert.Swiglu

/-- A rectangle of a whole operand, read at an index. -/
theorem read_apply {n w k v o q : ℕ} {e : EltTy} (a : Memref sig .tc .vmem ⟨2, ![n, w]⟩ e) (ha : a.IsWhole) (x : Vec Ideal ⟨2, ![n, w]⟩ e) (h)
    (p : Fin k) (j : Fin v) (p' : Fin n) (j' : Fin w) (hp : p'.val = o + p.val) (hj : j'.val = q + j.val) :
    View.readAt (Elt Ideal) a.view (Rect.unit (s := ⟨2, ![n, w]⟩) ![o, q] (⟨2, ![k, v]⟩ : Shape).size h).toLoadRect (ha.unread x) (ix2 p j)
      = x (ix2 p' j') := by
  rw [Memref.IsWhole.readAt_unread]
  refine congrArg x (funext (Fin.forall_fin_two.mpr ⟨Fin.ext ?_, Fin.ext ?_⟩))
  · show o + 1 * p.val = p'.val
    omega
  · show q + 1 * j.val = j'.val
    omega

section Products

variable (x : FVec Ideal S512x1024 .f32) (p : Fin 512)

theorem pay7_apply (w : FVec Ideal S1024x512 .bf16) (j : Fin 256) : (k0_pay7 (F := Ideal) x w (ix2 p j) : EReal)
    = glu (∑ l, x (ix2 p l) * w (ix2 l ⟨j.val, by have := j.isLt; omega⟩))
        (∑ l, x (ix2 p l) * w (ix2 l ⟨256 + j.val, by have := j.isLt; omega⟩)) := by
  pointwise [k0_pay7, k0_pay2, glu]
  simp only [zero_sub]

theorem pay67_apply (w : FVec Ideal S1024x1152 .bf16) (j : Fin 1152) :
    k0_pay67 (k0_pay2 x) w (ix2 p j) = ∑ l, x (ix2 p l) * w (ix2 l j) := by
  pointwise [k0_pay67, k0_pay2]

theorem pay77_apply (w : FVec Ideal S1024x384 .bf16) (j : Fin 384) :
    k0_pay77 (k0_pay2 x) w (ix2 p j) = ∑ l, x (ix2 p l) * w (ix2 l j) := by
  pointwise [k0_pay77, k0_pay2]

theorem pay78_apply (w : FVec Ideal S1024x384 .bf16) (j : Fin 384) :
    (k0_pay78 (F := Ideal) (k0_pay2 x) w (ix2 p j) : EReal) = (∑ l, x (ix2 p l) * w (ix2 l j)) * Ideal.ofBits .f32 0x3E000000#32 := by
  pointwise [k0_pay78, k0_pay2]

theorem pay79_apply (w : FVec Ideal S1024x384 .bf16) (j : Fin 384) :
    (k0_pay79 (F := Ideal) (k0_pay2 x) w (ix2 p j) : EReal) = ∑ l, x (ix2 p l) * w (ix2 l j) := by
  pointwise [k0_pay79, k0_pay2]

theorem pay80_apply (w : FVec Ideal S1024x384 .bf16) (j : Fin 384) :
    (k0_pay80 (F := Ideal) (k0_pay2 x) w (ix2 p j) : EReal) = ∑ l, x (ix2 p l) * w (ix2 l j) := by
  pointwise [k0_pay80, k0_pay2]

theorem pay1_apply (w : FVec Ideal S1024x256 .bf16) (w' : FVec Ideal S1024x128 .bf16) (j : Fin 128) :
    k0_pay1 x (k0_pay2 x) w w' (ix2 p j)
      = (∑ l, x (ix2 p l) * w (ix2 l ⟨j.val, by have := j.isLt; omega⟩))
        + (∑ l, x (ix2 p l) * w (ix2 l ⟨128 + j.val, by have := j.isLt; omega⟩))
        + ∑ l, (x (ix2 p l) - x (ix2 p l)) * w' (ix2 l j) := by
  pointwise [k0_pay1, k0_pay2]

end Products

variable (m : (ℓ : Loc nD τ sig) → Buf (Elt Ideal) ℓ)

/-- The input rows. -/
abbrev X (c : Dev nD) (r : Fin 32768) (l : Fin 1024) : EReal := m ((c : Thread nD τ).loc main_arg0) (ix2 r l)

/-- The projection. -/
abbrev W (c : Dev nD) (l : Fin 1024) (j : Fin 3218) : EReal := m ((c : Thread nD τ).loc main_arg1) (ix2 l j)

/-- The 31 weight rows. -/
abbrev CW (c : Dev nD) (k : Fin 31) (j : Fin 256) : EReal := m ((c : Thread nD τ).loc main_arg4) (ix2 k j)

/-- The four weight rows. -/
abbrev GW (c : Dev nD) (k : Fin 4) (j : Fin 1152) : EReal := m ((c : Thread nD τ).loc main_arg3) (ix2 k j)

/-- The bias. -/
abbrev CB (c : Dev nD) (j : Fin 256) : EReal := m ((c : Thread nD τ).loc main_arg5) (ix1 j)

/-- The layer norm's gain. -/
abbrev LG (c : Dev nD) (j : Fin 256) : EReal := m ((c : Thread nD τ).loc main_arg6) (ix1 j)

/-- The layer norm's offset. -/
abbrev LB (c : Dev nD) (j : Fin 256) : EReal := m ((c : Thread nD τ).loc main_arg7) (ix1 j)

/-- The mixing scale. -/
abbrev MS (c : Dev nD) (j : Fin 1024) : EReal := m ((c : Thread nD τ).loc main_arg2) (ix1 j)

/-- Where each window's block sits: the row blocks move with the point, the operands stay. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] := by
  decide +kernel

theorem iblk0 (c : Dev nD) (t : Fin cfg0.N) (p : Fin 512) (l : Fin 1024) (r : Fin 32768) (hr : r.val = 512 * t.val + p.val) :
    iblk m c 0 t (ix2 p l) = X m c r l := by
  blk_ext [iblk, V, idx t]

/-- The wide weight: the projection's columns without the small ones. -/
def wide (w : FVec Ideal S1024x3218 .f32) : FVec Ideal S1024x3200 .bf16 :=
  truncf .bf16 (concatenate S1024x3200 1 [⟨S1024x384, (extractStridedSlice S1024x384 ![0, 0] w slices_S1024x3218_S1024x384_0_0 : FVec Ideal S1024x384 .f32)⟩,
      ⟨S1024x384, (extractStridedSlice S1024x384 ![0, 384] w slices_S1024x3218_S1024x384_0_384 : FVec Ideal S1024x384 .f32)⟩,
      ⟨S1024x384, (extractStridedSlice S1024x384 ![0, 768] w slices_S1024x3218_S1024x384_0_768 : FVec Ideal S1024x384 .f32)⟩,
      ⟨S1024x384, (extractStridedSlice S1024x384 ![0, 1164] w slices_S1024x3218_S1024x384_0_1164 : FVec Ideal S1024x384 .f32)⟩,
      ⟨S1024x512, (extractStridedSlice S1024x512 ![0, 1548] w slices_S1024x3218_S1024x512_0_1548 : FVec Ideal S1024x512 .f32)⟩,
      ⟨S1024x384, (extractStridedSlice S1024x384 ![0, 2060] w slices_S1024x3218_S1024x384_0_2060 : FVec Ideal S1024x384 .f32)⟩,
      ⟨S1024x384, (extractStridedSlice S1024x384 ![0, 2444] w slices_S1024x3218_S1024x384_0_2444 : FVec Ideal S1024x384 .f32)⟩,
      ⟨S1024x384, (extractStridedSlice S1024x384 ![0, 2828] w slices_S1024x3218_S1024x384_0_2828 : FVec Ideal S1024x384 .f32)⟩] concatenates_S1024x384_S1024x384_S1024x384_S1024x384_S1024x512_S1024x384_S1024x384_S1024x384_S1024x3200_d1) bitsLt_bf16_f32

theorem V18 (c : Dev nD) : V m c main_v18 = wide (m ((c : Thread nD τ).loc main_arg1)) := by
  sl_kernel_rfl

/-- The small columns, with zeros up to 128. -/
def small (w : FVec Ideal S1024x3218 .f32) : FVec Ideal S1024x128 .f32 :=
  concatenate S1024x128 1 [⟨S1024x6, (extractStridedSlice S1024x6 ![0, 1152] w slices_S1024x3218_S1024x6_0_1152 : FVec Ideal S1024x6 .f32)⟩,
      ⟨S1024x6, (extractStridedSlice S1024x6 ![0, 1158] w slices_S1024x3218_S1024x6_0_1158 : FVec Ideal S1024x6 .f32)⟩,
      ⟨S1024x6, (extractStridedSlice S1024x6 ![0, 3212] w slices_S1024x3218_S1024x6_0_3212 : FVec Ideal S1024x6 .f32)⟩,
      ⟨S1024x110, (broadcastInDim S1024x110 ![] bcast_S_S1024x110 (constant S_ .f32 0x00000000#32) : FVec Ideal S1024x110 .f32)⟩] concatenates_S1024x6_S1024x6_S1024x6_S1024x110_S1024x128_d1

/-- The narrow weight: the small columns rounded, and what the rounding left. -/
def both (w : FVec Ideal S1024x3218 .f32) : FVec Ideal S1024x256 .bf16 :=
  concatenate S1024x256 1 [⟨S1024x128, (truncf .bf16 (small w) bitsLt_bf16_f32 : FVec Ideal S1024x128 .bf16)⟩,
    ⟨S1024x128, (truncf .bf16 (subf (small w) (extf .f32 (truncf .bf16 (small w) bitsLt_bf16_f32 : FVec Ideal S1024x128 .bf16) bitsLt_bf16_f32)) bitsLt_bf16_f32 : FVec Ideal S1024x128 .bf16)⟩]
    concatenates_S1024x128_S1024x128_S1024x256_d1

theorem V19 (c : Dev nD) : V m c main_v19 = both (m ((c : Thread nD τ).loc main_arg1)) := by
  sl_kernel_rfl

/-- Column `j` of the wide weight is the projection's column `j` before the first small column, and column `j + 12` after it. -/
theorem wide_apply (w : FVec Ideal S1024x3218 .f32) (l : Fin 1024) (j : Fin 3200) (k : Fin 3218)
    (hk : k.val = if j.val < 1152 then j.val else j.val + 12) : wide w (ix2 l j) = w (ix2 l k) := by
  have := j.isLt
  pointwise [wide]
  repeat' split
  all_goals
    refine congrArg (fun k => w (ix2 l k)) (Fin.ext ?_)
    rw [hk]
    dsimp only
    split <;> omega

/-- A small column. -/
def smallCol (w : Fin 1024 → Fin 3218 → EReal) (l : Fin 1024) (j : Fin 128) : EReal :=
  if h : j.val < 12 then w l ⟨1152 + j.val, by omega⟩ else if h' : j.val < 18 then w l ⟨3200 + j.val, by omega⟩ else 0

theorem small_apply (w : FVec Ideal S1024x3218 .f32) (l : Fin 1024) (j : Fin 128) :
    small w (ix2 l j) = smallCol (fun l k => w (ix2 l k)) l j := by
  pointwise [small]
  exact few_cases (fun k => w (ix2 l k)) j

theorem both_lo (w : FVec Ideal S1024x3218 .f32) (l : Fin 1024) (j : Fin 256) (k : Fin 128) (hk : j.val = k.val) :
    both w (ix2 l j) = smallCol (fun l k => w (ix2 l k)) l k := by
  have hj : j.val < 128 := hk ▸ k.isLt
  rw [← small_apply]
  pointwise [both]
  rw [dif_pos hj]
  exact congrArg (fun k => small w (ix2 l k)) (Fin.ext hk)

theorem both_hi (w : FVec Ideal S1024x3218 .f32) (l : Fin 1024) (j : Fin 256) (k : Fin 128) (hk : j.val = 128 + k.val) :
    (both w (ix2 l j) : EReal) = smallCol (fun l k => w (ix2 l k)) l k - smallCol (fun l k => w (ix2 l k)) l k := by
  have hj : ¬ j.val < 128 := by omega
  rw [← small_apply]
  pointwise [both]
  rw [dif_neg hj]
  have e : (⟨j.val - 128, by have := j.isLt; omega⟩ : Fin 128) = k := Fin.ext (by show j.val - 128 = k.val; omega)
  rw [e]

/-- The wide weight is read whole at every point. -/
theorem iblk1 (c : Dev nD) (t : Fin cfg0.N) (l : Fin 1024) (j : Fin 3200) (k : Fin 3218)
    (hk : k.val = if j.val < 1152 then j.val else j.val + 12) : iblk m c 1 t (ix2 l j) = W m c l k := by
  refine Eq.trans ?_ (wide_apply (m ((c : Thread nD τ).loc main_arg1)) l j k hk)
  rw [← V18 m]
  blk_ext [iblk, idx t]

/-- The narrow weight is read whole at every point. -/
theorem iblk2 (c : Dev nD) (t : Fin cfg0.N) (l : Fin 1024) (j : Fin 256) :
    iblk m c 2 t (ix2 l j) = both (m ((c : Thread nD τ).loc main_arg1)) (ix2 l j) := by
  rw [← V19 m]
  blk_ext [iblk, idx t]

theorem iblk3 (c : Dev nD) (t : Fin cfg0.N) (k : Fin 4) (j : Fin 1152) : iblk m c 3 t (ix2 k j) = GW m c k j := by
  blk_ext [iblk, V, idx t]

theorem iblk4 (c : Dev nD) (t : Fin cfg0.N) (k : Fin 31) (j : Fin 256) : iblk m c 4 t (ix2 k j) = CW m c k j := by
  blk_ext [iblk, V, idx t]

theorem V21 (c : Dev nD) (k : Fin 256) : V m c main_v21 (ix2 0 k) = CB m c k := by
  entry_read
  pointwise

theorem iblk5 (c : Dev nD) (t : Fin cfg0.N) (k : Fin 256) : iblk m c 5 t (ix2 0 k) = CB m c k := by
  rw [← V21 m]
  blk_ext [iblk, idx t]

theorem V22 (c : Dev nD) (k : Fin 256) : V m c main_v22 (ix2 0 k) = LG m c k := by
  entry_read
  pointwise

theorem iblk6 (c : Dev nD) (t : Fin cfg0.N) (k : Fin 256) : iblk m c 6 t (ix2 0 k) = LG m c k := by
  rw [← V22 m]
  blk_ext [iblk, idx t]

theorem V23 (c : Dev nD) (k : Fin 256) : V m c main_v23 (ix2 0 k) = LB m c k := by
  entry_read
  pointwise

theorem iblk7 (c : Dev nD) (t : Fin cfg0.N) (k : Fin 256) : iblk m c 7 t (ix2 0 k) = LB m c k := by
  rw [← V23 m]
  blk_ext [iblk, idx t]

theorem V24 (c : Dev nD) (k : Fin 256) : V m c main_v24 (ix2 0 k) = MS m c ⟨384 + k.val, by have := k.isLt; omega⟩ := by
  entry_read
  pointwise

theorem iblk8 (c : Dev nD) (t : Fin cfg0.N) (k : Fin 256) :
    iblk m c 8 t (ix2 0 k) = MS m c ⟨384 + k.val, by have := k.isLt; omega⟩ := by
  rw [← V24 m]
  blk_ext [iblk, idx t]

section Own

variable (c : Dev nD) (t : Fin cfg0.N) (arg1 : Memref sig .tc .vmem S512x1024 .f32) (harg1 : arg1.IsWhole)
  (arg2 : Memref sig .tc .vmem S1024x3200 .bf16) (harg2 : arg2.IsWhole) (p : Fin 512)

theorem row_lt : 512 * t.val + p.val < 32768 := by
  have ht : t.val < 64 := lt_of_lt_of_eq t.isLt N_0
  have := p.isLt
  omega

/-- A block's row times a column of the wide weight is an element of the projected rows. -/
theorem sum_apply {v q : ℕ} (h) (j : Fin v) (j' : Fin 3200) (k : Fin 3218) (hj : j'.val = q + j.val)
    (hk : k.val = if j'.val < 1152 then j'.val else j'.val + 12) :
    (∑ l, (rows arg1 harg1 (iblk m c 0 t) (ix2 p l) : EReal) * View.readAt (Elt Ideal) arg2.view
        (Rect.unit (s := S1024x3200) ![0, q] (⟨2, ![1024, v]⟩ : Shape).size h).toLoadRect (harg2.unread (iblk m c 1 t)) (ix2 l j))
      = proj (X m c) (W m c) (512 * t.val + p.val) k := by
  rw [proj_row (X m c) (W m c) _ k ⟨512 * t.val + p.val, row_lt t p⟩ rfl]
  refine Finset.sum_congr rfl fun l _ => ?_
  rw [rows, read_apply arg1 harg1 (iblk m c 0 t) _ p l p l (Nat.zero_add _).symm (Nat.zero_add _).symm,
    read_apply arg2 harg2 (iblk m c 1 t) _ l j l j' (Nat.zero_add _).symm hj, iblk0 m c t p l ⟨512 * t.val + p.val, row_lt t p⟩ rfl,
    iblk1 m c t l j' k hk]

/-- The block's own gated rows. -/
theorem own32 (j : Fin 256) : k0_pay7 (F := Ideal) (rows arg1 harg1 (iblk m c 0 t)) (colsU arg2 harg2 (iblk m c 1 t)) (ix2 p j)
    = gated (X m c) (W m c) (512 * t.val + p.val) j := by
  have := j.isLt
  refine (pay7_apply _ p _ j).trans ?_
  unfold gated
  exact congrArg₂ glu
    (sum_apply m c t arg1 harg1 arg2 harg2 p _ _ ⟨1536 + j.val, by omega⟩ _ rfl (by rw [if_neg (by dsimp only; omega)]; dsimp only; omega))
    (sum_apply m c t arg1 harg1 arg2 harg2 p _ _ ⟨1792 + j.val, by omega⟩ _ (by dsimp only; omega) (by rw [if_neg (by dsimp only; omega)]; dsimp only; omega))

/-- The block's own rows of the four-tap branch. -/
theorem own8 (j : Fin 1152) : k0_pay67 (F := Ideal) (k0_pay2 (rows arg1 harg1 (iblk m c 0 t))) (colsQ arg2 harg2 (iblk m c 1 t)) (ix2 p j)
    = heads (X m c) (W m c) (512 * t.val + p.val) j := by
  have := j.isLt
  refine (pay67_apply _ p _ j).trans ?_
  exact sum_apply m c t arg1 harg1 arg2 harg2 p _ j ⟨j.val, by omega⟩ _ (Nat.zero_add _).symm (by rw [if_pos (by dsimp only; omega)])

theorem gate_apply (j : Fin 384) : k0_pay77 (F := Ideal) (k0_pay2 (rows arg1 harg1 (iblk m c 0 t))) (cols arg2 harg2 (iblk m c 1 t) 1152 (by decide)) (ix2 p j)
    = proj (X m c) (W m c) (512 * t.val + p.val) ⟨1164 + j.val, by have := j.isLt; omega⟩ := by
  have := j.isLt
  refine (pay77_apply _ p _ j).trans ?_
  exact sum_apply m c t arg1 harg1 arg2 harg2 p _ j ⟨1152 + j.val, by omega⟩ _ rfl (by rw [if_neg (by dsimp only; omega)]; dsimp only; omega)

theorem fq_apply (j : Fin 384) : (k0_pay78 (F := Ideal) (k0_pay2 (rows arg1 harg1 (iblk m c 0 t))) (cols arg2 harg2 (iblk m c 1 t) 2048 (by decide)) (ix2 p j) : EReal)
    = proj (X m c) (W m c) (512 * t.val + p.val) ⟨2060 + j.val, by have := j.isLt; omega⟩ * Ideal.ofBits .f32 0x3E000000#32 := by
  have := j.isLt
  refine (pay78_apply _ p _ j).trans (congrArg (· * _) ?_)
  exact sum_apply m c t arg1 harg1 arg2 harg2 p _ j ⟨2048 + j.val, by omega⟩ _ rfl (by rw [if_neg (by dsimp only; omega)]; dsimp only; omega)

theorem fk_apply (j : Fin 384) : k0_pay79 (F := Ideal) (k0_pay2 (rows arg1 harg1 (iblk m c 0 t))) (cols arg2 harg2 (iblk m c 1 t) 2432 (by decide)) (ix2 p j)
    = proj (X m c) (W m c) (512 * t.val + p.val) ⟨2444 + j.val, by have := j.isLt; omega⟩ := by
  have := j.isLt
  refine (pay79_apply _ p _ j).trans ?_
  exact sum_apply m c t arg1 harg1 arg2 harg2 p _ j ⟨2432 + j.val, by omega⟩ _ rfl (by rw [if_neg (by dsimp only; omega)]; dsimp only; omega)

theorem fv_apply (j : Fin 384) : k0_pay80 (F := Ideal) (k0_pay2 (rows arg1 harg1 (iblk m c 0 t))) (cols arg2 harg2 (iblk m c 1 t) 2816 (by decide)) (ix2 p j)
    = proj (X m c) (W m c) (512 * t.val + p.val) ⟨2828 + j.val, by have := j.isLt; omega⟩ := by
  have := j.isLt
  refine (pay80_apply _ p _ j).trans ?_
  exact sum_apply m c t arg1 harg1 arg2 harg2 p _ j ⟨2816 + j.val, by omega⟩ _ rfl (by rw [if_neg (by dsimp only; omega)]; dsimp only; omega)

/-- The small products are the small columns' products where every term the rounding left is zero. -/
theorem few_apply (arg3 : Memref sig .tc .vmem S1024x256 .bf16) (harg3 : arg3.IsWhole) (hx : ∀ r l, X m c r l - X m c r l = 0)
    (hw : ∀ l k, smallCol (W m c) l k - smallCol (W m c) l k = 0) (j : Fin 128) :
    k0_pay1 (F := Ideal) (rows arg1 harg1 (iblk m c 0 t)) (k0_pay2 (rows arg1 harg1 (iblk m c 0 t))) (narrow arg3 harg3 (iblk m c 2 t))
      (half arg3 harg3 (iblk m c 2 t)) (ix2 p j) = few (X m c) (W m c) (512 * t.val + p.val) j := by
  have hj := j.isLt
  have hr : ∀ l, rows arg1 harg1 (iblk m c 0 t) (ix2 p l) = X m c ⟨512 * t.val + p.val, row_lt t p⟩ l := fun l => by
    rw [rows, read_apply arg1 harg1 (iblk m c 0 t) _ p l p l (Nat.zero_add _).symm (Nat.zero_add _).symm,
      iblk0 m c t p l ⟨512 * t.val + p.val, row_lt t p⟩ rfl]
  have hlo : ∀ l, narrow arg3 harg3 (iblk m c 2 t) (ix2 l ⟨j.val, by omega⟩) = smallCol (W m c) l j := fun l => by
    rw [narrow, read_apply arg3 harg3 (iblk m c 2 t) _ l _ l ⟨j.val, by omega⟩ (Nat.zero_add _).symm (Nat.zero_add _).symm, iblk2]
    exact both_lo _ l _ j rfl
  have hhi : ∀ l, (narrow arg3 harg3 (iblk m c 2 t) (ix2 l ⟨128 + j.val, by omega⟩) : EReal) = 0 := fun l => by
    rw [narrow, read_apply arg3 harg3 (iblk m c 2 t) _ l _ l ⟨128 + j.val, by omega⟩ (Nat.zero_add _).symm (Nat.zero_add _).symm, iblk2]
    exact (both_hi _ l _ j rfl).trans (hw l j)
  refine (pay1_apply _ p _ _ j).trans ?_
  simp only [hr, hlo, hhi, hx, mul_zero, zero_mul, Finset.sum_const_zero, add_zero]
  unfold few smallCol
  split
  · rw [proj_row (X m c) (W m c) _ _ ⟨512 * t.val + p.val, row_lt t p⟩ rfl]
  · split
    · rw [proj_row (X m c) (W m c) _ _ ⟨512 * t.val + p.val, row_lt t p⟩ rfl]
    · simp only [mul_zero, Finset.sum_const_zero]

end Own

instance : Subsingleton Cert.Pre_finite_small.S_.Idx := ⟨fun a b => funext fun k => k.elim0⟩

theorem zero_of_bit {a : EReal} [Decidable (a = 0)] (h : BitVec.ofBool (decide (a = 0)) = 1#1) : a = 0 := by
  by_contra hn
  rw [decide_eq_false hn] at h
  exact absurd h (by decide)

/-- What the precondition says: the input's elements and the small columns' are finite. -/
theorem finite_of_pre [Cert.Pre_finite_small.Facts] (x : FVec Ideal S32768x1024 .f32) (w : FVec Ideal S1024x3218 .f32)
    (s : FVec Ideal S1024 .f32) (gw : FVec Ideal S4x1152 .f32) (cw : FVec Ideal S31x256 .f32) (cb g b : FVec Ideal S256 .f32)
    (h : Cert.Pre_finite_small.fn (F := Ideal) x w s gw cw cb g b = fun _ => 1#1) :
    (∀ r l, (x (ix2 r l) - x (ix2 r l) : EReal) = 0)
      ∧ ∀ l k, smallCol (fun l k => w (ix2 l k)) l k - smallCol (fun l k => w (ix2 l k)) l k = 0 := by
  obtain ⟨h1, h2⟩ := IntOp.andi_eq_one.1 (congrFun h (Shape.Idx.first Cert.Pre_finite_small.Facts.h_S_))
  obtain ⟨h3, h4⟩ := IntOp.andi_eq_one.1 h1
  have e0 := Host.reduce_andi_all _ _ _ _ (Shape.Idx.first Cert.Pre_finite_small.Facts.h_S_) h3
  have e1 := Host.reduce_andi_all _ _ _ _ (Shape.Idx.first Cert.Pre_finite_small.Facts.h_S_) h4
  have e2 := Host.reduce_andi_all _ _ _ _ (Shape.Idx.first Cert.Pre_finite_small.Facts.h_S_) h2
  refine ⟨fun r l => ?_, fun l k => ?_⟩
  · have := e0 (ix2 r l)
    pointwise at this
    exact zero_of_bit this
  · unfold smallCol
    split
    · rename_i h12
      have := e1 (ix2 l ⟨k.val, h12⟩)
      pointwise at this
      exact zero_of_bit this
    · split
      · rename_i h12 h18
        have := e2 (ix2 l ⟨k.val - 12, by omega⟩)
        pointwise at this
        have e : (⟨3212 + (k.val - 12), by omega⟩ : Fin 3218) = ⟨3200 + k.val, by omega⟩ :=
          Fin.ext (by show 3212 + (k.val - 12) = 3200 + k.val; omega)
        rw [e] at this
        exact zero_of_bit this
      · exact sub_zero _

end Cert.InProjIdeal.Blocks

end
-- ==== Proof.InProjReference.lean ====
/-
  The input projection's reference read element by element: the projected rows, the two sums over padded past rows, the layer
  norm, and the columns passed on.
-/
module

public import proofs.«01_k».proof.Proof.Gen.InProjReferenceIdeal.Run
public import proofs.«01_k».proof.Proof.InProjSpec
public import Idealize.ShloMosaic.Lib.KernelVsHost
public import Idealize.ShloMosaic.Lib.Tactic

@[expose] public section

set_option maxRecDepth 16384

noncomputable section

namespace Cert.InProjReferenceIdeal.Read

open Cert.InProjReferenceIdeal Cert.InProjReferenceIdeal.Gen Cert.InProjReferenceIdeal.Value Idealize.ShloMosaic Idealize.ShloMosaic.Tactic
open Idealize.SL.Sem Cert.Swiglu Cert.InProj.Spec

variable (V : Valuation τ sig (Elt Ideal))

/-- The input rows. -/
abbrev X (r : Fin 32768) (l : Fin 1024) : EReal := V (Proc.devRef .tc main_arg0) (ix2 r l)

/-- The projection. -/
abbrev W (l : Fin 1024) (j : Fin 3218) : EReal := V (Proc.devRef .tc main_arg1) (ix2 l j)

/-- The 31 weight rows. -/
abbrev CW (k : Fin 31) (j : Fin 256) : EReal := V (Proc.devRef .tc main_arg4) (ix2 k j)

/-- The four weight rows. -/
abbrev GW (k : Fin 4) (j : Fin 1152) : EReal := V (Proc.devRef .tc main_arg3) (ix2 k j)

/-- The bias. -/
abbrev CB (j : Fin 256) : EReal := V (Proc.devRef .tc main_arg5) (ix1 j)

/-- The layer norm's gain. -/
abbrev LG (j : Fin 256) : EReal := V (Proc.devRef .tc main_arg6) (ix1 j)

/-- The layer norm's offset. -/
abbrev LB (j : Fin 256) : EReal := V (Proc.devRef .tc main_arg7) (ix1 j)

/-- The mixing scale. -/
abbrev MS (j : Fin 1024) : EReal := V (Proc.devRef .tc main_arg2) (ix1 j)

/-- A projected row, by sequence and place. -/
theorem v1_apply (b : Fin 4) (p : Fin 8192) (j : Fin 3218) : res_main_v1 V (ix3 b p j) = proj (X V) (W V) (8192 * b.val + p.val) j := by
  have hr : 8192 * b.val + p.val < 32768 := by have := b.isLt; have := p.isLt; omega
  rw [proj_row (X V) (W V) _ j ⟨8192 * b.val + p.val, hr⟩ rfl]
  unfold res_main_v1
  refine (shapeCast_apply _ _ (ix3 b p j) (ix2 ⟨8192 * b.val + p.val, hr⟩ j) (by
    rw [Shape.rowMajor_val_two, Shape.rowMajor_val_three]; simp [Nat.mul_comm])).trans ?_
  pointwise

/-- The gated rows, by sequence and place. -/
theorem gated_apply (b : Fin 4) (p : Fin 8192) (j : Fin 256) :
    (mulf (extractStridedSlice S4x8192x256 ![0, 0, 0] (res_main_v8 V) slices_S4x8192x512_S4x8192x256_0_0_0) (Host.divf
      (broadcastInDim S4x8192x256 ![] bcast_S_S4x8192x256 (constant S_ .f32 0x3F800000#32))
      (addf (broadcastInDim S4x8192x256 ![] bcast_S_S4x8192x256 (constant S_ .f32 0x3F800000#32))
        (Host.exp (Host.negf (extractStridedSlice S4x8192x256 ![0, 0, 256] (res_main_v8 V) slices_S4x8192x512_S4x8192x256_0_0_256)))))
      : FVec Ideal S4x8192x256 .f32) (ix3 b p j) = gated (X V) (W V) (8192 * b.val + p.val) j := by
  unfold gated glu
  rw [← v1_apply, ← v1_apply]
  pointwise [res_main_v8]
  have e : (⟨1548 + (256 + j.val), by have := j.isLt; omega⟩ : Fin 3218) = ⟨1804 + j.val, by have := j.isLt; omega⟩ :=
    Fin.ext (by show 1548 + (256 + j.val) = 1804 + j.val; omega)
  rw [e]

/-- The padded gated rows. -/
theorem v54_apply (b : Fin 4) (q : Fin 8222) (j : Fin 256) :
    res_main_v54 V (ix3 b q j) = if q.val < 30 then 0 else gated (X V) (W V) (8192 * b.val + (q.val - 30)) j := by
  unfold res_main_v54
  split
  · rename_i h
    rw [pad_apply_of_not_inside _ _ _ _ _ _ _ (ix3 b q j) 1 (fun hc => by
      have h1 : 30 ≤ q.val := hc.1
      omega)]
    pointwise
    exact sitofp_zero (φ := .f32)
  · rename_i h
    have hp : q.val - 30 < 8192 := by have := q.isLt; omega
    rw [pad_apply_of_inside _ _ _ _ _ _ _ (ix3 b q j) (ix3 b ⟨q.val - 30, hp⟩ j) (Fin.forall_fin_succ.mpr ⟨?_, Fin.forall_fin_two.mpr ⟨?_, ?_⟩⟩)]
    · exact gated_apply V b ⟨q.val - 30, hp⟩ j
    · show b.val = 0 + b.val * 1
      omega
    · show q.val = 30 + (q.val - 30) * 1
      omega
    · show j.val = 0 + j.val * 1
      omega

/-- The padded rows of the four-tap branch. -/
theorem v14_apply (b : Fin 4) (q : Fin 8195) (j : Fin 1152) :
    res_main_v14 V (ix3 b q j) = if q.val < 3 then 0 else heads (X V) (W V) (8192 * b.val + (q.val - 3)) j := by
  unfold res_main_v14
  split
  · rename_i h
    rw [pad_apply_of_not_inside _ _ _ _ _ _ _ (ix3 b q j) 1 (fun hc => by
      have h1 : 3 ≤ q.val := hc.1
      omega)]
    pointwise
    exact sitofp_zero (φ := .f32)
  · rename_i h
    have hp : q.val - 3 < 8192 := by have := q.isLt; omega
    rw [pad_apply_of_inside _ _ _ _ _ _ _ (ix3 b q j) (ix3 b ⟨q.val - 3, hp⟩ j) (Fin.forall_fin_succ.mpr ⟨?_, Fin.forall_fin_two.mpr ⟨?_, ?_⟩⟩)]
    · unfold heads
      rw [show 8192 * b.val + (q.val - 3) = 8192 * b.val + (⟨q.val - 3, hp⟩ : Fin 8192).val from rfl, ← v1_apply]
      pointwise
      split
      · rfl
      · split
        · exact congrArg (fun k => res_main_v1 V (ix3 b _ k)) (Fin.ext (by dsimp only; omega))
        · exact congrArg (fun k => res_main_v1 V (ix3 b _ k)) (Fin.ext (by dsimp only; omega))
    · show b.val = 0 + b.val * 1
      omega
    · show q.val = 3 + (q.val - 3) * 1
      omega
    · show j.val = 0 + j.val * 1
      omega

theorem slices_31 (k : Fin 31) : S31x256.Slices ![k.val, 0] S1x256 :=
  ⟨rfl, Fin.forall_fin_two.mpr ⟨k.isLt, (Nat.zero_add _).le⟩⟩

theorem slices_past (k : Fin 31) : S4x8222x256.Slices ![0, k.val, 0] S4x8192x256 :=
  ⟨rfl, Fin.forall_fin_succ.mpr ⟨(Nat.zero_add _).le, Fin.forall_fin_two.mpr ⟨by
    show k.val + 8192 ≤ 8222
    have := k.isLt
    omega, (Nat.zero_add _).le⟩⟩⟩

theorem slices_4 (k : Fin 4) : S4x1152.Slices ![k.val, 0] S1x1152 :=
  ⟨rfl, Fin.forall_fin_two.mpr ⟨k.isLt, (Nat.zero_add _).le⟩⟩

theorem slices_past4 (k : Fin 4) : S4x8195x1152.Slices ![0, k.val, 0] S4x8192x1152 :=
  ⟨rfl, Fin.forall_fin_succ.mpr ⟨(Nat.zero_add _).le, Fin.forall_fin_two.mpr ⟨by
    show k.val + 8192 ≤ 8195
    have := k.isLt
    omega, (Nat.zero_add _).le⟩⟩⟩

/-- Tap `k` of the 31. -/
def term (k : Fin 31) : FVec Ideal S4x8192x256 .f32 :=
  mulf (broadcastInDim S4x8192x256 ![0, 1, 2] bcast_S1x1x256_S4x8192x256_0_1_2 (broadcastInDim S1x1x256 ![2] bcast_S256_S1x1x256_2
      (shapeCast S256 (extractStridedSlice S1x256 ![k.val, 0] (V (Proc.devRef .tc main_arg4) : FVec Ideal S31x256 .f32) (slices_31 k)) shapeCasts_S1x256_S256)))
    (extractStridedSlice S4x8192x256 ![0, k.val, 0] (res_main_v54 V : FVec Ideal S4x8222x256 .f32) (slices_past k))

/-- Tap `k` of the four. -/
def term4 (k : Fin 4) : FVec Ideal S4x8192x1152 .f32 :=
  mulf (broadcastInDim S4x8192x1152 ![0, 1, 2] bcast_S1x1x1152_S4x8192x1152_0_1_2 (broadcastInDim S1x1x1152 ![2] bcast_S1152_S1x1x1152_2
      (shapeCast S1152 (extractStridedSlice S1x1152 ![k.val, 0] (V (Proc.devRef .tc main_arg3) : FVec Ideal S4x1152 .f32) (slices_4 k)) shapeCasts_S1x1152_S1152)))
    (extractStridedSlice S4x8192x1152 ![0, k.val, 0] (res_main_v14 V : FVec Ideal S4x8195x1152 .f32) (slices_past4 k))

/-- The 31-tap sum with its bias, as a fold. -/
theorem v275_eq : res_main_v275 V = addf
    (([0, 1, 2, 3, 4, 5, 6, 7, 8, 9, 10, 11, 12, 13, 14, 15, 16, 17, 18, 19, 20, 21, 22, 23, 24, 25, 26, 27, 28, 29, 30] : List (Fin 31)).foldl
      (fun acc k => addf acc (term V k)) (broadcastInDim S4x8192x256 ![] bcast_S_S4x8192x256 (constant S_ .f32 0x00000000#32)))
    (broadcastInDim S4x8192x256 ![0, 1, 2] bcast_S1x1x256_S4x8192x256_0_1_2 (broadcastInDim S1x1x256 ![2] bcast_S256_S1x1x256_2
      (V (Proc.devRef .tc main_arg5)))) := by
  sl_kernel_rfl

/-- The four-tap sum, as a fold. -/
theorem v43_eq : res_main_v43 V = ([0, 1, 2, 3] : List (Fin 4)).foldl (fun acc k => addf acc (term4 V k))
    (broadcastInDim S4x8192x1152 ![] bcast_S_S4x8192x1152 (constant S_ .f32 0x00000000#32)) := by
  sl_kernel_rfl

theorem term_apply (k : Fin 31) (b : Fin 4) (p : Fin 8192) (j : Fin 256) : term V k (ix3 b p j)
    = CW V k j * back 31 (fun n => gated (X V) (W V) n j) (8192 * b.val + p.val) k.val := by
  have hq : k.val + p.val < 8222 := by have := k.isLt; have := p.isLt; omega
  have e : back 31 (fun n => gated (X V) (W V) n j) (8192 * b.val + p.val) k.val = res_main_v54 V (ix3 b ⟨k.val + p.val, hq⟩ j) := by
    have h1 : (8192 * b.val + p.val) % 8192 = p.val := by have := p.isLt; omega
    rw [v54_apply]
    unfold back
    rw [h1]
    by_cases h : k.val + p.val < 30
    · rw [if_pos (by omega), if_pos h]
    · rw [if_neg (by omega), if_neg h]
      exact congrArg (fun n => gated (X V) (W V) n j) (by show _ = 8192 * b.val + (k.val + p.val - 30); omega)
  rw [e]
  pointwise [term]

theorem term4_apply (k : Fin 4) (b : Fin 4) (p : Fin 8192) (j : Fin 1152) : term4 V k (ix3 b p j)
    = GW V k j * back 4 (fun n => heads (X V) (W V) n j) (8192 * b.val + p.val) k.val := by
  have hq : k.val + p.val < 8195 := by have := k.isLt; have := p.isLt; omega
  have e : back 4 (fun n => heads (X V) (W V) n j) (8192 * b.val + p.val) k.val = res_main_v14 V (ix3 b ⟨k.val + p.val, hq⟩ j) := by
    have h1 : (8192 * b.val + p.val) % 8192 = p.val := by have := p.isLt; omega
    rw [v14_apply]
    unfold back
    rw [h1]
    by_cases h : k.val + p.val < 3
    · rw [if_pos (by omega), if_pos h]
    · rw [if_neg (by omega), if_neg h]
      exact congrArg (fun n => heads (X V) (W V) n j) (by show _ = 8192 * b.val + (k.val + p.val - 3); omega)
  rw [e]
  pointwise [term4]

theorem v275_apply (b : Fin 4) (p : Fin 8192) (j : Fin 256) : (res_main_v275 V (ix3 b p j) : EReal)
    = CB V j + ∑ k : Fin 31, CW V k j
        * back 31 (fun n => gated (X V) (W V) n j) (8192 * b.val + p.val) k.val := by
  have h : (([0, 1, 2, 3, 4, 5, 6, 7, 8, 9, 10, 11, 12, 13, 14, 15, 16, 17, 18, 19, 20, 21, 22, 23, 24, 25, 26, 27, 28, 29, 30] : List (Fin 31)).foldl
      (fun acc k => addf acc (term V k)) (broadcastInDim S4x8192x256 ![] bcast_S_S4x8192x256 (constant S_ .f32 0x00000000#32))
        : FVec Ideal S4x8192x256 .f32) (ix3 b p j) = ∑ k : Fin 31, CW V k j
        * back 31 (fun n => gated (X V) (W V) n j) (8192 * b.val + p.val) k.val := by
    rw [foldl_apply, foldl_31]
    simp only [term_apply]
    pointwise
  rw [v275_eq, ← h, add_comm]
  pointwise

theorem v43_apply (b : Fin 4) (p : Fin 8192) (j : Fin 1152) : (res_main_v43 V (ix3 b p j) : EReal)
    = ∑ k : Fin 4, GW V k j * back 4 (fun n => heads (X V) (W V) n j) (8192 * b.val + p.val) k.val := by
  rw [v43_eq, foldl_apply, foldl_4]
  simp only [term4_apply]
  pointwise

/-- The layer norm of the windowed rows. -/
theorem v299_apply (b : Fin 4) (p : Fin 8192) (j : Fin 256) : res_main_v299 V (ix3 b p j)
    = norm256 (fun l => res_main_v275 V (ix3 b p l)) (LG V j) (LB V j) j := by
  pointwise [res_main_v299, res_main_v281, res_main_v279, norm256, mean256]

theorem row_split (r : Fin 32768) : ∃ (b : Fin 4) (p : Fin 8192), r.val = 8192 * b.val + p.val := by
  have h := r.isLt
  exact ⟨⟨r.val / 8192, by omega⟩, ⟨r.val % 8192, by omega⟩, by show r.val = 8192 * (r.val / 8192) + r.val % 8192; omega⟩

variable (r : Fin 32768)

theorem q_apply (j : Fin 1152) : (shapeCast S32768x1152 (mulf (res_main_v43 V) (Host.divf
    (broadcastInDim S4x8192x1152 ![] bcast_S_S4x8192x1152 (constant S_ .f32 0x3F800000#32))
    (addf (broadcastInDim S4x8192x1152 ![] bcast_S_S4x8192x1152 (constant S_ .f32 0x3F800000#32)) (Host.exp (Host.negf (res_main_v43 V))))))
    shapeCasts_S4x8192x1152_S32768x1152 : FVec Ideal S32768x1152 .f32) (ix2 r j)
      = short (fun n => heads (X V) (W V) n j) (fun k => GW V k j) r.val := by
  obtain ⟨b, p, hr⟩ := row_split r
  rw [shapeCast_apply _ _ (ix2 r j) (ix3 b p j) (by rw [Shape.rowMajor_val_two, Shape.rowMajor_val_three]; simp [hr, Nat.mul_comm]), hr]
  unfold short
  rw [← v43_apply]
  pointwise [act]

theorem ob_apply (j : Fin 256) : (shapeCast S32768x256 (truncf .bf16 (mulf (mulf (res_main_v299 V) (Host.divf
    (broadcastInDim S4x8192x256 ![] bcast_S_S4x8192x256 (constant S_ .f32 0x3F800000#32))
    (addf (broadcastInDim S4x8192x256 ![] bcast_S_S4x8192x256 (constant S_ .f32 0x3F800000#32)) (Host.exp (Host.negf (res_main_v299 V))))))
    (broadcastInDim S4x8192x256 ![0, 1, 2] bcast_S1x1x256_S4x8192x256_0_1_2 (broadcastInDim S1x1x256 ![2] bcast_S256_S1x1x256_2
      (extractStridedSlice S256 ![384] (V (Proc.devRef .tc main_arg2)) slices_S1024_S256_384)))) bitsLt_bf16_f32)
    shapeCasts_S4x8192x256_S32768x256 : FVec Ideal S32768x256 .bf16) (ix2 r j)
      = branch (gated (X V) (W V)) (CW V) (CB V) (LG V j) (LB V j) (MS V ⟨384 + j.val, by have := j.isLt; omega⟩) r.val j := by
  obtain ⟨b, p, hr⟩ := row_split r
  rw [shapeCast_apply _ _ (ix2 r j) (ix3 b p j) (by rw [Shape.rowMajor_val_two, Shape.rowMajor_val_three]; simp [hr, Nat.mul_comm]), hr]
  unfold branch
  rw [← show (fun l => (res_main_v275 V (ix3 b p l) : EReal)) = _ from funext fun l => v275_apply V b p l, ← v299_apply]
  pointwise [act]

theorem gate_apply (j : Fin 384) : (shapeCast S32768x384 (extractStridedSlice S4x8192x384 ![0, 0, 1164] (res_main_v1 V)
    slices_S4x8192x3218_S4x8192x384_0_0_1164) shapeCasts_S4x8192x384_S32768x384 : FVec Ideal S32768x384 .f32) (ix2 r j)
      = proj (X V) (W V) r.val ⟨1164 + j.val, by have := j.isLt; omega⟩ := by
  obtain ⟨b, p, hr⟩ := row_split r
  rw [shapeCast_apply _ _ (ix2 r j) (ix3 b p j) (by rw [Shape.rowMajor_val_two, Shape.rowMajor_val_three]; simp [hr, Nat.mul_comm]), hr, ← v1_apply]
  pointwise

theorem fq_apply (j : Fin 384) : (shapeCast S32768x384 (truncf .bf16 (mulf (extractStridedSlice S4x8192x384 ![0, 0, 2060] (res_main_v1 V)
    slices_S4x8192x3218_S4x8192x384_0_0_2060) (broadcastInDim S4x8192x384 ![] bcast_S_S4x8192x384 (constant S_ .f32 0x3E000000#32)))
    bitsLt_bf16_f32) shapeCasts_S4x8192x384_S32768x384 : FVec Ideal S32768x384 .bf16) (ix2 r j)
      = proj (X V) (W V) r.val ⟨2060 + j.val, by have := j.isLt; omega⟩ * Ideal.ofBits .f32 0x3E000000#32 := by
  obtain ⟨b, p, hr⟩ := row_split r
  rw [shapeCast_apply _ _ (ix2 r j) (ix3 b p j) (by rw [Shape.rowMajor_val_two, Shape.rowMajor_val_three]; simp [hr, Nat.mul_comm]), hr, ← v1_apply]
  pointwise

theorem fk_apply (j : Fin 384) : (shapeCast S32768x384 (truncf .bf16 (extractStridedSlice S4x8192x384 ![0, 0, 2444] (res_main_v1 V)
    slices_S4x8192x3218_S4x8192x384_0_0_2444) bitsLt_bf16_f32) shapeCasts_S4x8192x384_S32768x384 : FVec Ideal S32768x384 .bf16) (ix2 r j)
      = proj (X V) (W V) r.val ⟨2444 + j.val, by have := j.isLt; omega⟩ := by
  obtain ⟨b, p, hr⟩ := row_split r
  rw [shapeCast_apply _ _ (ix2 r j) (ix3 b p j) (by rw [Shape.rowMajor_val_two, Shape.rowMajor_val_three]; simp [hr, Nat.mul_comm]), hr, ← v1_apply]
  pointwise

theorem fv_apply (j : Fin 384) : (shapeCast S32768x384 (truncf .bf16 (extractStridedSlice S4x8192x384 ![0, 0, 2828] (res_main_v1 V)
    slices_S4x8192x3218_S4x8192x384_0_0_2828) bitsLt_bf16_f32) shapeCasts_S4x8192x384_S32768x384 : FVec Ideal S32768x384 .bf16) (ix2 r j)
      = proj (X V) (W V) r.val ⟨2828 + j.val, by have := j.isLt; omega⟩ := by
  obtain ⟨b, p, hr⟩ := row_split r
  rw [shapeCast_apply _ _ (ix2 r j) (ix3 b p j) (by rw [Shape.rowMajor_val_two, Shape.rowMajor_val_three]; simp [hr, Nat.mul_comm]), hr, ← v1_apply]
  pointwise

theorem small_apply (j : Fin 128) : (shapeCast S32768x128 (concatenate S4x8192x128 2
      [⟨S4x8192x6, (extractStridedSlice S4x8192x6 ![0, 0, 1152] (res_main_v1 V) slices_S4x8192x3218_S4x8192x6_0_0_1152 : FVec Ideal S4x8192x6 .f32)⟩,
        ⟨S4x8192x6, (extractStridedSlice S4x8192x6 ![0, 0, 1158] (res_main_v1 V) slices_S4x8192x3218_S4x8192x6_0_0_1158 : FVec Ideal S4x8192x6 .f32)⟩,
        ⟨S4x8192x6, (extractStridedSlice S4x8192x6 ![0, 0, 3212] (res_main_v1 V) slices_S4x8192x3218_S4x8192x6_0_0_3212 : FVec Ideal S4x8192x6 .f32)⟩,
        ⟨S4x8192x110, (broadcastInDim S4x8192x110 ![] bcast_S_S4x8192x110 (constant S_ .f32 0x00000000#32) : FVec Ideal S4x8192x110 .f32)⟩]
      concatenates_S4x8192x6_S4x8192x6_S4x8192x6_S4x8192x110_S4x8192x128_d2) shapeCasts_S4x8192x128_S32768x128 : FVec Ideal S32768x128 .f32) (ix2 r j)
      = few (X V) (W V) r.val j := by
  obtain ⟨b, p, hr⟩ := row_split r
  rw [shapeCast_apply _ _ (ix2 r j) (ix3 b p j) (by rw [Shape.rowMajor_val_two, Shape.rowMajor_val_three]; simp [hr, Nat.mul_comm]), hr]
  unfold few
  simp only [← v1_apply]
  pointwise
  exact few_cases (fun k => res_main_v1 V (ix3 b p k)) j

end Cert.InProjReferenceIdeal.Read

end
-- ==== Proof.InProj.lean ====
/-
  The input projection: what each grid point leaves in its blocks and sliding buffers, the seven result arrays, and the equality
  with the reference.
-/
module

public import proofs.«01_k».proof.Proof.Gen.InProjIdeal.Value
public import proofs.«01_k».proof.Proof.InProjBlocks
public import proofs.«01_k».proof.Proof.InProjReference
public import proofs.«01_k».proof.Defs
public import Idealize.ShloMosaic.Lib.Pipeline.ValueKit
public import proofs.«01_k».proof.Proof.Gen.Pre_finite_small

@[expose] public section

set_option maxRecDepth 16384

noncomputable section

namespace Cert.InProjIdeal.Result

open Cert.InProjIdeal Cert.InProjIdeal.Gen Cert.InProjIdeal.Pieces Cert.InProjIdeal.Kit Cert.InProjIdeal.Blocks
open Idealize.ShloMosaic Idealize.ShloMosaic.TcCoe Idealize.SL.Sem Cert.InProj.Spec Cert.Swiglu

variable (m : (ℓ : Loc nD τ sig) → Buf (Elt Ideal) ℓ)

/-- The buffer left by point `t` ends with the block's own gated rows. -/
theorem tail32 (c : Dev nD) (t : Fin cfg0.N) (a : Fin 544) (p : Fin 512) (ha : a.val = 32 + p.val) (j : Fin 256) :
    (outsAt0 m c t.val t.isLt).2.2.2.2.2.2.2.2 (ix2 a j) = gated (X m c) (W m c) (512 * t.val + p.val) j := by
  by_cases h0 : t.val % 16 = 0
  · refine (congrArg (fun z => z.2.2.2.2.2.2.2.2 (ix2 a j)) (outsAt0_A m c t h0 (not_not.mpr h0))).trans ?_
    dsimp only
    unfold sout0_A_1
    rw [View.read_writes_junk_eq_canon, runA_s1]
    exact (canon_hit _ _ _ a p j ha).trans (own32 m c t _ _ _ _ p j)
  · refine (congrArg (fun z => z.2.2.2.2.2.2.2.2 (ix2 a j)) (outsAt0_B m c t h0 h0)).trans ?_
    dsimp only
    unfold sout0_B_1
    rw [View.read_writes_junk_eq_canon, runB_s1]
    exact (canon_hit _ _ _ a p j ha).trans (own32 m c t _ _ _ _ p j)

/-- The buffer left by point `t` ends with the block's own rows of the four-tap branch. -/
theorem tail8 (c : Dev nD) (t : Fin cfg0.N) (a : Fin 520) (p : Fin 512) (ha : a.val = 8 + p.val) (j : Fin 1152) :
    (outsAt0 m c t.val t.isLt).2.2.2.2.2.2.2.1 (ix2 a j) = heads (X m c) (W m c) (512 * t.val + p.val) j := by
  by_cases h0 : t.val % 16 = 0
  · refine (congrArg (fun z => z.2.2.2.2.2.2.2.1 (ix2 a j)) (outsAt0_A m c t h0 (not_not.mpr h0))).trans ?_
    dsimp only
    unfold sout0_A_0
    rw [View.read_writes_junk_eq_canon, runA_s0]
    exact (canon_hit _ _ _ a p j ha).trans (own8 m c t _ _ _ _ p j)
  · refine (congrArg (fun z => z.2.2.2.2.2.2.2.1 (ix2 a j)) (outsAt0_B m c t h0 h0)).trans ?_
    dsimp only
    unfold sout0_B_0
    rw [View.read_writes_junk_eq_canon, runB_s0]
    exact (canon_hit _ _ _ a p j ha).trans (own8 m c t _ _ _ _ p j)

section Heads

variable (c : Dev nD) (t : Fin cfg0.N)

/-- A sequence's first block starts from zero rows. -/
theorem zero32 (h0 : t.val % 16 = 0) (a : Fin 32) (j : Fin 256) :
    (shapeCast S32x256 (broadcast S32x256 (Scalar.ofBits .f32 0x00000000#32)) shapeCasts_S32x256_S32x256 : FVec Ideal S32x256 .f32) (ix2 a j)
      = held 32 (fun n => gated (X m c) (W m c) n j) t.val a.val := by
  unfold held
  rw [if_pos ⟨h0, a.isLt⟩]
  pointwise

theorem zero8 (h0 : t.val % 16 = 0) (a : Fin 8) (j : Fin 1152) :
    (shapeCast S8x1152 (broadcast S8x1152 (Scalar.ofBits .f32 0x00000000#32)) shapeCasts_S8x1152_S8x1152 : FVec Ideal S8x1152 .f32) (ix2 a j)
      = held 8 (fun n => heads (X m c) (W m c) n j) t.val a.val := by
  unfold held
  rw [if_pos ⟨h0, a.isLt⟩]
  pointwise

/-- Any other block starts from the last rows of the block before. -/
theorem past32 (h0 : ¬t.val % 16 = 0) (arg18 : Memref sig .tc .vmem S544x256 .f32) (harg18 : arg18.IsWhole) (a : Fin 32) (j : Fin 256) :
    kept32 arg18 harg18 (outsAt0 m c (t.val - 1) (Nat.lt_of_le_of_lt (Nat.sub_le _ _) t.isLt)).2.2.2.2.2.2.2.2 (ix2 a j)
      = held 32 (fun n => gated (X m c) (W m c) n j) t.val a.val := by
  have := a.isLt
  rw [kept32, shapeCast_apply _ _ (ix2 a j) (ix2 a j) rfl,
    read_apply arg18 harg18 _ _ a j ⟨512 + a.val, by omega⟩ j rfl (Nat.zero_add _).symm,
    tail32 m c ⟨t.val - 1, Nat.lt_of_le_of_lt (Nat.sub_le _ _) t.isLt⟩ ⟨512 + a.val, by omega⟩ ⟨480 + a.val, by omega⟩ (by dsimp only; omega) j]
  unfold held
  rw [if_neg (fun h => h0 h.1)]
  exact congrArg (fun n => gated (X m c) (W m c) n j) (by dsimp only; omega)

theorem past8 (h0 : ¬t.val % 16 = 0) (arg17 : Memref sig .tc .vmem S520x1152 .f32) (harg17 : arg17.IsWhole) (a : Fin 8) (j : Fin 1152) :
    kept8 arg17 harg17 (outsAt0 m c (t.val - 1) (Nat.lt_of_le_of_lt (Nat.sub_le _ _) t.isLt)).2.2.2.2.2.2.2.1 (ix2 a j)
      = held 8 (fun n => heads (X m c) (W m c) n j) t.val a.val := by
  have := a.isLt
  rw [kept8, shapeCast_apply _ _ (ix2 a j) (ix2 a j) rfl,
    read_apply arg17 harg17 _ _ a j ⟨512 + a.val, by omega⟩ j rfl (Nat.zero_add _).symm,
    tail8 m c ⟨t.val - 1, Nat.lt_of_le_of_lt (Nat.sub_le _ _) t.isLt⟩ ⟨512 + a.val, by omega⟩ ⟨504 + a.val, by omega⟩ (by dsimp only; omega) j]
  unfold held
  rw [if_neg (fun h => h0 h.1)]
  exact congrArg (fun n => heads (X m c) (W m c) n j) (by dsimp only; omega)

variable (y : Fin 512)

/-- The four-tap branch's block. -/
theorem at_q (j : Fin 1152) : (outsAt0 m c t.val t.isLt).1 (ix2 y j)
    = short (fun n => heads (X m c) (W m c) n j) (fun k => GW m c k j) (512 * t.val + y.val) := by
  have hw : (fun k : Fin 4 => (iblk m c 3 t (ix2 k j) : EReal)) = fun k => GW m c k j := funext fun k => iblk3 m c t k j
  by_cases h0 : t.val % 16 = 0
  · refine (congrArg (fun z => z.1 (ix2 y j)) (outsAt0_A m c t h0 (not_not.mpr h0))).trans ?_
    dsimp only
    unfold out0_A_9
    rw [View.read_writes_junk_eq_canon, runA_q, ← hw]
    exact q_apply _ _ _ _ (heads (X m c) (W m c)) t.val (fun a j => buf8_apply _ _ (fun n => heads (X m c) (W m c) n j) t.val j
      (fun a => zero8 m c t h0 a j) (fun p => own8 m c t _ _ _ _ p j) a) _ y j
  · refine (congrArg (fun z => z.1 (ix2 y j)) (outsAt0_B m c t h0 h0)).trans ?_
    dsimp only
    unfold out0_B_9
    rw [View.read_writes_junk_eq_canon, runB_q, ← hw]
    exact q_apply _ _ _ _ (heads (X m c) (W m c)) t.val (fun a j => buf8_apply _ _ (fun n => heads (X m c) (W m c) n j) t.val j
      (fun a => past8 m c t h0 _ _ a j) (fun p => own8 m c t _ _ _ _ p j) a) _ y j

/-- The windowed branch's block. -/
theorem at_ob (j : Fin 256) : (outsAt0 m c t.val t.isLt).2.2.1 (ix2 y j)
    = branch (gated (X m c) (W m c)) (CW m c) (CB m c) (LG m c j) (LB m c j) (MS m c ⟨384 + j.val, by have := j.isLt; omega⟩)
        (512 * t.val + y.val) j := by
  have hw : (fun (k : Fin 31) (l : Fin 256) => (iblk m c 4 t (ix2 k l) : EReal)) = CW m c := funext fun k => funext fun l => iblk4 m c t k l
  by_cases h0 : t.val % 16 = 0
  · refine (congrArg (fun z => z.2.2.1 (ix2 y j)) (outsAt0_A m c t h0 (not_not.mpr h0))).trans ?_
    dsimp only
    unfold out0_A_11
    rw [View.read_writes_junk_eq_canon, runA_ob]
    refine (ob_apply _ _ _ _ _ (gated (X m c) (W m c)) t.val (fun a j => buf32_apply _ _ (fun n => gated (X m c) (W m c) n j) t.val j
      (fun a => zero32 m c t h0 a j) (fun p => own32 m c t _ _ _ _ p j) a) _ _ _ _ _ y j).trans ?_
    simp only [row_apply, hw, iblk5, iblk6, iblk7, iblk8]
  · refine (congrArg (fun z => z.2.2.1 (ix2 y j)) (outsAt0_B m c t h0 h0)).trans ?_
    dsimp only
    unfold out0_B_11
    rw [View.read_writes_junk_eq_canon, runB_ob]
    refine (ob_apply _ _ _ _ _ (gated (X m c) (W m c)) t.val (fun a j => buf32_apply _ _ (fun n => gated (X m c) (W m c) n j) t.val j
      (fun a => past32 m c t h0 _ _ a j) (fun p => own32 m c t _ _ _ _ p j) a) _ _ _ _ _ y j).trans ?_
    simp only [row_apply, hw, iblk5, iblk6, iblk7, iblk8]

/-- The gate's block. -/
theorem at_gate (j : Fin 384) : (outsAt0 m c t.val t.isLt).2.1 (ix2 y j)
    = proj (X m c) (W m c) (512 * t.val + y.val) ⟨1164 + j.val, by have := j.isLt; omega⟩ := by
  by_cases h0 : t.val % 16 = 0
  · refine (congrArg (fun z => z.2.1 (ix2 y j)) (outsAt0_A m c t h0 (not_not.mpr h0))).trans ?_
    dsimp only
    unfold out0_A_10
    rw [View.read_writes_junk_eq_canon, runA_gate]
    exact (canon_one _ _ y j).trans (gate_apply m c t _ _ _ _ y j)
  · refine (congrArg (fun z => z.2.1 (ix2 y j)) (outsAt0_B m c t h0 h0)).trans ?_
    dsimp only
    unfold out0_B_10
    rw [View.read_writes_junk_eq_canon, runB_gate]
    exact (canon_one _ _ y j).trans (gate_apply m c t _ _ _ _ y j)

/-- The scaled queries' block. -/
theorem at_fq (j : Fin 384) : (outsAt0 m c t.val t.isLt).2.2.2.1 (ix2 y j)
    = proj (X m c) (W m c) (512 * t.val + y.val) ⟨2060 + j.val, by have := j.isLt; omega⟩ * Ideal.ofBits .f32 0x3E000000#32 := by
  by_cases h0 : t.val % 16 = 0
  · refine (congrArg (fun z => z.2.2.2.1 (ix2 y j)) (outsAt0_A m c t h0 (not_not.mpr h0))).trans ?_
    dsimp only
    unfold out0_A_12
    rw [View.read_writes_junk_eq_canon, runA_fq]
    exact (canon_one _ _ y j).trans (fq_apply m c t _ _ _ _ y j)
  · refine (congrArg (fun z => z.2.2.2.1 (ix2 y j)) (outsAt0_B m c t h0 h0)).trans ?_
    dsimp only
    unfold out0_B_12
    rw [View.read_writes_junk_eq_canon, runB_fq]
    exact (canon_one _ _ y j).trans (fq_apply m c t _ _ _ _ y j)

/-- The keys' block. -/
theorem at_fk (j : Fin 384) : (outsAt0 m c t.val t.isLt).2.2.2.2.1 (ix2 y j)
    = proj (X m c) (W m c) (512 * t.val + y.val) ⟨2444 + j.val, by have := j.isLt; omega⟩ := by
  by_cases h0 : t.val % 16 = 0
  · refine (congrArg (fun z => z.2.2.2.2.1 (ix2 y j)) (outsAt0_A m c t h0 (not_not.mpr h0))).trans ?_
    dsimp only
    unfold out0_A_13
    rw [View.read_writes_junk_eq_canon, runA_fk]
    exact (canon_one _ _ y j).trans (fk_apply m c t _ _ _ _ y j)
  · refine (congrArg (fun z => z.2.2.2.2.1 (ix2 y j)) (outsAt0_B m c t h0 h0)).trans ?_
    dsimp only
    unfold out0_B_13
    rw [View.read_writes_junk_eq_canon, runB_fk]
    exact (canon_one _ _ y j).trans (fk_apply m c t _ _ _ _ y j)

/-- The values' block. -/
theorem at_fv (j : Fin 384) : (outsAt0 m c t.val t.isLt).2.2.2.2.2.1 (ix2 y j)
    = proj (X m c) (W m c) (512 * t.val + y.val) ⟨2828 + j.val, by have := j.isLt; omega⟩ := by
  by_cases h0 : t.val % 16 = 0
  · refine (congrArg (fun z => z.2.2.2.2.2.1 (ix2 y j)) (outsAt0_A m c t h0 (not_not.mpr h0))).trans ?_
    dsimp only
    unfold out0_A_14
    rw [View.read_writes_junk_eq_canon, runA_fv]
    exact (canon_one _ _ y j).trans (fv_apply m c t _ _ _ _ y j)
  · refine (congrArg (fun z => z.2.2.2.2.2.1 (ix2 y j)) (outsAt0_B m c t h0 h0)).trans ?_
    dsimp only
    unfold out0_B_14
    rw [View.read_writes_junk_eq_canon, runB_fv]
    exact (canon_one _ _ y j).trans (fv_apply m c t _ _ _ _ y j)

/-- The small projections' block. -/
theorem at_few (hx : ∀ r l, X m c r l - X m c r l = 0) (hw : ∀ l k, smallCol (W m c) l k - smallCol (W m c) l k = 0) (j : Fin 128) :
    (outsAt0 m c t.val t.isLt).2.2.2.2.2.2.1 (ix2 y j) = few (X m c) (W m c) (512 * t.val + y.val) j := by
  by_cases h0 : t.val % 16 = 0
  · refine (congrArg (fun z => z.2.2.2.2.2.2.1 (ix2 y j)) (outsAt0_A m c t h0 (not_not.mpr h0))).trans ?_
    dsimp only
    unfold out0_A_15
    rw [View.read_writes_junk_eq_canon, runA_small]
    exact (canon_one _ _ y j).trans (few_apply m c t _ _ y _ _ hx hw j)
  · refine (congrArg (fun z => z.2.2.2.2.2.2.1 (ix2 y j)) (outsAt0_B m c t h0 h0)).trans ?_
    dsimp only
    unfold out0_B_15
    rw [View.read_writes_junk_eq_canon, runB_small]
    exact (canon_one _ _ y j).trans (few_apply m c t _ _ y _ _ hx hw j)

end Heads

/-- The four-tap branch, element by element. -/
def outQ (c : Dev nD) : FVec Ideal S32768x1152 .f32 := fun i =>
  short (fun n => heads (X m c) (W m c) n (i 1)) (fun k => GW m c k (i 1)) (i 0).val

/-- The gate, element by element. -/
def outGate (c : Dev nD) : FVec Ideal S32768x384 .f32 := fun i =>
  proj (X m c) (W m c) (i 0).val ⟨1164 + (i 1).val, by have h : (i 1).val < 384 := (i 1).isLt; omega⟩

/-- The windowed branch, element by element. -/
def outOb (c : Dev nD) : FVec Ideal S32768x256 .bf16 := fun i =>
  branch (gated (X m c) (W m c)) (CW m c) (CB m c) (LG m c (i 1)) (LB m c (i 1))
    (MS m c ⟨384 + (i 1).val, by have h : (i 1).val < 256 := (i 1).isLt; omega⟩) (i 0).val (i 1)

/-- The scaled queries, element by element. -/
def outFq (c : Dev nD) : FVec Ideal S32768x384 .bf16 := fun i =>
  proj (X m c) (W m c) (i 0).val ⟨2060 + (i 1).val, by have h : (i 1).val < 384 := (i 1).isLt; omega⟩ * Ideal.ofBits .f32 0x3E000000#32

/-- The keys, element by element. -/
def outFk (c : Dev nD) : FVec Ideal S32768x384 .bf16 := fun i =>
  proj (X m c) (W m c) (i 0).val ⟨2444 + (i 1).val, by have h : (i 1).val < 384 := (i 1).isLt; omega⟩

/-- The values, element by element. -/
def outFv (c : Dev nD) : FVec Ideal S32768x384 .bf16 := fun i =>
  proj (X m c) (W m c) (i 0).val ⟨2828 + (i 1).val, by have h : (i 1).val < 384 := (i 1).isLt; omega⟩

/-- The small projections, element by element. -/
def outFew (c : Dev nD) : FVec Ideal S32768x128 .f32 := fun i => few (X m c) (W m c) (i 0).val (i 1)

/-- The four-tap branch after the run. -/
theorem final9 (c : Dev nD) : (dats m 0 c).arrAt 9 cfg0.N = outQ m c := by
  refine (dats m 0 c).arrAt_eq_of_covers 9 _ (by decide +kernel) fun t hf y => ?_
  blk_simp
  rw [after0_9]
  idx_vars y
  have he : (win0_9.blk t).view.emb (ix2 y0 y1) = ix2 ⟨512 * t.val + y0.val, row_lt t y0⟩ y1 := by
    blk_point [idx t]
  rw [he]
  exact at_q m c t y0 y1

/-- The gate after the run. -/
theorem final10 (c : Dev nD) : (dats m 0 c).arrAt 10 cfg0.N = outGate m c := by
  refine (dats m 0 c).arrAt_eq_of_covers 10 _ (by decide +kernel) fun t hf y => ?_
  blk_simp
  rw [after0_10]
  idx_vars y
  have he : (win0_10.blk t).view.emb (ix2 y0 y1) = ix2 ⟨512 * t.val + y0.val, row_lt t y0⟩ y1 := by
    blk_point [idx t]
  rw [he]
  exact at_gate m c t y0 y1

/-- The windowed branch after the run. -/
theorem final11 (c : Dev nD) : (dats m 0 c).arrAt 11 cfg0.N = outOb m c := by
  refine (dats m 0 c).arrAt_eq_of_covers 11 _ (by decide +kernel) fun t hf y => ?_
  blk_simp
  rw [after0_11]
  idx_vars y
  have he : (win0_11.blk t).view.emb (ix2 y0 y1) = ix2 ⟨512 * t.val + y0.val, row_lt t y0⟩ y1 := by
    blk_point [idx t]
  rw [he]
  exact at_ob m c t y0 y1

/-- The queries after the run. -/
theorem final12 (c : Dev nD) : (dats m 0 c).arrAt 12 cfg0.N = outFq m c := by
  refine (dats m 0 c).arrAt_eq_of_covers 12 _ (by decide +kernel) fun t hf y => ?_
  blk_simp
  rw [after0_12]
  idx_vars y
  have he : (win0_12.blk t).view.emb (ix2 y0 y1) = ix2 ⟨512 * t.val + y0.val, row_lt t y0⟩ y1 := by
    blk_point [idx t]
  rw [he]
  exact at_fq m c t y0 y1

/-- The keys after the run. -/
theorem final13 (c : Dev nD) : (dats m 0 c).arrAt 13 cfg0.N = outFk m c := by
  refine (dats m 0 c).arrAt_eq_of_covers 13 _ (by decide +kernel) fun t hf y => ?_
  blk_simp
  rw [after0_13]
  idx_vars y
  have he : (win0_13.blk t).view.emb (ix2 y0 y1) = ix2 ⟨512 * t.val + y0.val, row_lt t y0⟩ y1 := by
    blk_point [idx t]
  rw [he]
  exact at_fk m c t y0 y1

/-- The values after the run. -/
theorem final14 (c : Dev nD) : (dats m 0 c).arrAt 14 cfg0.N = outFv m c := by
  refine (dats m 0 c).arrAt_eq_of_covers 14 _ (by decide +kernel) fun t hf y => ?_
  blk_simp
  rw [after0_14]
  idx_vars y
  have he : (win0_14.blk t).view.emb (ix2 y0 y1) = ix2 ⟨512 * t.val + y0.val, row_lt t y0⟩ y1 := by
    blk_point [idx t]
  rw [he]
  exact at_fv m c t y0 y1

/-- The small projections after the run. -/
theorem final15 (c : Dev nD) (hx : ∀ r l, X m c r l - X m c r l = 0)
    (hw : ∀ l k, smallCol (W m c) l k - smallCol (W m c) l k = 0) : (dats m 0 c).arrAt 15 cfg0.N = outFew m c := by
  refine (dats m 0 c).arrAt_eq_of_covers 15 _ (by decide +kernel) fun t hf y => ?_
  blk_simp
  rw [after0_15]
  idx_vars y
  have he : (win0_15.blk t).view.emb (ix2 y0 y1) = ix2 ⟨512 * t.val + y0.val, row_lt t y0⟩ y1 := by
    blk_point [idx t]
  rw [he]
  exact at_few m c t y0 hx hw y1

/-- The input projection's kernel computes what its reference computes. -/
theorem algebraic : letI := Cert.InProjIdeal.Gen.facts; letI := Cert.InProjReferenceIdeal.Gen.facts; letI := Cert.Pre_finite_small.Gen.facts;
    Cert.algebraic_InProjIdeal_InProjReferenceIdeal_pre_finite_small := by
  letI := Cert.Pre_finite_small.Gen.facts
  intro m g m' g' hpre hm
  have hx := fun c => (finite_of_pre _ _ _ _ _ _ _ _ (hpre c)).1
  have hw := fun c => (finite_of_pre _ _ _ _ _ _ _ _ (hpre c)).2
  refine ⟨fun c => outQ m c, fun c => outGate m c, fun c => outOb m c, fun c => outFq m c, fun c => outFk m c, fun c => outFv m c,
    fun c => outFew m c, ?_, ?_⟩
  · exact (θ_run defs _ _).mono (fun r h c => ⟨(h c).1.trans (final9 m c), (h c).2.1.trans (final10 m c), (h c).2.2.1.trans (final11 m c),
      (h c).2.2.2.1.trans (final12 m c), (h c).2.2.2.2.1.trans (final13 m c), (h c).2.2.2.2.2.1.trans (final14 m c),
      (h c).2.2.2.2.2.2.1.trans (final15 m c (hx c) (hw c)), (h c).2.2.2.2.2.2.2⟩) (Cert.InProjIdeal.Value.run_blocks m g)
  · refine (θ_run Cert.InProjReferenceIdeal.defs _ _).mono (fun r h c => ?_) (Cert.InProjReferenceIdeal.Value.run m' g')
    obtain ⟨a0, a1, a2, a3, a4, a5, a6, a7⟩ := hm c
    have eX : Cert.InProjReferenceIdeal.Read.X (StableHlo.launchContents m' c) = X m c := funext fun r => funext fun l => congrFun a0 (ix2 r l)
    have eW : Cert.InProjReferenceIdeal.Read.W (StableHlo.launchContents m' c) = W m c := funext fun l => funext fun j => congrFun a1 (ix2 l j)
    have eMS : Cert.InProjReferenceIdeal.Read.MS (StableHlo.launchContents m' c) = MS m c := funext fun j => congrFun a2 (ix1 j)
    have eGW : Cert.InProjReferenceIdeal.Read.GW (StableHlo.launchContents m' c) = GW m c := funext fun k => funext fun j => congrFun a3 (ix2 k j)
    have eCW : Cert.InProjReferenceIdeal.Read.CW (StableHlo.launchContents m' c) = CW m c := funext fun k => funext fun j => congrFun a4 (ix2 k j)
    have eCB : Cert.InProjReferenceIdeal.Read.CB (StableHlo.launchContents m' c) = CB m c := funext fun j => congrFun a5 (ix1 j)
    have eLG : Cert.InProjReferenceIdeal.Read.LG (StableHlo.launchContents m' c) = LG m c := funext fun j => congrFun a6 (ix1 j)
    have eLB : Cert.InProjReferenceIdeal.Read.LB (StableHlo.launchContents m' c) = LB m c := funext fun j => congrFun a7 (ix1 j)
    obtain ⟨r0, r1, r2, r3, r4, r5, r6, rest⟩ := h c
    refine ⟨r0.trans (funext fun i => ?_), r1.trans (funext fun i => ?_), r2.trans (funext fun i => ?_), r3.trans (funext fun i => ?_),
      r4.trans (funext fun i => ?_), r5.trans (funext fun i => ?_), r6.trans (funext fun i => ?_), rest⟩ <;> rw [eq_ix2 i]
    · refine (Cert.InProjReferenceIdeal.Read.q_apply (StableHlo.launchContents m' c) (i 0) (i 1)).trans ?_
      rw [eX, eW, eGW]
      rfl
    · refine (Cert.InProjReferenceIdeal.Read.gate_apply (StableHlo.launchContents m' c) (i 0) (i 1)).trans ?_
      rw [eX, eW]
      rfl
    · refine (Cert.InProjReferenceIdeal.Read.ob_apply (StableHlo.launchContents m' c) (i 0) (i 1)).trans ?_
      rw [eX, eW, eCW, eCB, eLG, eLB, eMS]
      rfl
    · refine (Cert.InProjReferenceIdeal.Read.fq_apply (StableHlo.launchContents m' c) (i 0) (i 1)).trans ?_
      rw [eX, eW]
      rfl
    · refine (Cert.InProjReferenceIdeal.Read.fk_apply (StableHlo.launchContents m' c) (i 0) (i 1)).trans ?_
      rw [eX, eW]
      rfl
    · refine (Cert.InProjReferenceIdeal.Read.fv_apply (StableHlo.launchContents m' c) (i 0) (i 1)).trans ?_
      rw [eX, eW]
      rfl
    · refine (Cert.InProjReferenceIdeal.Read.small_apply (StableHlo.launchContents m' c) (i 0) (i 1)).trans ?_
      rw [eX, eW]
      rfl

end Cert.InProjIdeal.Result

end
-- ==== Proof.RouterSpec.lean ====
/-
  The router's choice as functions of extended reals, apart from any program: the first and the second of eight logits, greater
  first and the lower index among equals; the number of earlier tokens that chose an expert, as a sum of zeros and ones; the two
  gates; and the folds and sums the programs compute them by.
-/
module

public import Idealize.ShloMosaic.Lib.SortFacts
public import proofs.«01_k».proof.Proof.Swiglu

@[expose] public section

noncomputable section

namespace Cert.Router.Spec

open Idealize.ShloMosaic

section Sorting

variable {ι : Type} (key : ι → EReal) (P : ι → ι → Prop)

/-- One entry stands before another: its key is greater, or the keys are equal and it comes first in the given order. -/
def Ahead (a b : ι) : Prop := key b < key a ∨ (key a = key b ∧ P a b)

/-- An entry that comes first in the given order keeps a sorted list sorted where the insertion puts it. -/
theorem ahead_insert (a : ι) (l : List ι) (ha : ∀ b ∈ l, P a b) (hl : l.Pairwise (Ahead key P)) :
    (insertBefore (fun x y => decide (key y < key x)) a l).Pairwise (Ahead key P) := by
  induction l with
  | nil => exact List.pairwise_singleton _ _
  | cons b l ih =>
    obtain ⟨hb, hl'⟩ := List.pairwise_cons.mp hl
    unfold insertBefore
    by_cases h : key a < key b
    · rw [if_pos (decide_eq_true h)]
      refine List.pairwise_cons.mpr ⟨fun x hx => ?_, ih (fun x hx => ha x (List.mem_cons_of_mem _ hx)) hl'⟩
      rcases List.mem_cons.mp ((perm_insertBefore _ a l).mem_iff.mp hx) with e | hx'
      · exact e ▸ Or.inl h
      · exact hb x hx'
    · rw [if_neg (by simpa using h)]
      refine List.pairwise_cons.mpr ⟨fun x hx => ?_, hl⟩
      have hle : key x ≤ key a := by
        rcases List.mem_cons.mp hx with e | hx'
        · exact e ▸ not_lt.mp h
        · rcases hb x hx' with h1 | ⟨h1, -⟩
          · exact h1.le.trans (not_lt.mp h)
          · exact h1 ▸ not_lt.mp h
      rcases hle.lt_or_eq with h1 | h1
      · exact Or.inl h1
      · exact Or.inr ⟨h1.symm, ha x hx⟩

theorem ahead_sort (l : List ι) (hl : l.Pairwise P) : (stableSort (fun x y => decide (key y < key x)) l).Pairwise (Ahead key P) := by
  induction l with
  | nil => exact List.Pairwise.nil
  | cons a l ih =>
    obtain ⟨ha, hl'⟩ := List.pairwise_cons.mp hl
    unfold stableSort
    exact ahead_insert key P a _ (fun b hb => ha b ((perm_stableSort _ l).mem_iff.mp hb)) (ih hl')

end Sorting

/-- The index at place `k` when eight logits are sorted, greater first. -/
def place (L : Fin 8 → EReal) (k : Fin 8) : Fin 8 := sortedFrom (fun a b => decide (L b < L a)) k

theorem place_ahead (L : Fin 8 → EReal) {k k' : Fin 8} (h : k < k') : Ahead L (· < ·) (place L k) (place L k') := by
  have hs := ahead_sort L (· < ·) (List.finRange 8) (List.pairwise_lt_finRange 8)
  have := List.pairwise_iff_get.mp hs (k.cast (length_sortPositions 8 _).symm) (k'.cast (length_sortPositions 8 _).symm) h
  exact this

/-- The chosen experts: the greatest logit's, and the next one's. -/
def first (L : Fin 8 → EReal) : Fin 8 := place L 0

def second (L : Fin 8 → EReal) : Fin 8 := place L 1

theorem first_ahead (L : Fin 8 → EReal) (j : Fin 8) (hj : j ≠ first L) : Ahead L (· < ·) (first L) j := by
  obtain ⟨k, rfl⟩ := sortedFrom_surjective (fun a b => decide (L b < L a)) j
  have hk : k ≠ 0 := fun e => hj (e ▸ rfl)
  exact place_ahead L (Fin.pos_of_ne_zero hk)

theorem second_ne (L : Fin 8 → EReal) : second L ≠ first L := fun e => by
  have := sortedFrom_injective (fun a b => decide (L b < L a)) e
  exact absurd this (by decide)

theorem second_ahead (L : Fin 8 → EReal) (j : Fin 8) (hj : j ≠ first L) (hj' : j ≠ second L) : Ahead L (· < ·) (second L) j := by
  obtain ⟨k, rfl⟩ := sortedFrom_surjective (fun a b => decide (L b < L a)) j
  have hk : k ≠ 0 := fun e => hj (e ▸ rfl)
  have hk' : k ≠ 1 := fun e => hj' (e ▸ rfl)
  refine place_ahead L (Fin.lt_def.mpr ?_)
  have h0 : k.val ≠ 0 := fun e => hk (Fin.ext e)
  have h1 : k.val ≠ 1 := fun e => hk' (Fin.ext e)
  show 1 < k.val
  omega

/-- The greatest of 128 values, from minus infinity. -/
theorem fold_max (M : Fin 128 → EReal) (a : Fin 128) (h : ∀ l, M l ≤ M a) : Finset.univ.fold max ⊥ M = M a :=
  le_antisymm ((Finset.fold_max_le _).mpr ⟨bot_le, fun l _ => h l⟩) ((Finset.le_fold_max _).mpr (Or.inr ⟨a, Finset.mem_univ _, le_rfl⟩))

theorem minsi_ge (x y z : BitVec 32) (h : z.toInt ≤ x.toInt) (h' : z.toInt ≤ y.toInt) : z.toInt ≤ (IntOp.minsi x y).toInt := by
  unfold IntOp.minsi
  split <;> assumption

theorem minsi_left (x y : BitVec 32) (h : x.toInt ≤ y.toInt) : IntOp.minsi x y = x := by
  unfold IntOp.minsi
  split
  · rfl
  · next hn =>
    simp only [BitVec.slt, decide_eq_true_eq] at hn
    exact BitVec.eq_of_toInt_eq (by omega)

/-- The least of 128 signed words. -/
theorem fold_min (f : Fin 128 → BitVec 32) (init : BitVec 32) (a : Fin 128) (h : ∀ l, (f a).toInt ≤ (f l).toInt)
    (hi : (f a).toInt ≤ init.toInt) : Finset.univ.fold IntOp.minsi init f = f a := by
  have hs : ∀ s : Finset (Fin 128), (f a).toInt ≤ (s.fold IntOp.minsi init f).toInt := fun s => by
    induction s using Finset.induction_on with
    | empty => exact hi
    | insert b s hb ih =>
      rw [Finset.fold_insert hb]
      exact minsi_ge _ _ _ (h b) ih
  rw [← Finset.insert_erase (Finset.mem_univ a), Finset.fold_insert (Finset.notMem_erase _ _)]
  exact minsi_left _ _ (hs _)

/-- A lane's number as a word. -/
theorem lane_word {a l : Fin 128} : BitVec.ofNat 32 l.val = BitVec.ofNat 32 a.val ↔ l = a := by
  refine ⟨fun h => Fin.ext ?_, fun h => h ▸ rfl⟩
  have := congrArg BitVec.toNat h
  have := l.isLt
  have := a.isLt
  simp only [BitVec.toNat_ofNat] at *
  omega

theorem lane_int (l : Fin 128) : (BitVec.ofNat 32 l.val).toInt = l.val := by
  have := l.isLt
  rw [BitVec.toInt_eq_toNat_of_lt (by rw [BitVec.toNat_ofNat]; omega), BitVec.toNat_ofNat]
  omega

/-- The least lane that holds the greatest value, found as a minimum over lanes, the others counted as 128. -/
theorem fold_lane (M : Fin 128 → EReal) (v : EReal) (a : Fin 128) (ha : M a = v) (h : ∀ l, M l = v → a ≤ l) :
    Finset.univ.fold IntOp.minsi 2147483647#32 (fun l : Fin 128 => if M l = v then BitVec.ofNat 32 l.val else 128#32) = BitVec.ofNat 32 a.val := by
  have := a.isLt
  have e : (fun l : Fin 128 => if M l = v then BitVec.ofNat 32 l.val else 128#32) a = BitVec.ofNat 32 a.val := if_pos ha
  refine (fold_min _ _ a (fun l => (congrArg BitVec.toInt e).trans_le ?_) ((congrArg BitVec.toInt e).trans_le ?_)).trans e
  · split
    · next hl =>
      have := Fin.le_def.mp (h l hl)
      rw [lane_int, lane_int]
      omega
    · rw [lane_int]
      show (a.val : ℤ) ≤ 128
      omega
  · rw [lane_int]
    show (a.val : ℤ) ≤ 2147483647
    omega

/-- An expert's lane. -/
def lane (a : Fin 8) : Fin 128 := ⟨a.val, by have := a.isLt; omega⟩

theorem lane_inj {a b : Fin 8} : lane a = lane b ↔ a = b :=
  ⟨fun h => Fin.ext (Fin.mk.inj_iff.mp h), fun h => h ▸ rfl⟩

/-- A comparison's bit. -/
theorem eq_bit (x y : BitVec 32) : IntOp.cmpi .eq x y = BitVec.ofBool (decide (x = y)) := rfl

theorem word_lt (a b : ℕ) (ha : a < 2147483648) (hb : b < 2147483648) :
    IntOp.cmpi .slt (BitVec.ofNat 32 a) (BitVec.ofNat 32 b) = BitVec.ofBool (decide (a < b)) := by
  have e : ∀ k, k < 2147483648 → (BitVec.ofNat 32 k).toInt = k := fun k hk => by
    rw [BitVec.toInt_eq_toNat_of_lt (by rw [BitVec.toNat_ofNat]; omega), BitVec.toNat_ofNat]
    omega
  unfold IntOp.cmpi
  simp only [BitVec.slt]
  rw [e a ha, e b hb]
  simp only [Nat.cast_lt]

theorem or_bit (a b : Bool) : IntOp.ori (BitVec.ofBool a) (BitVec.ofBool b) = BitVec.ofBool (a || b) := by
  cases a <;> cases b <;> rfl

theorem select_bit {α : Type} (b : Bool) (u v : α) : Scalar.select (BitVec.ofBool b) u v = if b = true then u else v := by
  cases b <;> rfl

theorem signed_bit (b : Bool) : FloatOps.sitofp (F := Ideal) .f32 (BitVec.setWidth 32 (BitVec.ofBool b)) = if b = true then (1 : EReal) else 0 := by
  cases b
  · show (((BitVec.setWidth 32 (BitVec.ofBool false)).toInt : ℝ) : EReal) = 0
    have : (BitVec.setWidth 32 (BitVec.ofBool false)).toInt = 0 := by decide
    rw [this, Int.cast_zero, EReal.coe_zero]
  · show (((BitVec.setWidth 32 (BitVec.ofBool true)).toInt : ℝ) : EReal) = 1
    have : (BitVec.setWidth 32 (BitVec.ofBool true)).toInt = 1 := by decide
    rw [this, Int.cast_one, EReal.coe_one]

theorem unsigned_bit (b : Bool) : FloatOps.uitofp (F := Ideal) .f32 (BitVec.ofBool b) = if b = true then (1 : EReal) else 0 := by
  cases b
  · show (((BitVec.ofBool false).toNat : ℝ) : EReal) = 0
    have : (BitVec.ofBool false).toNat = 0 := by decide
    rw [this, Nat.cast_zero, EReal.coe_zero]
  · show (((BitVec.ofBool true).toNat : ℝ) : EReal) = 1
    have : (BitVec.ofBool true).toNat = 1 := by decide
    rw [this, Nat.cast_one, EReal.coe_one]

theorem lane_float (a : Fin 8) : FloatOps.sitofp (F := Ideal) .f32 (BitVec.ofNat 32 (lane a).val) = ((a.val : ℝ) : EReal) := by
  show (((BitVec.ofNat 32 (lane a).val).toInt : ℝ) : EReal) = _
  rw [lane_int, Int.cast_natCast]
  rfl

/-- The least value is minus infinity. -/
theorem low : Ideal.ofBits .f32 4286578688#32 = ⊥ := by
  rfl

/-- A value that less itself is zero is a real number; sums of products of such are. -/
theorem real_of_zero {a : EReal} (h : a - a = 0) : ∃ r : ℝ, a = r := by
  induction a with
  | bot => exact absurd h (by decide)
  | top => exact absurd h (by decide)
  | coe r => exact ⟨r, rfl⟩

theorem real_sum {n : ℕ} (f g : Fin n → EReal) (hf : ∀ l, f l - f l = 0) (hg : ∀ l, g l - g l = 0) : ∃ r : ℝ, ∑ l, f l * g l = r := by
  refine Finset.sum_induction _ (fun z : EReal => ∃ r : ℝ, z = r) ?_ ⟨0, EReal.coe_zero.symm⟩ fun l _ => ?_
  · rintro _ _ ⟨u, rfl⟩ ⟨v, rfl⟩
    exact ⟨u + v, (EReal.coe_add u v).symm⟩
  · obtain ⟨u, hu⟩ := real_of_zero (hf l)
    obtain ⟨v, hv⟩ := real_of_zero (hg l)
    exact ⟨u * v, by rw [hu, hv, EReal.coe_mul]⟩

/-- Eight logits over 128 lanes, minus infinity in the rest. -/
def lanes (L : Fin 8 → EReal) (l : Fin 128) : EReal := if h : l.val < 8 then L ⟨l.val, h⟩ else ⊥

theorem lanes_lane (L : Fin 8 → EReal) (a : Fin 8) : lanes L (lane a) = L a := dif_pos a.isLt

/-- The lanes without the first choice. -/
def others (L : Fin 8 → EReal) (l : Fin 128) : EReal := if l = lane (first L) then ⊥ else lanes L l

section Lanes

variable (L : Fin 8 → EReal) (hL : ∀ j, L j ≠ ⊥)

include hL

theorem lanes_first (l : Fin 128) (hl : l ≠ lane (first L)) : Ahead (lanes L) (· < ·) (lane (first L)) l := by
  by_cases h : l.val < 8
  · have e : l = lane ⟨l.val, h⟩ := rfl
    have hne : (⟨l.val, h⟩ : Fin 8) ≠ first L := fun hh => hl (e.trans (congrArg lane hh))
    unfold Ahead
    rw [e, lanes_lane, lanes_lane]
    exact first_ahead L _ hne
  · refine Or.inl ?_
    rw [lanes_lane]
    unfold lanes
    rw [dif_neg h]
    exact bot_lt_iff_ne_bot.mpr (hL _)

theorem max_first : Finset.univ.fold max ⊥ (lanes L) = L (first L) := by
  refine (fold_max _ (lane (first L)) fun l => ?_).trans (lanes_lane _ _)
  by_cases e : l = lane (first L)
  · exact e ▸ le_rfl
  · rcases lanes_first L hL l e with h | ⟨h, -⟩
    · exact h.le
    · exact h ▸ le_rfl

theorem min_first : Finset.univ.fold IntOp.minsi 2147483647#32 (fun l : Fin 128 => if lanes L l = L (first L) then BitVec.ofNat 32 l.val else 128#32)
    = BitVec.ofNat 32 (lane (first L)).val := by
  refine fold_lane _ _ _ (lanes_lane _ _) fun l hl => ?_
  by_cases e : l = lane (first L)
  · exact e ▸ le_rfl
  · rcases lanes_first L hL l e with h | ⟨-, h⟩
    · rw [lanes_lane] at h
      exact absurd hl h.ne
    · exact h.le

theorem others_second_eq : others L (lane (second L)) = L (second L) :=
  (if_neg fun h => second_ne L (lane_inj.mp h)).trans (lanes_lane _ _)

theorem others_second (l : Fin 128) (hl : l ≠ lane (second L)) : Ahead (others L) (· < ·) (lane (second L)) l := by
  by_cases hf : l = lane (first L)
  · refine Or.inl ?_
    rw [others_second_eq L hL]
    unfold others
    rw [if_pos hf]
    exact bot_lt_iff_ne_bot.mpr (hL _)
  by_cases h : l.val < 8
  · have e : l = lane ⟨l.val, h⟩ := rfl
    have hne : (⟨l.val, h⟩ : Fin 8) ≠ first L := fun hh => hf (e.trans (congrArg lane hh))
    have hne' : (⟨l.val, h⟩ : Fin 8) ≠ second L := fun hh => hl (e.trans (congrArg lane hh))
    have eo : others L l = L ⟨l.val, h⟩ := (if_neg hf).trans (dif_pos h)
    unfold Ahead
    rw [others_second_eq L hL, eo]
    exact second_ahead L _ hne hne'
  · refine Or.inl ?_
    rw [others_second_eq L hL]
    unfold others lanes
    rw [if_neg hf, dif_neg h]
    exact bot_lt_iff_ne_bot.mpr (hL _)

theorem max_second : Finset.univ.fold max ⊥ (others L) = L (second L) := by
  refine (fold_max _ (lane (second L)) fun l => ?_).trans (others_second_eq L hL)
  by_cases e : l = lane (second L)
  · exact e ▸ le_rfl
  · rcases others_second L hL l e with h | ⟨h, -⟩
    · exact h.le
    · exact h ▸ le_rfl

theorem min_second : Finset.univ.fold IntOp.minsi 2147483647#32 (fun l : Fin 128 => if others L l = L (second L) then BitVec.ofNat 32 l.val else 128#32)
    = BitVec.ofNat 32 (lane (second L)).val := by
  refine fold_lane _ _ _ (others_second_eq L hL) fun l hl => ?_
  by_cases e : l = lane (second L)
  · exact e ▸ le_rfl
  · rcases others_second L hL l e with h | ⟨-, h⟩
    · rw [others_second_eq L hL] at h
      exact absurd hl h.ne
    · exact h.le

end Lanes

/-- One where lane `l` is a chosen expert's, zero elsewhere. -/
def hit (L : Fin 8 → EReal) (l : Fin 128) : EReal := if l = lane (first L) ∨ l = lane (second L) then 1 else 0

/-- How many of the first `n` tokens chose lane `l`'s expert. -/
def count (T : ℕ → Fin 8 → EReal) (n : ℕ) (l : Fin 128) : EReal := ∑ k ∈ Finset.range n, hit (T k) l

theorem count_all (f : ℕ → EReal) (N : ℕ) : ∑ k : Fin N, f k.val = ∑ k ∈ Finset.range N, f k := (Finset.sum_range f).symm

/-- A sum over all places, weighted by whether the place is before `n`. -/
theorem count_before (f : ℕ → EReal) (N n : ℕ) (h : n ≤ N) :
    ∑ k : Fin N, (if k.val < n then (1 : EReal) else 0) * f k.val = ∑ k ∈ Finset.range n, f k := by
  rw [Finset.sum_range fun k => f k, count_all (fun k => (if k < n then (1 : EReal) else 0) * f k) N,
    ← Finset.sum_range fun k => f k]
  refine (Finset.sum_subset (Finset.range_mono h) fun k _ hk => ?_).symm.trans (Finset.sum_congr rfl fun k hk => ?_)
  · rw [if_neg (fun hh => hk (Finset.mem_range.mpr hh)), zero_mul]
  · rw [if_pos (Finset.mem_range.mp hk), one_mul]

/-- The earlier tokens of the block, and those of the earlier blocks. -/
theorem count_split (T : ℕ → Fin 8 → EReal) (l : Fin 128) (b r : ℕ) (h : r ≤ 512) :
    (∑ k : Fin 512, (if k.val < r then (1 : EReal) else 0) * hit (T (b + k.val)) l) + count T b l = count T (b + r) l := by
  rw [count_before (fun k => hit (T (b + k)) l) 512 r h]
  unfold count
  rw [Finset.sum_range_add, add_comm]

theorem count_block (T : ℕ → Fin 8 → EReal) (l : Fin 128) (b : ℕ) :
    count T b l + ∑ k : Fin 512, hit (T (b + k.val)) l = count T (b + 512) l := by
  rw [count_all (fun k => hit (T (b + k)) l) 512]
  unfold count
  rw [Finset.sum_range_add]

/-- Reading one lane by adding up all of them. -/
theorem pick (f : Fin 128 → EReal) (a : Fin 128) : ∑ l, (if l = a then f l else 0) = f a := by
  rw [Finset.sum_ite_eq' Finset.univ a f, if_pos (Finset.mem_univ a)]

/-- The ratio of the second choice's weight to the first's. -/
def odds (L : Fin 8 → EReal) : EReal := Ideal.exp (L (second L) - L (first L))

/-- A token's row: the two experts, their ranks, the two gates, zeros. -/
def row (T : ℕ → Fin 8 → EReal) (n : ℕ) (l : Fin 128) : EReal :=
  if l.val = 0 then (((first (T n)).val : ℝ) : EReal) else if l.val = 1 then (((second (T n)).val : ℝ) : EReal)
  else if l.val = 2 then count T n (lane (first (T n))) else if l.val = 3 then count T n (lane (second (T n)))
  else if l.val = 4 then Ideal.div 1 (1 + odds (T n)) else if l.val = 5 then Ideal.div (odds (T n)) (1 + odds (T n)) else 0

end Cert.Router.Spec

end
-- ==== Proof.RouterBlocks.lean ====
/-
  The router's choices block by block: the logits of a block's rows, the two lanes taken, their gates and ranks, and the running
  counts.
-/
module

public import proofs.«01_k».proof.Proof.Gen.RouterIdeal.Value
public import proofs.«01_k».proof.Proof.RouterSpec
public import proofs.«01_k».proof.Pre_finite_router
public import Idealize.ShloMosaic.Lib.ReduceAll
public import Idealize.ShloMosaic.Lib.Pipeline.ValueKit
public import Idealize.ShloMosaic.Lib.WholeRead
public import Idealize.ShloMosaic.Lib.Tactic

@[expose] public section

set_option maxRecDepth 16384

noncomputable section

namespace Cert.RouterIdeal.Blocks

open Cert.RouterIdeal Cert.RouterIdeal.Gen Idealize.ShloMosaic Idealize.ShloMosaic.TcCoe Idealize.ShloMosaic.Tactic
open Cert.Router.Spec

/-- The lanes' numbers. -/
abbrev lanesI : IVec S512x128 32 := iota .tc S512x128 32 [1] iota_S512x128_d1_w32

section Stored

variable {F : FTy → Type} [FloatOps F]
variable (x : Vec F S512x1024 .f32) (w : Vec F S1024x128 .bf16) (run : Vec F S1x128 .f32)

/-- The block's rows of choices, from the counts before the block. -/
def info : FVec F S512x128 .f32 :=
  k0_pay1 lanesI (k0_pay6 x w) (k0_pay9 x w) (k0_pay11 x w) (k0_pay13 (k0_pay10 x w) k0_pay12)
    (k0_pay16 lanesI (k0_pay6 x w) (k0_pay9 x w) run) (k0_pay17 lanesI (k0_pay6 x w) (k0_pay9 x w) run) 0#32

/-- Their first eight columns, transposed. -/
def infoT : FVec F S8x512 .f32 :=
  k0_pay2 lanesI (k0_pay6 x w) (k0_pay9 x w) (k0_pay11 x w) (k0_pay13 (k0_pay10 x w) k0_pay12)
    (k0_pay16 lanesI (k0_pay6 x w) (k0_pay9 x w) run) (k0_pay17 lanesI (k0_pay6 x w) (k0_pay9 x w) run) 0#32

/-- The counts after the block. -/
def counts : FVec F S1x128 .f32 := k0_pay18 lanesI (k0_pay6 x w) (k0_pay9 x w) run

end Stored

section Rows

variable (x : FVec Ideal S512x1024 .f32) (w : FVec Ideal S1024x128 .bf16)

/-- A row's eight logits. -/
def logit (p : Fin 512) (j : Fin 8) : EReal := ∑ l, x (ix2 p l) * w (ix2 l (lane j))

theorem pay4_apply (p : Fin 512) (l : Fin 128) : (k0_pay4 (F := Ideal) x w (ix2 p l) : EReal) = lanes (logit x w p) l := by
  have := l.isLt
  pointwise [k0_pay4, lanes, logit]
  rw [word_lt _ 8 (by omega) (by omega), select_bit, low]
  by_cases h : l.val < 8
  · rw [if_pos (decide_eq_true h), dif_pos h]
    rfl
  · rw [if_neg (by simpa using h), dif_neg h]

variable (p : Fin 512) (hL : ∀ j, logit x w p j ≠ ⊥)

include hL

theorem pay5_apply : (k0_pay5 (F := Ideal) x w (ix2 p 0) : EReal) = logit x w p (first (logit x w p)) := by
  pointwise [k0_pay5]
  rw [low]
  simp only [pay4_apply]
  exact max_first _ hL

theorem pay6_apply : k0_pay6 (F := Ideal) x w (ix2 p 0) = BitVec.ofNat 32 (lane (first (logit x w p))).val := by
  pointwise [k0_pay6]
  simp only [pay4_apply, pay5_apply x w p hL]
  exact min_first _ hL

theorem pay7_apply (l : Fin 128) : (k0_pay7 (F := Ideal) x w (ix2 p l) : EReal) = others (logit x w p) l := by
  pointwise [k0_pay7]
  rw [pay6_apply x w p hL, pay4_apply, low, eq_bit, select_bit]
  simp only [lane_word, decide_eq_true_eq]
  rfl

theorem pay8_apply : (k0_pay8 (F := Ideal) x w (ix2 p 0) : EReal) = logit x w p (second (logit x w p)) := by
  pointwise [k0_pay8]
  rw [low]
  simp only [pay7_apply x w p hL]
  exact max_second _ hL

theorem pay9_apply : k0_pay9 (F := Ideal) x w (ix2 p 0) = BitVec.ofNat 32 (lane (second (logit x w p))).val := by
  pointwise [k0_pay9]
  simp only [pay7_apply x w p hL, pay8_apply x w p hL]
  exact min_second _ hL

theorem pay10_apply : (k0_pay10 (F := Ideal) x w (ix2 p 0) : EReal) = odds (logit x w p) := by
  pointwise [k0_pay10, odds]
  rw [pay8_apply x w p hL, pay5_apply x w p hL]

theorem pay11_apply : (k0_pay11 (F := Ideal) x w (ix2 p 0) : EReal) = Ideal.div 1 (1 + odds (logit x w p)) := by
  pointwise [k0_pay11]
  rw [pay10_apply x w p hL]

theorem pay13_apply : (k0_pay13 (F := Ideal) (k0_pay10 x w) k0_pay12 (ix2 p 0) : EReal)
    = Ideal.div (odds (logit x w p)) (1 + odds (logit x w p)) := by
  pointwise [k0_pay13, k0_pay12]
  rw [pay10_apply x w p hL]

theorem pay14_apply (l : Fin 128) : (k0_pay14 (F := Ideal) lanesI (k0_pay6 (F := Ideal) x w) (k0_pay9 (F := Ideal) x w) (ix2 p l) : EReal) = hit (logit x w p) l := by
  pointwise [k0_pay14]
  rw [pay6_apply x w p hL, pay9_apply x w p hL, eq_bit, eq_bit, or_bit, signed_bit]
  simp only [lane_word, Bool.or_eq_true, decide_eq_true_eq]
  rfl

omit hL

variable (run : FVec Ideal S1x128 .f32) (T : ℕ → Fin 8 → EReal) (b : ℕ) (hT : ∀ q : Fin 512, logit x w q = T (b + q.val))
  (hB : ∀ n j, T n j ≠ ⊥) (hrun : ∀ l, run (ix2 0 l) = count T b l)

include hT hB

theorem counts_apply (hrun : ∀ l, run (ix2 0 l) = count T b l) (l : Fin 128) : (counts (F := Ideal) x w run (ix2 0 l) : EReal) = count T (b + 512) l := by
  have hL : ∀ q j, logit x w q j ≠ ⊥ := fun q j => hT q ▸ hB _ j
  pointwise [counts, k0_pay18]
  rw [hrun, ← count_block]
  refine congrArg (count T b l + ·) (Finset.sum_congr rfl fun q _ => ?_)
  exact (pay14_apply x w q (hL q) l).trans (hT q ▸ rfl)

include hrun

theorem pay15_apply (l : Fin 128) : (k0_pay15 (F := Ideal) lanesI (k0_pay6 (F := Ideal) x w) (k0_pay9 (F := Ideal) x w) run (ix2 p l) : EReal) = count T (b + p.val) l := by
  have hL : ∀ q j, logit x w q j ≠ ⊥ := fun q j => hT q ▸ hB _ j
  have := p.isLt
  pointwise [k0_pay15]
  rw [hrun, ← count_split T l b p.val (by omega)]
  refine congrArg (· + count T b l) (Finset.sum_congr rfl fun q _ => ?_)
  have := q.isLt
  rw [word_lt _ _ (by omega) (by omega), signed_bit, pay14_apply x w q (hL q) l, hT q]
  simp only [decide_eq_true_eq]

theorem pay16_apply : (k0_pay16 (F := Ideal) lanesI (k0_pay6 (F := Ideal) x w) (k0_pay9 (F := Ideal) x w) run (ix2 p 0) : EReal)
    = count T (b + p.val) (lane (first (T (b + p.val)))) := by
  have hL : ∀ q j, logit x w q j ≠ ⊥ := fun q j => hT q ▸ hB _ j
  pointwise [k0_pay16]
  rw [pay6_apply x w p (hL p), hT p]
  simp only [eq_bit, select_bit, lane_word, decide_eq_true_eq, pay15_apply x w p run T b hT hB hrun]
  exact pick (fun l => count T (b + p.val) l) _

theorem pay17_apply : (k0_pay17 (F := Ideal) lanesI (k0_pay6 (F := Ideal) x w) (k0_pay9 (F := Ideal) x w) run (ix2 p 0) : EReal)
    = count T (b + p.val) (lane (second (T (b + p.val)))) := by
  have hL : ∀ q j, logit x w q j ≠ ⊥ := fun q j => hT q ▸ hB _ j
  pointwise [k0_pay17]
  rw [pay9_apply x w p (hL p), hT p]
  simp only [eq_bit, select_bit, lane_word, decide_eq_true_eq, pay15_apply x w p run T b hT hB hrun]
  exact pick (fun l => count T (b + p.val) l) _

theorem info_apply (l : Fin 128) : (info (F := Ideal) x w run (ix2 p l) : EReal) = row T (b + p.val) l := by
  have hL : ∀ q j, logit x w q j ≠ ⊥ := fun q j => hT q ▸ hB _ j
  have hw : ∀ k : Fin 128, (BitVec.ofNat 32 l.val = BitVec.ofNat 32 k.val) = (l.val = k.val) := fun k =>
    propext (lane_word.trans Fin.ext_iff)
  pointwise [info, k0_pay1]
  rw [pay6_apply x w p (hL p), pay9_apply x w p (hL p), pay11_apply x w p (hL p), pay13_apply x w p (hL p),
    pay16_apply x w p run T b hT hB hrun, pay17_apply x w p run T b hT hB hrun, lane_float, lane_float, hT p]
  simp only [eq_bit, select_bit, decide_eq_true_eq]
  unfold row
  simp only [show (BitVec.ofNat 32 l.val = 0#32) = (l.val = 0) from hw 0, show (BitVec.ofNat 32 l.val = 1#32) = (l.val = 1) from hw 1,
    show (BitVec.ofNat 32 l.val = 2#32) = (l.val = 2) from hw 2, show (BitVec.ofNat 32 l.val = 3#32) = (l.val = 3) from hw 3,
    show (BitVec.ofNat 32 l.val = 4#32) = (l.val = 4) from hw 4, show (BitVec.ofNat 32 l.val = 5#32) = (l.val = 5) from hw 5]

theorem infoT_apply (k : Fin 8) : (infoT (F := Ideal) x w run (ix2 k p) : EReal) = row T (b + p.val) (lane k) := by
  refine Eq.trans ?_ (info_apply x w p run T b hT hB hrun (lane k))
  unfold infoT info
  pointwise [k0_pay2]
  rfl

end Rows

section Pieces

variable {F : FTy → Type} [FloatOps F]
variable (c : Dev nD) (i : grid0.Coords) (arg1 : Memref sig .tc .vmem S512x1024 .f32) (harg1 : arg1.IsWhole)
  (arg2 : Memref sig .tc .vmem S1024x128 .bf16) (harg2 : arg2.IsWhole) (arg3 : Memref sig .tc .vmem S512x128 .f32)
  (harg3 : arg3.IsWhole) (arg4 : Memref sig .tc .vmem S8x512 .f32) (harg4 : arg4.IsWhole)
  (arg5 : Memref sig .tc .vmem S1x128 .f32) (harg5 : arg5.IsWhole) (arg6 : Memref sig .tc .vmem S1x128 .f32) (harg6 : arg6.IsWhole)
  (x0 : Vec F S512x1024 .f32) (x1 : Vec F S1024x128 .bf16) (xs0 : Vec F S1x128 .f32)

/-- The block of rows as loaded. -/
def rows : Vec F S512x1024 .f32 :=
  View.readAt (Elt F) arg1.view (Rect.unit (s := S512x1024) ![0, 0] S512x1024.size inb_S512x1024_S512x1024_0_0).toLoadRect (harg1.unread x0)

/-- The weight as loaded. -/
def weight : Vec F S1024x128 .bf16 :=
  View.readAt (Elt F) arg2.view (Rect.unit (s := S1024x128) ![0, 0] S1024x128.size inb_S1024x128_S1024x128_0_0).toLoadRect (harg2.unread x1)

/-- The counts kept from the block before, as loaded. -/
def kept : Vec F S1x128 .f32 :=
  View.readAt (Elt F) arg6.view (Rect.unit (s := S1x128) ![0, 0] S1x128.size inb_S1x128_S1x128_0_0).toLoadRect (harg6.unread xs0)

/-- One store of a row of counts. -/
def single (v : Vec F S1x128 .f32) : List (View.Piece (Elt F) S1x128 .f32) :=
  [⟨Rect.unit (s := S1x128) ![0, 0] S1x128.size inb_S1x128_S1x128_0_0, v⟩]

/-- A row of counts read back after the stores so far. -/
def reread (L : List (View.Piece (Elt F) S1x128 .f32)) : Vec F S1x128 .f32 :=
  arg6.view.readCov L (Rect.unit (s := S1x128) ![0, 0] S1x128.size inb_S1x128_S1x128_0_0).toLoadRect

/-- The counts' stores of the first block. -/
def startA : List (View.Piece (Elt F) S1x128 .f32) :=
  ⟨Rect.unit (s := S1x128) ![0, 0] S1x128.size inb_S1x128_S1x128_0_0,
    counts (rows arg1 harg1 x0) (weight arg2 harg2 x1) (reread arg6 (single k0_pay3))⟩ :: single k0_pay3

/-- The counts' store of a later block. -/
def nextB : List (View.Piece (Elt F) S1x128 .f32) :=
  single (counts (rows arg1 harg1 x0) (weight arg2 harg2 x1) (kept arg6 harg6 xs0))

section A

variable (hc0 : cond0_0 i)

theorem runA_s0 : (kernelRun0_A c i arg1 harg1 arg2 harg2 arg3 harg3 arg4 harg4 arg5 harg5 arg6 harg6 hc0 x0 x1).2.2.2.1
    = startA arg1 harg1 arg2 harg2 arg6 x0 x1 := by
  sl_kernel_rfl

theorem runA_cnt : (kernelRun0_A c i arg1 harg1 arg2 harg2 arg3 harg3 arg4 harg4 arg5 harg5 arg6 harg6 hc0 x0 x1).2.2.1
    = single (reread arg6 (startA arg1 harg1 arg2 harg2 arg6 x0 x1)) := by
  sl_kernel_rfl

theorem runA_info : (kernelRun0_A c i arg1 harg1 arg2 harg2 arg3 harg3 arg4 harg4 arg5 harg5 arg6 harg6 hc0 x0 x1).1
    = [⟨Rect.unit (s := S512x128) ![0, 0] S512x128.size inb_S512x128_S512x128_0_0,
        info (rows arg1 harg1 x0) (weight arg2 harg2 x1) (reread arg6 (single k0_pay3))⟩] := by
  sl_kernel_rfl

theorem runA_infoT : (kernelRun0_A c i arg1 harg1 arg2 harg2 arg3 harg3 arg4 harg4 arg5 harg5 arg6 harg6 hc0 x0 x1).2.1
    = [⟨Rect.unit (s := S8x512) ![0, 0] S8x512.size inb_S8x512_S8x512_0_0,
        infoT (rows arg1 harg1 x0) (weight arg2 harg2 x1) (reread arg6 (single k0_pay3))⟩] := by
  sl_kernel_rfl

end A

section B

variable (hc0 : ¬cond0_0 i)

theorem runB_s0 : (kernelRun0_B c i arg1 harg1 arg2 harg2 arg3 harg3 arg4 harg4 arg5 harg5 arg6 harg6 hc0 x0 x1 xs0).2.2.2.1
    = nextB arg1 harg1 arg2 harg2 arg6 harg6 x0 x1 xs0 := by
  sl_kernel_rfl

theorem runB_cnt : (kernelRun0_B c i arg1 harg1 arg2 harg2 arg3 harg3 arg4 harg4 arg5 harg5 arg6 harg6 hc0 x0 x1 xs0).2.2.1
    = single (reread arg6 (nextB arg1 harg1 arg2 harg2 arg6 harg6 x0 x1 xs0)) := by
  sl_kernel_rfl

theorem runB_info : (kernelRun0_B c i arg1 harg1 arg2 harg2 arg3 harg3 arg4 harg4 arg5 harg5 arg6 harg6 hc0 x0 x1 xs0).1
    = [⟨Rect.unit (s := S512x128) ![0, 0] S512x128.size inb_S512x128_S512x128_0_0,
        info (rows arg1 harg1 x0) (weight arg2 harg2 x1) (kept arg6 harg6 xs0)⟩] := by
  sl_kernel_rfl

theorem runB_infoT : (kernelRun0_B c i arg1 harg1 arg2 harg2 arg3 harg3 arg4 harg4 arg5 harg5 arg6 harg6 hc0 x0 x1 xs0).2.1
    = [⟨Rect.unit (s := S8x512) ![0, 0] S8x512.size inb_S8x512_S8x512_0_0,
        infoT (rows arg1 harg1 x0) (weight arg2 harg2 x1) (kept arg6 harg6 xs0)⟩] := by
  sl_kernel_rfl

end B

end Pieces

section Read

/-- A whole operand read whole. -/
theorem read_all {n w : ℕ} {e : EltTy} (a : Memref sig .tc .vmem ⟨2, ![n, w]⟩ e) (ha : a.IsWhole) (x : Vec Ideal ⟨2, ![n, w]⟩ e) (h) :
    View.readAt (Elt Ideal) a.view (Rect.unit (s := ⟨2, ![n, w]⟩) ![0, 0] (⟨2, ![n, w]⟩ : Shape).size h).toLoadRect (ha.unread x) = x := by
  funext i
  rw [Memref.IsWhole.readAt_unread]
  refine congrArg x (funext (Fin.forall_fin_two.mpr ⟨Fin.ext ?_, Fin.ext ?_⟩))
  · show 0 + 1 * (i 0).val = (i 0).val
    omega
  · show 0 + 1 * (i 1).val = (i 1).val
    omega

/-- The last of the stores of a whole buffer, read back. -/
theorem canon_all {n w : ℕ} {e : EltTy} (h) (v : Vec Ideal ⟨2, ![n, w]⟩ e) (L : List (View.Piece (Elt Ideal) ⟨2, ![n, w]⟩ e)) :
    View.canon (Val := Elt Ideal) (⟨Rect.unit (s := ⟨2, ![n, w]⟩) ![0, 0] (⟨2, ![n, w]⟩ : Shape).size h, v⟩ :: L) = v := by
  funext i
  have e1 : i = (Rect.unit (s := ⟨2, ![n, w]⟩) ![0, 0] (⟨2, ![n, w]⟩ : Shape).size h).emb i := by
    refine funext (Fin.forall_fin_two.mpr ⟨Fin.ext ?_, Fin.ext ?_⟩)
    · show (i 0).val = 0 + 1 * (i 0).val
      omega
    · show (i 1).val = 0 + 1 * (i 1).val
      omega
  conv_lhs => rw [e1]
  exact View.canon_cons_emb _ _ _ _

theorem reread_cons (arg6 : Memref sig .tc .vmem S1x128 .f32) (h) (v : Vec Ideal S1x128 .f32) (L : List (View.Piece (Elt Ideal) S1x128 .f32)) :
    reread (F := Ideal) arg6 (⟨Rect.unit (s := S1x128) ![0, 0] S1x128.size h, v⟩ :: L) = v := by
  funext i
  unfold reread
  rw [View.readCov_eq_canon', canon_all]
  refine congrArg v (funext (Fin.forall_fin_two.mpr ⟨Fin.ext ?_, Fin.ext ?_⟩))
  · show 0 + 1 * (i 0).val = (i 0).val
    omega
  · show 0 + 1 * (i 1).val = (i 1).val
    omega

end Read

variable (m : (ℓ : Loc nD τ sig) → Buf (Elt Ideal) ℓ)

/-- The input rows. -/
abbrev X (c : Dev nD) (r : Fin 32768) (l : Fin 1024) : EReal := m ((c : Thread nD τ).loc main_arg0) (ix2 r l)

/-- The padded router weight. -/
abbrev W (c : Dev nD) (l : Fin 1024) (j : Fin 128) : EReal := m ((c : Thread nD τ).loc main_arg1) (ix2 l j)

/-- The tokens' logits, zero past the last token. -/
def table (X : Fin 32768 → Fin 1024 → EReal) (W : Fin 1024 → Fin 128 → EReal) (n : ℕ) (j : Fin 8) : EReal :=
  if h : n < 32768 then ∑ l, X ⟨n, h⟩ l * W l (lane j) else 0

/-- Where each window's block sits. -/
theorem idx : ∀ t : Fin grid0.N, win0_0.index t = ![t.val, 0] ∧ win0_1.index t = ![0, 0] ∧ win0_2.index t = ![t.val, 0]
    ∧ win0_3.index t = ![0, t.val] ∧ win0_4.index t = ![0, 0] := by
  decide +kernel

theorem iblk0 (c : Dev nD) (t : Fin cfg0.N) (p : Fin 512) (l : Fin 1024) (r : Fin 32768) (hr : r.val = 512 * t.val + p.val) :
    iblk m c 0 t (ix2 p l) = X m c r l := by
  blk_ext [iblk, V, idx t]

theorem iblk1 (c : Dev nD) (t : Fin cfg0.N) (l : Fin 1024) (j : Fin 128) : iblk m c 1 t (ix2 l j) = W m c l j := by
  blk_ext [iblk, V, idx t]

theorem logit_block (c : Dev nD) (t : Fin cfg0.N) (p : Fin 512) :
    logit (iblk m c 0 t) (iblk m c 1 t) p = table (X m c) (W m c) (512 * t.val + p.val) := by
  funext j
  have hr : 512 * t.val + p.val < 32768 := by
    have : t.val < 64 := t.isLt
    have := p.isLt
    omega
  unfold table
  rw [dif_pos hr]
  refine Finset.sum_congr rfl fun l _ => ?_
  rw [iblk0 m c t p l ⟨512 * t.val + p.val, hr⟩ rfl, iblk1 m c t l (lane j)]

theorem zero_of_bit {a : EReal} [Decidable (a = 0)] (h : BitVec.ofBool (decide (a = 0)) = 1#1) : a = 0 := by
  by_contra hn
  rw [decide_eq_false hn] at h
  exact absurd h (by decide)

/-- What the precondition says: every logit is a real number. -/
theorem real_of_pre [Cert.Pre_finite_router.Facts] (x : FVec Ideal S32768x1024 .f32) (w : FVec Ideal S1024x128 .bf16)
    (h : Cert.Pre_finite_router.fn (F := Ideal) x w = fun _ => 1#1) (n : ℕ) (j : Fin 8) :
    ∃ r : ℝ, table (fun r l => x (ix2 r l)) (fun l k => w (ix2 l k)) n j = r := by
  obtain ⟨h1, h2⟩ := IntOp.andi_eq_one.1 (congrFun h (Shape.Idx.first Cert.Pre_finite_router.Facts.h_S_))
  have e0 := Host.reduce_andi_all _ _ _ _ (Shape.Idx.first Cert.Pre_finite_router.Facts.h_S_) h1
  have e1 := Host.reduce_andi_all _ _ _ _ (Shape.Idx.first Cert.Pre_finite_router.Facts.h_S_) h2
  unfold table
  split
  · rename_i hn
    refine real_sum _ _ (fun l => ?_) fun l => ?_
    · have := e0 (ix2 ⟨n, hn⟩ l)
      pointwise at this
      exact zero_of_bit this
    · have := e1 (ix2 l j)
      pointwise at this
      exact zero_of_bit this
  · exact ⟨0, EReal.coe_zero.symm⟩

end Cert.RouterIdeal.Blocks

end
-- ==== Proof.RouterReference.lean ====
/-
  The router's reference read element by element: the logits, the two greatest of eight, the tokens' choices, the numbers of
  earlier tokens with the same choice, and the gates.
-/
module

public import proofs.«01_k».proof.Proof.Gen.RouterReferenceIdeal.Run
public import proofs.«01_k».proof.Proof.RouterSpec
public import Idealize.ShloMosaic.Lib.KernelVsHost
public import Idealize.ShloMosaic.Lib.Tactic

@[expose] public section

set_option maxRecDepth 16384

noncomputable section

namespace Cert.RouterReferenceIdeal.Read

open Cert.RouterReferenceIdeal Cert.RouterReferenceIdeal.Gen Cert.RouterReferenceIdeal.Value Idealize.ShloMosaic Idealize.ShloMosaic.Tactic
open Idealize.SL.Sem Cert.Router.Spec

section Parts

/-- All tokens' logits. -/
def logits (x : FVec Ideal S32768x1024 .f32) (w : FVec Ideal S1024x128 .bf16) : FVec Ideal S32768x8 .f32 :=
  Host.dotGeneral dot_S32768x1024_S1024x8_S32768x8_1_0_0_1_n_n none x
    (extf .f32 (extractStridedSlice S1024x8 ![0, 0] w slices_S1024x128_S1024x8_0_0 : FVec Ideal S1024x8 .bf16) bitsLt_bf16_f32)

/-- Each token's two greatest logits and their experts. -/
def top (y : FVec Ideal S32768x8 .f32) : FVec Ideal S32768x2 .f32 × IVec S32768x2 32 :=
  Host.topK S32768x2 1 (FloatOps.cmpfTotal .gt) y sliceFits_S32768x8_S32768x2

/-- Whether a lane is the given choice. -/
def isLane (e : IVec S32768x1 32) : IVec S32768x128 1 :=
  cmpi .eq (broadcastInDim S32768x128 ![0, 1] bcast_S1x128_S32768x128_0_1 (broadcastInDim S1x128 ![1] bcast_S128_S1x128_1 (iotaInDim S128 32 0)))
    (broadcastInDim S32768x128 ![0, 1] bcast_S32768x1_S32768x128_0_1 e)

def fst (e : IVec S32768x2 32) : IVec S32768x1 32 := extractStridedSlice S32768x1 ![0, 0] e slices_S32768x2_S32768x1_0_0

def snd (e : IVec S32768x2 32) : IVec S32768x1 32 := extractStridedSlice S32768x1 ![0, 1] e slices_S32768x2_S32768x1_0_1

/-- The tokens' choices as zeros and ones. -/
def chosen (e : IVec S32768x2 32) : FVec Ideal S32768x128 .f32 := uitofp .f32 (ori (isLane (fst e)) (isLane (snd e)))

/-- For each token and lane, the earlier tokens that chose it. -/
def before (e : IVec S32768x2 32) : FVec Ideal S32768x128 .f32 :=
  Host.dotGeneral dot_S32768x32768_S32768x128_S32768x128_1_0_0_1_n_n none
    (uitofp .f32 (cmpi .slt (broadcastInDim S32768x32768 ![0, 1] bcast_S1x32768_S32768x32768_0_1 (broadcastInDim S1x32768 ![1] bcast_S32768_S1x32768_1 (iotaInDim S32768 32 0)))
      (broadcastInDim S32768x32768 ![0, 1] bcast_S32768x1_S32768x32768_0_1 (broadcastInDim S32768x1 ![0] bcast_S32768_S32768x1_0 (iotaInDim S32768 32 0)))))
    (chosen e)

/-- A choice's rank. -/
def rank (e : IVec S32768x2 32) (k : IVec S32768x1 32) : FVec Ideal S32768x1 .f32 :=
  broadcastInDim S32768x1 ![0] bcast_S32768_S32768x1_0 (Host.reduceAdd (select (isLane k) (before e)
    (broadcastInDim S32768x128 ![] bcast_S_S32768x128 (id (constant S_ .f32 0x00000000#32)))) (constant S_ .f32 0x00000000#32) reducesTo_S32768x128_S32768_d1 h_S_)

/-- The exponentials of two values less the greater of them. -/
def weights (v : FVec Ideal S32768x2 .f32) : FVec Ideal S32768x2 .f32 :=
  Host.exp (subf v (broadcastInDim S32768x2 ![0, 1] bcast_S32768x1_S32768x2_0_1 (broadcastInDim S32768x1 ![0] bcast_S32768_S32768x1_0
    (maximumf (broadcastInDim S32768 ![] bcast_S_S32768 (constant S_ .f32 0xFF800000#32))
      (Host.reduce FloatOps.maximumf v (constant S_ .f32 0xFF800000#32) reducesTo_S32768x2_S32768_d1 h_S_)))))

def gates (v : FVec Ideal S32768x2 .f32) : FVec Ideal S32768x2 .f32 :=
  Host.divf (weights v) (broadcastInDim S32768x2 ![0, 1] bcast_S32768x1_S32768x2_0_1 (broadcastInDim S32768x1 ![0] bcast_S32768_S32768x1_0
    (Host.reduceAdd (weights v) (constant S_ .f32 0x00000000#32) reducesTo_S32768x2_S32768_d1 h_S_)))

/-- The rows of choices. -/
def info (v : FVec Ideal S32768x2 .f32) (e : IVec S32768x2 32) : FVec Ideal S32768x128 .f32 :=
  concatenate S32768x128 1 [⟨S32768x1, (sitofp .f32 (fst e) : FVec Ideal S32768x1 .f32)⟩, ⟨S32768x1, (sitofp .f32 (snd e) : FVec Ideal S32768x1 .f32)⟩,
    ⟨S32768x1, (rank e (fst e) : FVec Ideal S32768x1 .f32)⟩, ⟨S32768x1, (rank e (snd e) : FVec Ideal S32768x1 .f32)⟩,
    ⟨S32768x2, (gates v : FVec Ideal S32768x2 .f32)⟩,
    ⟨S32768x122, (broadcastInDim S32768x122 ![] bcast_S_S32768x122 (constant S_ .f32 0x00000000#32) : FVec Ideal S32768x122 .f32)⟩]
    concatenates_S32768x1_S32768x1_S32768x1_S32768x1_S32768x2_S32768x122_S32768x128_d1

end Parts

section Elements

variable (y : FVec Ideal S32768x8 .f32) (n : Fin 32768)

/-- A token's logits. -/
abbrev rowOf (n : Fin 32768) (j : Fin 8) : EReal := y (ix2 n j)

theorem logits_apply (x : FVec Ideal S32768x1024 .f32) (w : FVec Ideal S1024x128 .bf16) (j : Fin 8) :
    (logits x w (ix2 n j) : EReal) = ∑ l, x (ix2 n l) * w (ix2 l (lane j)) := by
  pointwise [logits]
  rfl

/-- The sort of a token's logits. -/
theorem sorted_eq (k : Fin 8) : sortedFrom (n := 8) (fun a b => FloatOps.cmpfTotal (F := Ideal) (φ := .f32) .gt
      (y (Shape.Idx.along (s := S32768x8) (ix2 n k) 1 a)) (y (Shape.Idx.along (s := S32768x8) (ix2 n k) 1 b)) == 1#1) k = place (rowOf y n) k := by
  have ea : ∀ a : Fin 8, Shape.Idx.along (s := S32768x8) (ix2 n k) 1 a = ix2 n a := fun a => by
    funext d
    fin_cases d <;> rfl
  refine congrFun (sortedFrom_congr _ _ fun a b _ => ?_) k
  rw [ea, ea]
  show (BitVec.ofBool (decide (rowOf y n b < rowOf y n a)) == 1#1) = decide (rowOf y n b < rowOf y n a)
  cases decide (rowOf y n b < rowOf y n a) <;> rfl

theorem top_snd (k : Fin 2) (k' : Fin 8) (hk : k'.val = k.val) : (top y).2 (ix2 n k) = BitVec.ofNat 32 (lane (place (rowOf y n) k')).val := by
  obtain rfl : k' = ⟨k.val, Nat.lt_trans k.isLt (by decide)⟩ := Fin.ext hk
  unfold top Host.topK
  pointwise
  unfold Host.sort2
  rw [dif_pos (by decide)]
  exact congrArg (fun q : Fin 8 => BitVec.ofNat 32 q.val) (sorted_eq y n _)

theorem top_fst (k : Fin 2) (k' : Fin 8) (hk : k'.val = k.val) : ((top y).1 (ix2 n k) : EReal) = rowOf y n (place (rowOf y n) k') := by
  obtain rfl : k' = ⟨k.val, Nat.lt_trans k.isLt (by decide)⟩ := Fin.ext hk
  unfold top Host.topK
  pointwise
  unfold Host.sort2
  rw [dif_pos (by decide)]
  refine (congrArg y ?_).trans (congrArg (rowOf y n) (sorted_eq y n _))
  funext d
  fin_cases d <;> rfl

variable (T : ℕ → Fin 8 → EReal) (hT : ∀ n : Fin 32768, rowOf y n = T n.val)

include hT

theorem fst_apply : fst (top y).2 (ix2 n 0) = BitVec.ofNat 32 (lane (first (T n.val))).val := by
  rw [← hT]
  pointwise [fst]
  exact top_snd y n 0 0 rfl

theorem snd_apply : snd (top y).2 (ix2 n 0) = BitVec.ofNat 32 (lane (second (T n.val))).val := by
  rw [← hT]
  pointwise [snd]
  exact top_snd y n 1 1 rfl

theorem chosen_apply (l : Fin 128) : (chosen (top y).2 (ix2 n l) : EReal) = hit (T n.val) l := by
  pointwise [chosen, isLane]
  rw [fst_apply y n T hT, snd_apply y n T hT, eq_bit, eq_bit, or_bit, unsigned_bit]
  simp only [lane_word, Bool.or_eq_true, decide_eq_true_eq]
  rfl

theorem before_apply (l : Fin 128) : (before (top y).2 (ix2 n l) : EReal) = count T n.val l := by
  have := n.isLt
  pointwise [before]
  refine (Finset.sum_congr rfl fun k _ => ?_).trans (count_before (fun k => hit (T k) l) 32768 n.val (by omega))
  have := k.isLt
  rw [word_lt _ _ (by omega) (by omega), unsigned_bit, chosen_apply y k T hT l]
  simp only [decide_eq_true_eq]

theorem rank_apply (k : IVec S32768x1 32) (a : Fin 128) (hk : k (ix2 n 0) = BitVec.ofNat 32 a.val) :
    (rank (top y).2 k (ix2 n 0) : EReal) = count T n.val a := by
  pointwise [rank, isLane]
  rw [hk]
  simp only [eq_bit, select_bit, lane_word, decide_eq_true_eq, before_apply y n T hT]
  have hz : ((id (constant (F := Ideal) S_ .f32 0#32) : FVec Ideal S_ .f32) ix0 : EReal) = 0 := by
    show (constant (F := Ideal) S_ .f32 0#32 ix0 : EReal) = 0
    pointwise
  refine (Finset.sum_congr rfl fun l _ => ?_).trans (pick (fun l => count T n.val l) a)
  rw [hz]

theorem counts_apply (l : Fin 128) : (broadcastInDim S1x128 ![1] bcast_S128_S1x128_1
      (Host.reduceAdd (chosen (top y).2) (constant S_ .f32 0x00000000#32) reducesTo_S32768x128_S128_d0 h_S_ : FVec Ideal S128 .f32) (ix2 0 l) : EReal)
    = count T 32768 l := by
  pointwise
  refine (Finset.sum_congr rfl fun k _ => chosen_apply y k T hT l).trans ?_
  exact count_all (fun k => hit (T k) l) 32768

variable (hR : ∀ n j, ∃ r : ℝ, T n j = r)

include hR

/-- The greater of the two kept values is the first. -/
theorem greatest : max ⊥ (Finset.fold max ⊥ (fun k : Fin 2 => (top y).1 (ix2 n k)) Finset.univ) = T n.val (first (T n.val)) := by
  have e0 : ((top y).1 (ix2 n 0) : EReal) = T n.val (first (T n.val)) := (top_fst y n 0 0 rfl).trans (by rw [hT]; rfl)
  have e1 : ((top y).1 (ix2 n 1) : EReal) = T n.val (second (T n.val)) := (top_fst y n 1 1 rfl).trans (by rw [hT]; rfl)
  have hle : T n.val (second (T n.val)) ≤ T n.val (first (T n.val)) := by
    rcases first_ahead (T n.val) _ (second_ne (T n.val)) with h | ⟨h, -⟩
    · exact h.le
    · exact h ▸ le_rfl
  rw [bot_sup_eq]
  refine le_antisymm ((Finset.fold_max_le _).mpr ⟨bot_le, fun k _ => ?_⟩) ((Finset.le_fold_max _).mpr (Or.inr ⟨0, Finset.mem_univ _, e0.ge⟩))
  fin_cases k
  · exact e0.le
  · exact e1.trans_le hle

theorem weights_fst : (weights (top y).1 (ix2 n 0) : EReal) = 1 := by
  obtain ⟨r, hr⟩ := hR n.val (first (T n.val))
  pointwise [weights]
  rw [low, greatest y n T hT hR, top_fst y n 0 0 rfl, hT]
  show Ideal.exp (T n.val (first (T n.val)) - T n.val (first (T n.val))) = 1
  rw [hr, ← EReal.coe_sub, sub_self, Ideal.exp_coe, Real.exp_zero, EReal.coe_one]

theorem weights_snd : (weights (top y).1 (ix2 n 1) : EReal) = odds (T n.val) := by
  pointwise [weights]
  rw [low, greatest y n T hT hR, top_fst y n 1 1 rfl, hT]
  rfl

theorem gates_fst : (gates (top y).1 (ix2 n 0) : EReal) = Ideal.div 1 (1 + odds (T n.val)) := by
  pointwise [gates]
  rw [Fin.sum_univ_two, weights_fst y n T hT hR, weights_snd y n T hT hR]

theorem gates_snd : (gates (top y).1 (ix2 n 1) : EReal) = Ideal.div (odds (T n.val)) (1 + odds (T n.val)) := by
  pointwise [gates]
  rw [Fin.sum_univ_two, weights_fst y n T hT hR, weights_snd y n T hT hR]

theorem info_apply (l : Fin 128) : (info (top y).1 (top y).2 (ix2 n l) : EReal) = row T n.val l := by
  have := l.isLt
  pointwise [info]
  unfold row
  by_cases h0 : l.val = 0
  · rw [dif_pos (by omega), if_pos h0]
    have : (⟨l.val, by omega⟩ : Fin 1) = 0 := Fin.ext h0
    rw [this, fst_apply y n T hT, lane_float]
  rw [dif_neg (by omega), if_neg h0]
  by_cases h1 : l.val = 1
  · rw [dif_pos (by omega), if_pos h1]
    have : (⟨l.val - 1, by omega⟩ : Fin 1) = 0 := Fin.ext (by show l.val - 1 = 0; omega)
    rw [this, snd_apply y n T hT, lane_float]
  rw [dif_neg (by omega), if_neg h1]
  by_cases h2 : l.val = 2
  · rw [dif_pos (by omega), if_pos h2]
    have : (⟨l.val - 1 - 1, by omega⟩ : Fin 1) = 0 := Fin.ext (by show l.val - 1 - 1 = 0; omega)
    rw [this, rank_apply y n T hT _ _ (fst_apply y n T hT)]
  rw [dif_neg (by omega), if_neg h2]
  by_cases h3 : l.val = 3
  · rw [dif_pos (by omega), if_pos h3]
    have : (⟨l.val - 1 - 1 - 1, by omega⟩ : Fin 1) = 0 := Fin.ext (by show l.val - 1 - 1 - 1 = 0; omega)
    rw [this, rank_apply y n T hT _ _ (snd_apply y n T hT)]
  rw [dif_neg (by omega), if_neg h3]
  by_cases h4 : l.val = 4
  · rw [dif_pos (by omega), if_pos h4]
    have : (⟨l.val - 1 - 1 - 1 - 1, by omega⟩ : Fin 2) = 0 := Fin.ext (by show l.val - 1 - 1 - 1 - 1 = 0; omega)
    rw [this, gates_fst y n T hT hR]
  rw [if_neg h4]
  by_cases h5 : l.val = 5
  · rw [dif_pos (by omega), if_pos h5]
    have : (⟨l.val - 1 - 1 - 1 - 1, by omega⟩ : Fin 2) = 1 := Fin.ext (by show l.val - 1 - 1 - 1 - 1 = 1; omega)
    rw [this, gates_snd y n T hT hR]
  rw [dif_neg (by omega), if_neg h5]

end Elements

section Results

variable (m : (ℓ : Loc nD τ sig) → Buf (Elt Ideal) ℓ) (c : Dev nD)

/-- The logits of the arguments. -/
abbrev Y : FVec Ideal S32768x8 .f32 := logits (m ((c.tc : Thread nD τ).loc main_arg0)) (m ((c.tc : Thread nD τ).loc main_arg1))

theorem res0 : res_main_v49 m c = info (top (Y m c)).1 (top (Y m c)).2 := rfl

theorem res1 : res_main_v51 m c = transpose S8x32768 [1, 0] (extractStridedSlice S32768x8 ![0, 0] (info (top (Y m c)).1 (top (Y m c)).2) slices_S32768x128_S32768x8_0_0) transposes_S32768x8_S8x32768_1_0 := rfl

end Results

end Cert.RouterReferenceIdeal.Read

end
-- ==== Proof.Router.lean ====
/-
  The router: what each grid point leaves in its blocks and in the running counts, the three result arrays, and the equality with
  the reference.
-/
module

public import proofs.«01_k».proof.Proof.Gen.RouterIdeal.Value
public import proofs.«01_k».proof.Proof.RouterBlocks
public import proofs.«01_k».proof.Proof.RouterReference
public import proofs.«01_k».proof.Defs
public import Idealize.ShloMosaic.Lib.Pipeline.ValueKit
public import proofs.«01_k».proof.Proof.Gen.Pre_finite_router

@[expose] public section

set_option maxRecDepth 16384

noncomputable section

namespace Cert.RouterIdeal.Result

open Cert.RouterIdeal Cert.RouterIdeal.Gen Cert.RouterIdeal.Blocks
open Idealize.ShloMosaic Idealize.ShloMosaic.TcCoe Idealize.SL.Sem Cert.Router.Spec

variable (m : (ℓ : Loc nD τ sig) → Buf (Elt Ideal) ℓ)

/-- The tokens' logits. -/
abbrev T (c : Dev nD) : ℕ → Fin 8 → EReal := table (X m c) (W m c)

/-- What a point leaves, given the counts it starts from. -/
def Left (c : Dev nD) (t : Fin cfg0.N) (z : Vec Ideal S512x128 .f32 × Vec Ideal S8x512 .f32 × Vec Ideal S1x128 .f32 × Vec Ideal S1x128 .f32) : Prop :=
  (∀ p l, z.1 (ix2 p l) = row (T m c) (512 * t.val + p.val) l) ∧ (∀ k p, z.2.1 (ix2 k p) = row (T m c) (512 * t.val + p.val) (lane k))
    ∧ (∀ l, z.2.2.1 (ix2 0 l) = count (T m c) (512 * t.val + 512) l) ∧ ∀ l, z.2.2.2 (ix2 0 l) = count (T m c) (512 * t.val + 512) l

variable (c : Dev nD) (hB : ∀ n j, T m c n j ≠ ⊥)

include hB

theorem left_of (t : Fin cfg0.N) (run : Vec Ideal S1x128 .f32) (hrun : ∀ l, run (ix2 0 l) = count (T m c) (512 * t.val) l)
    (i0 : Vec Ideal S512x128 .f32) (i1 : Vec Ideal S8x512 .f32) (i2 i3 : Vec Ideal S1x128 .f32)
    (h0 : i0 = info (F := Ideal) (iblk m c 0 t) (iblk m c 1 t) run) (h1 : i1 = infoT (F := Ideal) (iblk m c 0 t) (iblk m c 1 t) run)
    (h2 : i2 = counts (F := Ideal) (iblk m c 0 t) (iblk m c 1 t) run) (h3 : i3 = counts (F := Ideal) (iblk m c 0 t) (iblk m c 1 t) run) :
    Left m c t (i0, i1, i2, i3) := by
  have hT := logit_block m c t
  subst h0 h1 h2 h3
  exact ⟨fun p l => info_apply _ _ p run _ _ hT hB hrun l, fun k p => infoT_apply _ _ p run _ _ hT hB hrun k,
    fun l => counts_apply _ _ run _ _ hT hB hrun l, fun l => counts_apply _ _ run _ _ hT hB hrun l⟩

theorem left_first (t : Fin cfg0.N) (h0 : t.val % 64 = 0) : Left m c t (outsAt0 m c t.val t.isLt) := by
  have ht : t.val = 0 := by
    have : t.val < 64 := t.isLt
    omega
  rw [outsAt0_A m c t h0]
  refine left_of m c hB t (k0_pay3 (F := Ideal)) (fun l => ?_) _ _ _ _ ?_ ?_ ?_ ?_
  · rw [ht]
    pointwise [k0_pay3]
    rfl
  · unfold out0_A_2
    rw [View.read_writes_junk_eq_canon, runA_info]
    refine (canon_all _ _ _).trans ?_
    unfold rows weight single
    rw [read_all, read_all, reread_cons]
  · unfold out0_A_3
    rw [View.read_writes_junk_eq_canon, runA_infoT]
    refine (canon_all _ _ _).trans ?_
    unfold rows weight single
    rw [read_all, read_all, reread_cons]
  · unfold out0_A_4
    rw [View.read_writes_junk_eq_canon, runA_cnt]
    unfold single startA rows weight single
    rw [reread_cons, read_all, read_all, reread_cons]
    exact canon_all _ _ _
  · unfold sout0_A_0
    rw [View.read_writes_junk_eq_canon, runA_s0]
    unfold startA rows weight single
    rw [read_all, read_all, reread_cons]
    exact canon_all _ _ _

theorem left_next (t : Fin cfg0.N) (h0 : ¬t.val % 64 = 0)
    (hrun : ∀ l, (outsAt0 m c (t.val - 1) (Nat.lt_of_le_of_lt (Nat.sub_le _ _) t.isLt)).2.2.2 (ix2 0 l) = count (T m c) (512 * t.val) l) :
    Left m c t (outsAt0 m c t.val t.isLt) := by
  rw [outsAt0_B m c t h0]
  refine left_of m c hB t _ hrun _ _ _ _ ?_ ?_ ?_ ?_
  · unfold out0_B_2
    rw [View.read_writes_junk_eq_canon, runB_info]
    refine (canon_all _ _ _).trans ?_
    unfold rows weight kept
    rw [read_all, read_all, read_all]
  · unfold out0_B_3
    rw [View.read_writes_junk_eq_canon, runB_infoT]
    refine (canon_all _ _ _).trans ?_
    unfold rows weight kept
    rw [read_all, read_all, read_all]
  · unfold out0_B_4
    rw [View.read_writes_junk_eq_canon, runB_cnt]
    unfold single nextB rows weight kept single
    rw [reread_cons, read_all, read_all, read_all]
    exact canon_all _ _ _
  · unfold sout0_B_0
    rw [View.read_writes_junk_eq_canon, runB_s0]
    unfold nextB rows weight kept single
    rw [read_all, read_all, read_all]
    exact canon_all _ _ _

/-- What every point leaves. -/
theorem left_all : ∀ (n : ℕ) (hn : n < cfg0.N), Left m c ⟨n, hn⟩ (outsAt0 m c n hn)
  | 0, hn => left_first m c hB ⟨0, hn⟩ rfl
  | n + 1, hn => by
    have hlt : n + 1 < 64 := hn
    refine left_next m c hB ⟨n + 1, hn⟩ (by show ¬(n + 1) % 64 = 0; omega) fun l => ?_
    have := (left_all n (Nat.lt_of_succ_lt hn)).2.2.2 l
    exact this

omit hB

/-- The rows of choices. -/
def outInfo (c : Dev nD) : Vec Ideal S32768x128 .f32 := fun i => row (T m c) (i 0).val (i 1)

/-- Their first eight columns, transposed. -/
def outInfoT (c : Dev nD) : Vec Ideal S8x32768 .f32 := fun i => row (T m c) (i 1).val (lane (i 0))

/-- How many tokens chose each expert. -/
def outCount (c : Dev nD) : Vec Ideal S1x128 .f32 := fun i => count (T m c) 32768 (i 1)

theorem row_lt (t : Fin cfg0.N) (p : Fin 512) : 512 * t.val + p.val < 32768 := by
  have : t.val < 64 := t.isLt
  have := p.isLt
  omega

include hB

theorem final2 : (dats m 0 c).arrAt 2 cfg0.N = outInfo m c := by
  refine (dats m 0 c).arrAt_eq_of_covers 2 _ (by decide +kernel) fun t hf y => ?_
  blk_simp
  rw [after0_2]
  idx_vars y
  have he : (win0_2.blk t).view.emb (ix2 y0 y1) = ix2 ⟨512 * t.val + y0.val, row_lt t y0⟩ y1 := by
    blk_point [idx t]
  rw [he]
  exact (left_all m c hB t.val t.isLt).1 y0 y1

theorem final3 : (dats m 0 c).arrAt 3 cfg0.N = outInfoT m c := by
  refine (dats m 0 c).arrAt_eq_of_covers 3 _ (by decide +kernel) fun t hf y => ?_
  blk_simp
  rw [after0_3]
  idx_vars y
  have he : (win0_3.blk t).view.emb (ix2 y0 y1) = ix2 y0 ⟨512 * t.val + y1.val, row_lt t y1⟩ := by
    blk_point [idx t]
  rw [he]
  exact (left_all m c hB t.val t.isLt).2.1 y0 y1

omit hB in
/-- The counts are written out after the last point only. -/
theorem flush_last : ∀ t : Fin cfg0.grid.N, (cfg0.win 4).flush t = true → t.val = 63 := by decide +kernel

theorem final4 : (dats m 0 c).arrAt 4 cfg0.N = outCount m c := by
  refine (dats m 0 c).arrAt_eq_of_covers 4 _ (by decide +kernel) fun t hf y => ?_
  have h63 : t.val = 63 := flush_last t hf
  blk_simp
  rw [after0_4]
  idx_vars y
  have he : (win0_4.blk t).view.emb (ix2 y0 y1) = ix2 0 y1 := by
    have : y0.val < 1 := y0.isLt
    blk_point [idx t]
  rw [he]
  have hy : y0 = 0 := Fin.ext (by have : y0.val < 1 := y0.isLt; show y0.val = 0; omega)
  rw [hy]
  refine ((left_all m c hB t.val t.isLt).2.2.1 y1).trans ?_
  show count (T m c) (512 * t.val + 512) y1 = count (T m c) 32768 y1
  rw [h63]

omit hB

/-- The router's kernel computes what its reference computes. -/
theorem algebraic : letI := Cert.RouterIdeal.Gen.facts; letI := Cert.RouterReferenceIdeal.Gen.facts; letI := Cert.Pre_finite_router.Gen.facts;
    Cert.algebraic_RouterIdeal_RouterReferenceIdeal_pre_finite_router := by
  letI := Cert.Pre_finite_router.Gen.facts
  intro m g m' g' hpre hm
  have hR : ∀ c n j, ∃ r : ℝ, T m c n j = r := fun c => real_of_pre _ _ (hpre c)
  have hB : ∀ c n j, T m c n j ≠ ⊥ := fun c n j => by
    obtain ⟨r, hr⟩ := hR c n j
    rw [hr]
    exact EReal.coe_ne_bot r
  refine ⟨fun c => outInfo m c, fun c => outInfoT m c, fun c => outCount m c, ?_, ?_⟩
  · exact (θ_run defs _ _).mono (fun r h c => ⟨(h c).1.trans (final2 m c (hB c)), (h c).2.1.trans (final3 m c (hB c)),
      (h c).2.2.1.trans (final4 m c (hB c)), (h c).2.2.2⟩) (Cert.RouterIdeal.Value.run_blocks m g)
  · refine (θ_run Cert.RouterReferenceIdeal.defs _ _).mono (fun r h c => ?_) (Cert.RouterReferenceIdeal.Value.run m' g')
    obtain ⟨a0, a1⟩ := hm c
    obtain ⟨r0, r1, r2, rest⟩ := h c
    have eT : ∀ n : Fin 32768, Cert.RouterReferenceIdeal.Read.rowOf (Cert.RouterReferenceIdeal.Read.Y m' c) n = T m c n.val := fun n => by
      funext j
      refine (Cert.RouterReferenceIdeal.Read.logits_apply n _ _ j).trans ?_
      unfold T table
      rw [dif_pos n.isLt]
      refine Finset.sum_congr rfl fun l _ => ?_
      exact congrArg₂ (· * ·) (congrFun a0 (ix2 n l)) (congrFun a1 (ix2 l (lane j)))
    refine ⟨r0.trans (funext fun i => ?_), r1.trans (funext fun i => ?_), r2.trans (funext fun i => ?_), rest⟩ <;> rw [eq_ix2 i]
    · rw [Cert.RouterReferenceIdeal.Read.res0]
      exact Cert.RouterReferenceIdeal.Read.info_apply _ (i 0) (T m c) eT (hR c) (i 1)
    · rw [Cert.RouterReferenceIdeal.Read.res1]
      pointwise
      exact Cert.RouterReferenceIdeal.Read.info_apply _ (i 1) (T m c) eT (hR c) (lane (i 0))
    · have h0 : i 0 = (0 : Fin 1) := Fin.ext (by have : (i 0).val < 1 := (i 0).isLt; show (i 0).val = 0; omega)
      rw [h0]
      exact Cert.RouterReferenceIdeal.Read.counts_apply _ (T m c) eT (i 1)

end Cert.RouterIdeal.Result

end
-- ==== Proof.GatesPieces.lean ====
/-
  What the gates' body stores, as short expressions: the sums inside each chunk of 64 rows, the two spread-out blocks, the
  transposed one, and the six heads of the queries and of the values, each with its lane of ones.
-/
module

public import proofs.«01_k».proof.Proof.Gen.GatesIdeal.Frame

@[expose] public section

set_option maxRecDepth 16384

noncomputable section

namespace Cert.GatesIdeal.Pieces

open Cert.GatesIdeal Cert.GatesIdeal.Gen Idealize.ShloMosaic Idealize.ShloMosaic.TcCoe Idealize.ShloMosaic.Tactic

variable {F : FTy → Type} [FloatOps F]

/-- The lanes' numbers. -/
abbrev lanesI : IVec S1x128 32 := iota .tc S1x128 32 [1] iota_S1x128_d1_w32

/-- The row numbers of a 128 × 128 mask. -/
abbrev rowsI : IVec S128x128 32 := iota .tc S128x128 32 [0] iota_S128x128_d0_w32

/-- The column numbers of a 128 × 128 mask. -/
abbrev colsI : IVec S128x128 32 := iota .tc S128x128 32 [1] iota_S128x128_d1_w32

/-- The mask of the earlier rows of a row's chunk. -/
def earlier : FVec F S128x128 .bf16 :=
  k0_pay14 colsI k0_pay10 k0_pay11 64#32 k0_pay12 k0_pay13 (Scalar.extui (Scalar.cmpi .sgt 64#32 0#32)) (Scalar.cmpi .slt 64#32 0#32)

/-- The two rows of logarithms side by side. -/
def logs (x : Vec F S1x512x128 .f32) (a d f : Vec F S1x128 .f32) : FVec F S512x128 .f32 :=
  k0_pay15 (k0_pay4 x a d) (k0_pay9 (k0_pay7 x f) (k0_pay8 x f) (Scalar.ofBits .f32 0x00000000#32)) lanesI

/-- Their sums inside each chunk. -/
def sums (x : Vec F S1x512x128 .f32) (a d f : Vec F S1x128 .f32) : FVec F S512x128 .f32 :=
  k0_pay23 earlier (logs x a d f)
    (k0_pay16 (k0_pay4 x a d) (k0_pay9 (k0_pay7 x f) (k0_pay8 x f) (Scalar.ofBits .f32 0x00000000#32)) lanesI colsI k0_pay10 k0_pay11 64#32
      k0_pay12 k0_pay13 (Scalar.extui (Scalar.cmpi .sgt 64#32 0#32)) (Scalar.cmpi .slt 64#32 0#32))
    (k0_pay21 (k0_pay4 x a d) (k0_pay9 (k0_pay7 x f) (k0_pay8 x f) (Scalar.ofBits .f32 0x00000000#32)) lanesI)
    (k0_pay22 (k0_pay4 x a d) (k0_pay9 (k0_pay7 x f) (k0_pay8 x f) (Scalar.ofBits .f32 0x00000000#32)) lanesI colsI k0_pay10 k0_pay11 64#32
      k0_pay12 k0_pay13 (Scalar.extui (Scalar.cmpi .sgt 64#32 0#32)) (Scalar.cmpi .slt 64#32 0#32))

/-- The sums and the rates, each column 64 times over. -/
def spread (b : FVec F S512x128 .f32) (g : FVec F S512x128 .f32) : FVec F S512x768 .f32 :=
  k0_pay47 b lanesI g (iota .tc S128x768 32 [0] iota_S128x768_d0_w32) k0_pay44 k0_pay45 k0_pay46

def gBlock (x : Vec F S1x512x128 .f32) (a d f : Vec F S1x128 .f32) : FVec F S1x512x384 .f32 :=
  k0_pay48 (k0_pay5 x) lanesI (sums x a d f) (iota .tc S128x768 32 [0] iota_S128x768_d0_w32) k0_pay44 k0_pay45 k0_pay46

def betaBlock (x : Vec F S1x512x128 .f32) (a d f : Vec F S1x128 .f32) : FVec F S1x512x384 .f32 :=
  k0_pay49 (k0_pay5 x) lanesI (sums x a d f) (iota .tc S128x768 32 [0] iota_S128x768_d0_w32) k0_pay44 k0_pay45 k0_pay46

def gtBlock (x : Vec F S1x512x128 .f32) (a d f : Vec F S1x128 .f32) : FVec F S1x8x512 .f32 := k0_pay50 (sums x a d f)

/-- The three lanes of ones beside the queries. -/
def three : FVec F S1x128 .f32 := k0_pay57 lanesI (k0_pay56 lanesI)

/-- The lane of ones beside the values. -/
def single : FVec F S1x128 .f32 := k0_pay58 lanesI

/-- The mask that moves the upper 64 lanes down. -/
def down : FVec F S128x128 .bf16 := k0_pay69 rowsI colsI

/-- The queries' six stores, the last first. -/
def piecesQ (q : (o : ℕ) → (∀ a, (![0, 0, o] : Fin 3 → ℕ) a + S1x512x128.size a ≤ S1x512x384.size a) → Vec F S1x512x128 .bf16) :
    List (View.Piece (Elt F) S1x6x512x128 .bf16) :=
  [⟨Rect.unit (s := S1x6x512x128) ![0, 5, 0, 0] S1x1x512x128.size inb_S1x6x512x128_S1x1x512x128_0_5_0_0, k0_pay89 three down (q 256 inb_S1x512x384_S1x512x128_0_0_256)⟩,
   ⟨Rect.unit (s := S1x6x512x128) ![0, 4, 0, 0] S1x1x512x128.size inb_S1x6x512x128_S1x1x512x128_0_4_0_0, k0_pay85 three (k0_pay84 lanesI) (q 256 inb_S1x512x384_S1x512x128_0_0_256)⟩,
   ⟨Rect.unit (s := S1x6x512x128) ![0, 3, 0, 0] S1x1x512x128.size inb_S1x6x512x128_S1x1x512x128_0_3_0_0, k0_pay81 three down (q 128 inb_S1x512x384_S1x512x128_0_0_128)⟩,
   ⟨Rect.unit (s := S1x6x512x128) ![0, 2, 0, 0] S1x1x512x128.size inb_S1x6x512x128_S1x1x512x128_0_2_0_0, k0_pay78 (k0_pay77 lanesI three (q 128 inb_S1x512x384_S1x512x128_0_0_128))⟩,
   ⟨Rect.unit (s := S1x6x512x128) ![0, 1, 0, 0] S1x1x512x128.size inb_S1x6x512x128_S1x1x512x128_0_1_0_0, k0_pay74 (k0_pay73 three down (q 0 inb_S1x512x384_S1x512x128_0_0_0))⟩,
   ⟨Rect.unit (s := S1x6x512x128) ![0, 0, 0, 0] S1x1x512x128.size inb_S1x6x512x128_S1x1x512x128_0_0_0_0, k0_pay70 lanesI three (q 0 inb_S1x512x384_S1x512x128_0_0_0)⟩]

/-- The values' six stores, the last first. -/
def piecesV (q : (o : ℕ) → (∀ a, (![0, 0, o] : Fin 3 → ℕ) a + S1x512x128.size a ≤ S1x512x384.size a) → Vec F S1x512x128 .bf16) :
    List (View.Piece (Elt F) S1x6x512x128 .bf16) :=
  [⟨Rect.unit (s := S1x6x512x128) ![0, 5, 0, 0] S1x1x512x128.size inb_S1x6x512x128_S1x1x512x128_0_5_0_0, k0_pay1 (k0_pay91 single down (q 256 inb_S1x512x384_S1x512x128_0_0_256))⟩,
   ⟨Rect.unit (s := S1x6x512x128) ![0, 4, 0, 0] S1x1x512x128.size inb_S1x6x512x128_S1x1x512x128_0_4_0_0, k0_pay88 (k0_pay87 lanesI single (q 256 inb_S1x512x384_S1x512x128_0_0_256))⟩,
   ⟨Rect.unit (s := S1x6x512x128) ![0, 3, 0, 0] S1x1x512x128.size inb_S1x6x512x128_S1x1x512x128_0_3_0_0, k0_pay83 single down (q 128 inb_S1x512x384_S1x512x128_0_0_128)⟩,
   ⟨Rect.unit (s := S1x6x512x128) ![0, 2, 0, 0] S1x1x512x128.size inb_S1x6x512x128_S1x1x512x128_0_2_0_0, k0_pay80 lanesI single (q 128 inb_S1x512x384_S1x512x128_0_0_128)⟩,
   ⟨Rect.unit (s := S1x6x512x128) ![0, 1, 0, 0] S1x1x512x128.size inb_S1x6x512x128_S1x1x512x128_0_1_0_0, k0_pay76 single down (q 0 inb_S1x512x384_S1x512x128_0_0_0)⟩,
   ⟨Rect.unit (s := S1x6x512x128) ![0, 0, 0, 0] S1x1x512x128.size inb_S1x6x512x128_S1x1x512x128_0_0_0_0, k0_pay72 lanesI single (q 0 inb_S1x512x384_S1x512x128_0_0_0)⟩]

/-- The block of rows as loaded. -/
def small (a : Memref sig .tc .vmem S1x512x128 .f32) (ha : a.IsWhole) (x : Vec F S1x512x128 .f32) : Vec F S1x512x128 .f32 :=
  View.readAt (Elt F) a.view (Rect.unit (s := S1x512x128) ![0, 0, 0] S1x512x128.size inb_S1x512x128_S1x512x128_0_0_0).toLoadRect (ha.unread x)

/-- One of the rows of constants as loaded. -/
def row (a : Memref sig .tc .vmem S1x128 .f32) (ha : a.IsWhole) (x : Vec F S1x128 .f32) : Vec F S1x128 .f32 :=
  View.readAt (Elt F) a.view (Rect.unit (s := S1x128) ![0, 0] S1x128.size inb_S1x128_S1x128_0_0).toLoadRect (ha.unread x)

/-- Two heads' 128 columns from column `o`, as loaded. -/
def cols (a : Memref sig .tc .vmem S1x512x384 .bf16) (ha : a.IsWhole) (x : Vec F S1x512x384 .bf16) (o : ℕ)
    (h : ∀ a, (![0, 0, o] : Fin 3 → ℕ) a + S1x512x128.size a ≤ S1x512x384.size a) : Vec F S1x512x128 .bf16 :=
  View.readAt (Elt F) a.view (Rect.unit (s := S1x512x384) ![0, 0, o] S1x512x128.size h).toLoadRect (ha.unread x)

section Runs

variable (c : Dev nD) (i : grid0.Coords)
  (arg2 : Memref sig .tc .vmem S1x512x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1x512x384 .bf16) (harg8 : arg8.IsWhole)
  (arg9 : Memref sig .tc .vmem S1x512x384 .f32) (harg9 : arg9.IsWhole)
  (arg10 : Memref sig .tc .vmem S1x512x384 .f32) (harg10 : arg10.IsWhole)
  (arg11 : Memref sig .tc .vmem S1x8x512 .f32) (harg11 : arg11.IsWhole)
  (arg12 : Memref sig .tc .vmem S1x1x8x128 .f32) (harg12 : arg12.IsWhole)
  (arg13 : Memref sig .tc .vmem S1x6x512x128 .bf16) (harg13 : arg13.IsWhole)
  (arg14 : Memref sig .tc .vmem S1x6x512x128 .bf16) (harg14 : arg14.IsWhole)
  (arg15 : Memref sig .tc .vmem S1x6x512x128 .bf16) (harg15 : arg15.IsWhole)
  (arg16 : Memref sig .tc .vmem S1x128 .f32) (harg16 : arg16.IsWhole)
  (x0 : Vec F S1x512x128 .f32) (x1 x2 x3 : Vec F S1x128 .f32) (x4 x5 x6 : Vec F S1x512x384 .bf16) (xs0 : Vec F S1x128 .f32)

section A

variable (hc0 : cond0_0 i)

theorem runA_g : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).1
    = [⟨Rect.unit (s := S1x512x384) ![0, 0, 0] S1x512x384.size inb_S1x512x384_S1x512x384_0_0_0, gBlock (small arg2 harg2 x0) (row arg3 harg3 x1) (row arg4 harg4 x2) (row arg5 harg5 x3)⟩] := by
  sl_kernel_rfl

theorem runA_beta : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.1
    = [⟨Rect.unit (s := S1x512x384) ![0, 0, 0] S1x512x384.size inb_S1x512x384_S1x512x384_0_0_0, betaBlock (small arg2 harg2 x0) (row arg3 harg3 x1) (row arg4 harg4 x2) (row arg5 harg5 x3)⟩] := by
  sl_kernel_rfl

theorem runA_gt : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.1
    = [⟨Rect.unit (s := S1x8x512) ![0, 0, 0] S1x8x512.size inb_S1x8x512_S1x8x512_0_0_0, gtBlock (small arg2 harg2 x0) (row arg3 harg3 x1) (row arg4 harg4 x2) (row arg5 harg5 x3)⟩] := by
  sl_kernel_rfl

theorem runA_qa : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.1
    = piecesQ (cols arg6 harg6 x4) := by
  sl_kernel_rfl

theorem runA_va : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6).2.2.2.2.2.2.1
    = piecesV (cols arg8 harg8 x6) := by
  sl_kernel_rfl

end A

section B

variable (hc0 : ¬cond0_0 i)

theorem runB_g : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0).1
    = [⟨Rect.unit (s := S1x512x384) ![0, 0, 0] S1x512x384.size inb_S1x512x384_S1x512x384_0_0_0, gBlock (small arg2 harg2 x0) (row arg3 harg3 x1) (row arg4 harg4 x2) (row arg5 harg5 x3)⟩] := by
  sl_kernel_rfl

theorem runB_beta : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0).2.1
    = [⟨Rect.unit (s := S1x512x384) ![0, 0, 0] S1x512x384.size inb_S1x512x384_S1x512x384_0_0_0, betaBlock (small arg2 harg2 x0) (row arg3 harg3 x1) (row arg4 harg4 x2) (row arg5 harg5 x3)⟩] := by
  sl_kernel_rfl

theorem runB_gt : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0).2.2.1
    = [⟨Rect.unit (s := S1x8x512) ![0, 0, 0] S1x8x512.size inb_S1x8x512_S1x8x512_0_0_0, gtBlock (small arg2 harg2 x0) (row arg3 harg3 x1) (row arg4 harg4 x2) (row arg5 harg5 x3)⟩] := by
  sl_kernel_rfl

theorem runB_qa : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0).2.2.2.2.1
    = piecesQ (cols arg6 harg6 x4) := by
  sl_kernel_rfl

theorem runB_va : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 xs0).2.2.2.2.2.2.1
    = piecesV (cols arg8 harg8 x6) := by
  sl_kernel_rfl

end B

end Runs

end Cert.GatesIdeal.Pieces

end
-- ==== Proof.GatesSpec.lean ====
/-
  The gates as functions of extended reals, apart from any program: the decay's logarithm, the update rate, sums inside chunks of
  64 rows, and the words of the masks.
-/
module

public import proofs.«01_k».proof.Proof.RouterSpec
public import proofs.«01_k».proof.Proof.InProjSpec

@[expose] public section

set_option maxRecDepth 16384

noncomputable section

namespace Cert.Gates.Spec

open Idealize.ShloMosaic Cert.Router.Spec

/-- The logarithm of a decay: less `exp a` times the softplus of `s + d`. -/
def decay (s d a : EReal) : EReal :=
  (0 - Ideal.exp a) * (max (s + d) 0 + Ideal.log1p (Ideal.exp (0 - FloatOps.absf (F := Ideal) (φ := .f32) (s + d))))

/-- An update rate: the logistic function. -/
def rate (s : EReal) : EReal := Ideal.div 1 (1 + Ideal.exp (0 - s))

theorem rate_real (s : EReal) : ∃ r : ℝ, rate s = r := by
  unfold rate
  induction s with
  | bot =>
    refine ⟨0, ?_⟩
    have h : (0 - ⊥ : EReal) = ⊤ := rfl
    rw [h]
    show Ideal.div 1 (1 + ⊤) = _
    have h1 : (1 + ⊤ : EReal) = ⊤ := rfl
    rw [h1]
    unfold Ideal.div
    rw [if_neg EReal.top_ne_zero, EReal.inv_top, mul_zero, EReal.coe_zero]
  | top =>
    refine ⟨1, ?_⟩
    have h : (0 - ⊤ : EReal) = ⊥ := rfl
    rw [h]
    show Ideal.div 1 (1 + 0) = _
    unfold Ideal.div
    rw [add_zero, if_neg one_ne_zero, one_mul, ← EReal.coe_one, ← EReal.coe_inv, inv_one]
  | coe r =>
    refine ⟨(1 + Real.exp (0 - r))⁻¹, ?_⟩
    have h : (1 + Ideal.exp (0 - (r : EReal)) : EReal) = ((1 + Real.exp (0 - r) : ℝ) : EReal) := by
      rw [← EReal.coe_zero, ← EReal.coe_sub]
      show (1 : EReal) + ((Real.exp (0 - r) : ℝ) : EReal) = _
      rw [← EReal.coe_one, ← EReal.coe_add]
    rw [h]
    unfold Ideal.div
    have hp : (1 + Real.exp (0 - r) : ℝ) ≠ 0 := by positivity
    rw [if_neg (by exact_mod_cast hp), one_mul, ← EReal.coe_inv]

theorem rate_ne_top (s : EReal) : rate s ≠ ⊤ := by
  obtain ⟨r, hr⟩ := rate_real s
  rw [hr]
  exact EReal.coe_ne_top r

/-- A decay's logarithm is never positive, so it is not the upper infinity. -/
theorem decay_ne_top (s d a : EReal) : decay s d a ≠ ⊤ := by
  have hexp : ∀ z : EReal, 0 ≤ Ideal.exp z := fun z => by
    induction z with
    | bot => exact le_refl _
    | top => exact le_top
    | coe r => exact EReal.coe_nonneg.mpr (Real.exp_pos r).le
  have hlog : ∀ z : EReal, 0 ≤ z → 0 ≤ Ideal.log1p z := fun z hz => by
    unfold Ideal.log1p
    induction z with
    | bot => exact absurd hz (by decide)
    | top => exact le_top
    | coe r =>
      have hr : 0 ≤ r := EReal.coe_nonneg.mp hz
      have e : (1 + (r : EReal) : EReal) = ((1 + r : ℝ) : EReal) := by rw [EReal.coe_add, EReal.coe_one]
      rw [e]
      show 0 ≤ (if 1 + r ≤ 0 then (⊥ : EReal) else ((Real.log (1 + r) : ℝ) : EReal))
      rw [if_neg (by linarith)]
      exact EReal.coe_nonneg.mpr (Real.log_nonneg (by linarith))
  unfold decay
  rw [zero_sub, EReal.neg_mul]
  intro h
  have h0 : 0 ≤ Ideal.exp a * (max (s + d) 0 + Ideal.log1p (Ideal.exp (0 - FloatOps.absf (F := Ideal) (φ := .f32) (s + d)))) :=
    mul_nonneg (hexp a) (add_nonneg (le_max_right _ _) (hlog _ (hexp _)))
  rw [EReal.neg_eq_top_iff.mp h] at h0
  exact absurd h0 (by decide)

/-- The sum of a chunk's rows up to and with row `r`. -/
def cum (f : ℕ → EReal) (r : ℕ) : EReal := ∑ k ∈ Finset.range (r % 64 + 1), f (r - r % 64 + k)

theorem cum_ne_top (f : ℕ → EReal) (hf : ∀ n, f n ≠ ⊤) (n : ℕ) : cum f n ≠ ⊤ := by
  unfold cum
  exact Finset.sum_induction _ (fun a : EReal => a ≠ ⊤) (fun _ _ => EReal.add_ne_top) EReal.zero_ne_top fun k _ => hf _

/-- The sum as a masked sum over the 128 rows around it. -/
theorem cum_mask (f : ℕ → EReal) (b : ℕ) (hb : b % 64 = 0) (p : ℕ) (hp : p < 128) :
    ∑ s : Fin 128, (if s.val ≤ p ∧ s.val / 64 = p / 64 then (1 : EReal) else 0) * f (b + s.val) = cum f (b + p) := by
  have e1 : (b + p) % 64 = p % 64 := by omega
  have e2 : b + p - p % 64 = b + p / 64 * 64 := by omega
  unfold cum
  rw [e1, e2, Fin.sum_univ_eq_sum_range (fun s => (if s ≤ p ∧ s / 64 = p / 64 then (1 : EReal) else 0) * f (b + s)) 128]
  simp only [ite_mul, one_mul, zero_mul]
  rw [← Finset.sum_filter]
  have e3 : (Finset.range 128).filter (fun s => s ≤ p ∧ s / 64 = p / 64) = Finset.Ico (p / 64 * 64) (p + 1) := by
    ext s
    rw [Finset.mem_filter, Finset.mem_range, Finset.mem_Ico]
    omega
  rw [e3, Finset.sum_Ico_eq_sum_range, show p + 1 - p / 64 * 64 = p % 64 + 1 by omega]
  exact Finset.sum_congr rfl fun k _ => congrArg f (by omega)

/-- … and as a sum over the 64 places of a window that ends with the row. -/
theorem cum_window (f : ℕ → EReal) (b : ℕ) (hb : b % 64 = 0) (j : ℕ) (hj : j < 64) :
    ∑ k : Fin 64, (if 63 ≤ j + k.val then f (b + (j + k.val - 63)) else 0) = cum f (b + j) := by
  have e1 : (b + j) % 64 = j := by omega
  unfold cum
  rw [e1, Fin.sum_univ_eq_sum_range (fun k => if 63 ≤ j + k then f (b + (j + k - 63)) else 0) 64, ← Finset.sum_filter]
  have e3 : (Finset.range 64).filter (fun k => 63 ≤ j + k) = Finset.Ico (63 - j) 64 := by
    ext s
    rw [Finset.mem_filter, Finset.mem_range, Finset.mem_Ico]
    omega
  rw [e3, Finset.sum_Ico_eq_sum_range, show 64 - (63 - j) = j + 1 by omega]
  exact Finset.sum_congr rfl fun k _ => congrArg f (by omega)

/-- A number that is not the upper infinity, split in three, adds up to itself. -/
theorem split_one (v : EReal) (hv : v ≠ ⊤) : v + (v - v) + (v - v - (v - v)) = v := by
  induction v with
  | bot => rw [EReal.bot_add, EReal.bot_add]
  | top => exact absurd rfl hv
  | coe r => rw [← EReal.coe_sub, sub_self, ← EReal.coe_sub, sub_self, EReal.coe_zero, add_zero, add_zero]

/-- … and so does a masked sum of such numbers. -/
theorem split_three {n : ℕ} (M v : Fin n → EReal) (hM : ∀ s, M s = 0 ∨ M s = 1) (hv : ∀ s, v s ≠ ⊤) :
    ∑ s, M s * v s + ∑ s, M s * (v s - v s) + ∑ s, M s * (v s - v s - (v s - v s)) = ∑ s, M s * v s := by
  by_cases hb : ∑ s, M s * v s = ⊥
  · rw [hb, EReal.bot_add, EReal.bot_add]
  · have h : ∀ s, M s * (v s - v s) = 0 ∧ M s * (v s - v s - (v s - v s)) = 0 := fun s => by
      rcases hM s with h0 | h1
      · rw [h0, zero_mul, zero_mul]
        exact ⟨rfl, rfl⟩
      · have hs : v s ≠ ⊥ := fun e => hb (by
          rw [← Finset.add_sum_erase _ _ (Finset.mem_univ s), h1, e, one_mul, EReal.bot_add])
        lift v s to ℝ using ⟨hv s, hs⟩ with r
        rw [← EReal.coe_sub, sub_self, ← EReal.coe_sub, sub_self, EReal.coe_zero, mul_zero]
        exact ⟨rfl, rfl⟩
    rw [Finset.sum_congr rfl fun s _ => (h s).1, Finset.sum_congr rfl fun s _ => (h s).2, Finset.sum_const_zero, add_zero, add_zero]

/-- One place of a row, picked by a mask. -/
theorem pick_place {n : ℕ} (v : Fin n → EReal) (a : Fin n) (M : Fin n → EReal) (hM : ∀ s, M s = if s = a then 1 else 0) :
    ∑ s, v s * M s = v a := by
  simp only [hM, mul_ite, mul_one, mul_zero]
  rw [Finset.sum_ite_eq' Finset.univ a v, if_pos (Finset.mem_univ a)]

/-- The word of a number's 64th part, as it is taken: the quotient towards zero, set right for negative numbers. -/
def quo (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem quo_eq : ∀ n : Fin 768, quo n.val = BitVec.ofNat 32 (n.val / 64) := by decide +kernel

theorem word_eq (a b : ℕ) (ha : a < 4294967296) (hb : b < 4294967296) :
    IntOp.cmpi .eq (BitVec.ofNat 32 a) (BitVec.ofNat 32 b) = BitVec.ofBool (decide (a = b)) := by
  rw [eq_bit]
  refine congrArg BitVec.ofBool (decide_eq_decide.mpr ⟨fun h => ?_, fun h => by rw [h]⟩)
  have := congrArg BitVec.toNat h
  rw [BitVec.toNat_ofNat, BitVec.toNat_ofNat] at this
  omega

theorem near : ∀ p s : Fin 128, IntOp.andi (IntOp.cmpi .sle (BitVec.ofNat 32 s.val) (BitVec.ofNat 32 p.val))
    (IntOp.cmpi .eq (BitVec.ofNat 32 (p.val / 64)) (BitVec.ofNat 32 (s.val / 64)))
      = BitVec.ofBool (decide (s.val ≤ p.val ∧ s.val / 64 = p.val / 64)) := by decide +kernel

theorem shifted : ∀ p s : Fin 128, IntOp.andi (IntOp.cmpi .slt (BitVec.ofNat 32 s.val) 64#32)
    (IntOp.cmpi .eq (BitVec.ofNat 32 p.val) (IntOp.addi (BitVec.ofNat 32 s.val) 64#32))
      = BitVec.ofBool (decide (s.val < 64 ∧ p.val = s.val + 64)) := by decide +kernel

theorem three_lanes : ∀ s : Fin 128, IntOp.andi (IntOp.cmpi .sge (BitVec.ofNat 32 s.val) 64#32) (IntOp.cmpi .slt (BitVec.ofNat 32 s.val) 67#32)
      = BitVec.ofBool (decide (64 ≤ s.val ∧ s.val < 67)) := by decide +kernel

end Cert.Gates.Spec

end
-- ==== Proof.GatesBlocks.lean ====
/-
  The gates' blocks element by element.
-/
module

public import proofs.«01_k».proof.Proof.GatesPieces
public import proofs.«01_k».proof.Proof.GatesSpec
public import Idealize.ShloMosaic.Lib.Pipeline.ValueKit
public import Idealize.ShloMosaic.Lib.WholeRead
public import Idealize.ShloMosaic.Lib.Tactic

@[expose] public section

set_option maxRecDepth 16384

noncomputable section

namespace Cert.GatesIdeal.Blocks

open Cert.GatesIdeal Cert.GatesIdeal.Gen Cert.GatesIdeal.Pieces Idealize.ShloMosaic Idealize.ShloMosaic.TcCoe Idealize.ShloMosaic.Tactic
open Cert.Router.Spec Cert.Gates.Spec

theorem earlier_apply (p s : Fin 128) : (earlier (F := Ideal) (ix2 p s) : EReal) = if s.val ≤ p.val ∧ s.val / 64 = p.val / 64 then 1 else 0 := by
  pointwise [earlier, k0_pay10, k0_pay11, k0_pay12, k0_pay13, k0_pay14]
  show FloatOps.sitofp (F := Ideal) .f32 (BitVec.setWidth 32 (IntOp.andi (IntOp.cmpi .sle (BitVec.ofNat 32 s.val) (BitVec.ofNat 32 p.val))
    (IntOp.cmpi .eq (quo p.val) (quo s.val)))) = _
  rw [quo_eq ⟨p.val, by omega⟩, quo_eq ⟨s.val, by omega⟩, near, signed_bit]
  simp only [decide_eq_true_eq]

theorem down_apply (p s : Fin 128) : (down (F := Ideal) (ix2 p s) : EReal) = if s.val < 64 ∧ p.val = s.val + 64 then 1 else 0 := by
  pointwise [down, k0_pay69]
  rw [shifted, signed_bit]
  simp only [decide_eq_true_eq]

theorem three_apply (s : Fin 128) : (three (F := Ideal) (ix2 0 s) : EReal) = if 64 ≤ s.val ∧ s.val < 67 then 1 else 0 := by
  pointwise [three, k0_pay57, k0_pay56]
  rw [three_lanes, signed_bit]
  simp only [decide_eq_true_eq]

theorem single_apply (s : Fin 128) : (single (F := Ideal) (ix2 0 s) : EReal) = if s.val = 64 then 1 else 0 := by
  pointwise [single, k0_pay58]
  rw [word_eq _ _ (by omega) (by omega), signed_bit]
  simp only [decide_eq_true_eq]

variable (x : FVec Ideal S1x512x128 .f32) (a d f : FVec Ideal S1x128 .f32)

theorem pay4_apply (p : Fin 512) (l : Fin 128) : (k0_pay4 (F := Ideal) x a d (ix2 p l) : EReal) = decay (x (ix3 0 p l)) (d (ix2 0 l)) (a (ix2 0 l)) := by
  pointwise [k0_pay4, k0_pay3]
  rfl

theorem pay5_apply (p : Fin 512) (l : Fin 128) : (k0_pay5 (F := Ideal) x (ix2 p l) : EReal) = rate (x (ix3 0 p l)) := by
  pointwise [k0_pay5, k0_pay3]
  rfl

theorem logs_apply (p : Fin 512) (l : Fin 128) (hl : l.val < 8) :
    (logs (F := Ideal) x a d f (ix2 p l) : EReal) = decay (x (ix3 0 p l)) (d (ix2 0 l)) (a (ix2 0 l)) := by
  pointwise [logs, k0_pay15]
  rw [word_lt _ _ (by omega) (by omega), select_bit, if_pos (by rw [decide_eq_true_eq]; omega)]
  exact pay4_apply x a d p l

/-- The sums inside the chunks of 128 rows. -/
def part (v : FVec Ideal S128x128 .f32) : FVec Ideal S128x128 .f32 :=
  addf (addf (addf (broadcast S128x128 (Scalar.ofBits (F := Ideal) .f32 0x00000000#32))
      (matmul dot_S128x128_S128x128_S128x128_1_0_0_1_n_n none (earlier (F := Ideal)) (truncf .bf16 v bitsLt_bf16_f32) (constant S128x128 .f32 0x00000000#32)))
      (matmul dot_S128x128_S128x128_S128x128_1_0_0_1_n_n none (earlier (F := Ideal))
        (truncf .bf16 (subf v (extf .f32 (truncf .bf16 v bitsLt_bf16_f32) bitsLt_bf16_f32)) bitsLt_bf16_f32) (constant S128x128 .f32 0x00000000#32)))
    (matmul dot_S128x128_S128x128_S128x128_1_0_0_1_n_n none (earlier (F := Ideal))
      (truncf .bf16 (subf (subf v (extf .f32 (truncf .bf16 v bitsLt_bf16_f32) bitsLt_bf16_f32))
        (extf .f32 (truncf .bf16 (subf v (extf .f32 (truncf .bf16 v bitsLt_bf16_f32) bitsLt_bf16_f32)) bitsLt_bf16_f32) bitsLt_bf16_f32)) bitsLt_bf16_f32)
      (constant S128x128 .f32 0x00000000#32))

theorem part_apply (v : FVec Ideal S128x128 .f32) (l : Fin 128) (T : ℕ → EReal) (b : ℕ) (hb : b % 64 = 0)
    (hv : ∀ s : Fin 128, (v (ix2 s l) : EReal) = T (b + s.val)) (hT : ∀ n, T n ≠ ⊤) (p : Fin 128) :
    (part v (ix2 p l) : EReal) = cum T (b + p.val) := by
  pointwise [part]
  refine (split_three (fun s : Fin 128 => (earlier (F := Ideal) (ix2 p s) : EReal)) (fun s : Fin 128 => (v (ix2 s l) : EReal))
    (fun s => ?_) fun s => (hv s).trans_ne (hT _)).trans ?_
  · show (earlier (F := Ideal) (ix2 p s) : EReal) = 0 ∨ (earlier (F := Ideal) (ix2 p s) : EReal) = 1
    rw [earlier_apply]
    split
    · exact Or.inr rfl
    · exact Or.inl rfl
  refine (Finset.sum_congr rfl fun s _ => congrArg₂ (· * ·) (earlier_apply p s) (hv s)).trans ?_
  exact cum_mask T b hb p.val p.isLt

theorem sums_eq : sums (F := Ideal) x a d f = concatenate S512x128 0
    [⟨S128x128, part (extractStridedSlice S128x128 ![0, 0] (logs (F := Ideal) x a d f) slices_S512x128_o0_0_S128x128)⟩,
     ⟨S128x128, part (extractStridedSlice S128x128 ![128, 0] (logs (F := Ideal) x a d f) slices_S512x128_o128_0_S128x128)⟩,
     ⟨S128x128, part (extractStridedSlice S128x128 ![256, 0] (logs (F := Ideal) x a d f) slices_S512x128_o256_0_S128x128)⟩,
     ⟨S128x128, part (extractStridedSlice S128x128 ![384, 0] (logs (F := Ideal) x a d f) slices_S512x128_o384_0_S128x128)⟩]
    concatenates_S128x128_S128x128_S128x128_S128x128_S512x128_d0 := rfl

theorem sums_apply (l : Fin 128) (hl : l.val < 8) (T : ℕ → EReal) (b : ℕ) (hb : b % 64 = 0)
    (hx : ∀ q : Fin 512, decay (x (ix3 0 q l)) (d (ix2 0 l)) (a (ix2 0 l)) = T (b + q.val)) (hT : ∀ n, T n ≠ ⊤) (p : Fin 512) :
    (sums (F := Ideal) x a d f (ix2 p l) : EReal) = cum T (b + p.val) := by
  have hL : ∀ (o : ℕ) (ho : ∀ k, (![o, 0] : Fin 2 → ℕ) k + S128x128.size k ≤ S512x128.size k) (ho2 : o + 128 ≤ 512) (hm : o % 64 = 0)
      (k : Fin 128), o + k.val = p.val → ∀ h : S512x128.Slices ![o, 0] S128x128,
        (part (extractStridedSlice S128x128 ![o, 0] (logs (F := Ideal) x a d f) h) (ix2 k l) : EReal) = cum T (b + p.val) := by
    intro o ho ho2 hm k hk h
    refine (part_apply _ l T (b + o) (by omega) (fun s => ?_) hT k).trans (congrArg (cum T) (by omega))
    have e : (logs (F := Ideal) x a d f (ix2 ⟨o + s.val, by omega⟩ l) : EReal) = T (b + o + s.val) :=
      ((logs_apply x a d f _ l hl).trans (hx _)).trans (congrArg T (by show b + (o + s.val) = b + o + s.val; omega))
    refine Eq.trans ?_ e
    pointwise
  rw [sums_eq]
  pointwise
  split
  · exact hL 0 (by decide) (by omega) rfl _ (by show 0 + p.val = p.val; omega) _
  split
  · exact hL 128 (by decide) (by omega) rfl _ (by show 128 + (p.val - 128) = p.val; omega) _
  split
  · exact hL 256 (by decide) (by omega) rfl _ (by show 256 + (p.val - 128 - 128) = p.val; omega) _
  · exact hL 384 (by decide) (by omega) rfl _ (by show 384 + (p.val - 128 - 128 - 128) = p.val; omega) _

theorem spread_apply (b g : FVec Ideal S512x128 .f32) (p : Fin 512) (l : Fin 768) (v : EReal) (hv : v ≠ ⊤)
    (h : (if l.val / 64 < 6 then g (ix2 p ⟨l.val / 64, by omega⟩) else b (ix2 p ⟨l.val / 64, by omega⟩)) = v) :
    (spread (F := Ideal) b g (ix2 p l) : EReal) = v := by
  pointwise [spread, k0_pay47, k0_pay44, k0_pay45, k0_pay46]
  have hw : ∀ s : Fin 128, FloatOps.sitofp (F := Ideal) .f32 (BitVec.setWidth 32 (IntOp.cmpi .eq (BitVec.ofNat 32 s.val) (quo l.val)))
      = if s = (⟨l.val / 64, by omega⟩ : Fin 128) then (1 : EReal) else 0 := fun s => by
    rw [quo_eq l, word_eq _ _ (by omega) (by omega), signed_bit]
    simp only [decide_eq_true_eq, Fin.ext_iff]
  have hs : Scalar.select (IntOp.cmpi .slt (BitVec.ofNat 32 (l.val / 64)) 6#32) (g (ix2 p ⟨l.val / 64, by omega⟩)) (b (ix2 p ⟨l.val / 64, by omega⟩)) = v := by
    rw [word_lt _ _ (by omega) (by omega), select_bit]
    simp only [decide_eq_true_eq]
    exact h
  let sel : Fin 128 → EReal := fun s => Scalar.select (IntOp.cmpi .slt (BitVec.ofNat 32 s.val) 6#32) (g (ix2 p s)) (b (ix2 p s))
  have hsel : sel ⟨l.val / 64, by omega⟩ = v := hs
  refine (congrArg₂ (· + ·) (congrArg₂ (· + ·) (pick_place sel _ _ hw) (pick_place (fun s => sel s - sel s) _ _ hw))
    (pick_place (fun s => sel s - sel s - (sel s - sel s)) _ _ hw)).trans ?_
  show sel _ + (sel _ - sel _) + (sel _ - sel _ - (sel _ - sel _)) = v
  rw [hsel]
  exact split_one v hv

theorem gBlock_apply (p : Fin 512) (l : Fin 384) (y : Fin 1) :
    (gBlock (F := Ideal) x a d f (ix3 y p l) : EReal) = spread (F := Ideal) (k0_pay5 (F := Ideal) x) (sums (F := Ideal) x a d f) (ix2 p ⟨l.val, by omega⟩) := by
  show (shapeCast S1x512x384 (extractStridedSlice S512x384 ![0, 0] (spread (F := Ideal) (k0_pay5 (F := Ideal) x) (sums (F := Ideal) x a d f))
    slices_S512x768_o0_0_S512x384) shapeCasts_S512x384_S1x512x384 (ix3 y p l) : EReal) = _
  pointwise

theorem betaBlock_apply (p : Fin 512) (l : Fin 384) (y : Fin 1) :
    (betaBlock (F := Ideal) x a d f (ix3 y p l) : EReal) = spread (F := Ideal) (k0_pay5 (F := Ideal) x) (sums (F := Ideal) x a d f) (ix2 p ⟨384 + l.val, by omega⟩) := by
  show (shapeCast S1x512x384 (extractStridedSlice S512x384 ![0, 384] (spread (F := Ideal) (k0_pay5 (F := Ideal) x) (sums (F := Ideal) x a d f))
    slices_S512x768_o0_384_S512x384) shapeCasts_S512x384_S1x512x384 (ix3 y p l) : EReal) = _
  pointwise

theorem gtBlock_apply (p : Fin 512) (l : Fin 8) (y : Fin 1) :
    (gtBlock (F := Ideal) x a d f (ix3 y l p) : EReal) = sums (F := Ideal) x a d f (ix2 p ⟨l.val, by omega⟩) := by
  pointwise [gtBlock, k0_pay50]

/-- A head's lanes: 64 of the head, then `w`. -/
theorem even_lanes (l : Fin 128) (u w : EReal) (hw : l.val < 64 → w = 0) :
    Scalar.select (IntOp.cmpi .slt (BitVec.ofNat 32 l.val) 64#32) u 0 + w = if l.val < 64 then u else w := by
  rw [word_lt _ _ (by omega) (by omega), select_bit]
  simp only [decide_eq_true_eq]
  by_cases h : l.val < 64
  · rw [if_pos h, if_pos h, hw h, add_zero]
  · rw [if_neg h, if_neg h, zero_add]

theorem odd_lanes (l : Fin 128) (u : Fin 128 → EReal) (w : EReal) (hw : l.val < 64 → w = 0) :
    ∑ s : Fin 128, u s * (down (F := Ideal) (ix2 s l) : EReal) + w = if h : l.val < 64 then u ⟨l.val + 64, by omega⟩ else w := by
  by_cases h : l.val < 64
  · rw [dif_pos h, hw h, add_zero]
    refine pick_place u ⟨l.val + 64, by omega⟩ _ fun s => (down_apply s l).trans ?_
    simp only [h, true_and, Fin.ext_iff]
  · rw [dif_neg h]
    have : ∀ s : Fin 128, u s * (down (F := Ideal) (ix2 s l) : EReal) = 0 := fun s => by
      rw [down_apply, if_neg (fun c => h c.1), mul_zero]
    rw [Finset.sum_congr rfl fun s _ => this s, Finset.sum_const_zero, zero_add]

theorem three_zero (l : Fin 128) (h : l.val < 64) : (three (F := Ideal) (ix2 0 l) : EReal) = 0 := by
  rw [three_apply, if_neg (by omega)]

theorem single_zero (l : Fin 128) (h : l.val < 64) : (single (F := Ideal) (ix2 0 l) : EReal) = 0 := by
  rw [single_apply, if_neg (by omega)]

variable (q : FVec Ideal S1x512x128 .bf16) (y z : Fin 1) (p : Fin 512) (l : Fin 128)

theorem q0 : (k0_pay70 (F := Ideal) lanesI three q (ix4 y z p l) : EReal) = if l.val < 64 then q (ix3 0 p l) else three (F := Ideal) (ix2 0 l) := by
  pointwise [k0_pay70]
  exact even_lanes l _ _ (three_zero l)

theorem q2 : (k0_pay78 (F := Ideal) (k0_pay77 (F := Ideal) lanesI three q) (ix4 y z p l) : EReal) = if l.val < 64 then q (ix3 0 p l) else three (F := Ideal) (ix2 0 l) := by
  pointwise [k0_pay78, k0_pay77]
  exact even_lanes l _ _ (three_zero l)

theorem q4 : (k0_pay85 (F := Ideal) three (k0_pay84 lanesI) q (ix4 y z p l) : EReal) = if l.val < 64 then q (ix3 0 p l) else three (F := Ideal) (ix2 0 l) := by
  pointwise [k0_pay85, k0_pay84]
  exact even_lanes l _ _ (three_zero l)

theorem q1 : (k0_pay74 (F := Ideal) (k0_pay73 (F := Ideal) three down q) (ix4 y z p l) : EReal)
    = if h : l.val < 64 then q (ix3 0 p ⟨l.val + 64, by omega⟩) else three (F := Ideal) (ix2 0 l) := by
  pointwise [k0_pay74, k0_pay73]
  exact odd_lanes l _ _ (three_zero l)

theorem q3 : (k0_pay81 (F := Ideal) three down q (ix4 y z p l) : EReal)
    = if h : l.val < 64 then q (ix3 0 p ⟨l.val + 64, by omega⟩) else three (F := Ideal) (ix2 0 l) := by
  pointwise [k0_pay81]
  exact odd_lanes l _ _ (three_zero l)

theorem q5 : (k0_pay89 (F := Ideal) three down q (ix4 y z p l) : EReal)
    = if h : l.val < 64 then q (ix3 0 p ⟨l.val + 64, by omega⟩) else three (F := Ideal) (ix2 0 l) := by
  pointwise [k0_pay89]
  exact odd_lanes l _ _ (three_zero l)

theorem v0 : (k0_pay72 (F := Ideal) lanesI single q (ix4 y z p l) : EReal) = if l.val < 64 then q (ix3 0 p l) else single (F := Ideal) (ix2 0 l) := by
  pointwise [k0_pay72]
  exact even_lanes l _ _ (single_zero l)

theorem v2 : (k0_pay80 (F := Ideal) lanesI single q (ix4 y z p l) : EReal) = if l.val < 64 then q (ix3 0 p l) else single (F := Ideal) (ix2 0 l) := by
  pointwise [k0_pay80]
  exact even_lanes l _ _ (single_zero l)

theorem v4 : (k0_pay88 (F := Ideal) (k0_pay87 (F := Ideal) lanesI single q) (ix4 y z p l) : EReal) = if l.val < 64 then q (ix3 0 p l) else single (F := Ideal) (ix2 0 l) := by
  pointwise [k0_pay88, k0_pay87]
  exact even_lanes l _ _ (single_zero l)

theorem v1 : (k0_pay76 (F := Ideal) single down q (ix4 y z p l) : EReal)
    = if h : l.val < 64 then q (ix3 0 p ⟨l.val + 64, by omega⟩) else single (F := Ideal) (ix2 0 l) := by
  pointwise [k0_pay76]
  exact odd_lanes l _ _ (single_zero l)

theorem v3 : (k0_pay83 (F := Ideal) single down q (ix4 y z p l) : EReal)
    = if h : l.val < 64 then q (ix3 0 p ⟨l.val + 64, by omega⟩) else single (F := Ideal) (ix2 0 l) := by
  pointwise [k0_pay83]
  exact odd_lanes l _ _ (single_zero l)

theorem v5 : (k0_pay1 (F := Ideal) (k0_pay91 (F := Ideal) single down q) (ix4 y z p l) : EReal)
    = if h : l.val < 64 then q (ix3 0 p ⟨l.val + 64, by omega⟩) else single (F := Ideal) (ix2 0 l) := by
  pointwise [k0_pay1, k0_pay91]
  exact odd_lanes l _ _ (single_zero l)

end Cert.GatesIdeal.Blocks

end
-- ==== Proof.GatesLeft.lean ====
/-
  What each grid point of the gates leaves in its blocks: the stores read back, and the six heads put together.
-/
module

public import proofs.«01_k».proof.Proof.GatesBlocks

@[expose] public section

set_option maxRecDepth 16384

noncomputable section

namespace Cert.GatesIdeal.Left

open Cert.GatesIdeal Cert.GatesIdeal.Gen Cert.GatesIdeal.Pieces Cert.GatesIdeal.Blocks
open Idealize.ShloMosaic Idealize.ShloMosaic.TcCoe Idealize.ShloMosaic.Tactic Idealize.SL.Sem Cert.Gates.Spec

section Read

theorem small_eq (a : Memref sig .tc .vmem S1x512x128 .f32) (ha : a.IsWhole) (x : Vec Ideal S1x512x128 .f32) : small (F := Ideal) a ha x = x := by
  funext i
  unfold small
  rw [Memref.IsWhole.readAt_unread]
  refine congrArg x (funext (Fin.forall_fin_succ.mpr ⟨Fin.ext ?_, Fin.forall_fin_two.mpr ⟨Fin.ext ?_, Fin.ext ?_⟩⟩))
  · show 0 + 1 * (i 0).val = (i 0).val
    omega
  · show 0 + 1 * (i 1).val = (i 1).val
    omega
  · show 0 + 1 * (i 2).val = (i 2).val
    omega

theorem row_eq (a : Memref sig .tc .vmem S1x128 .f32) (ha : a.IsWhole) (x : Vec Ideal S1x128 .f32) : row (F := Ideal) a ha x = x := by
  funext i
  unfold row
  rw [Memref.IsWhole.readAt_unread]
  refine congrArg x (funext (Fin.forall_fin_two.mpr ⟨Fin.ext ?_, Fin.ext ?_⟩))
  · show 0 + 1 * (i 0).val = (i 0).val
    omega
  · show 0 + 1 * (i 1).val = (i 1).val
    omega

theorem cols_apply (a : Memref sig .tc .vmem S1x512x384 .bf16) (ha : a.IsWhole) (x : Vec Ideal S1x512x384 .bf16) (o : ℕ) (h) (p : Fin 512)
    (l : Fin 128) (k : Fin 384) (hk : k.val = o + l.val) : cols (F := Ideal) a ha x o h (ix3 0 p l) = x (ix3 0 p k) := by
  unfold cols
  rw [Memref.IsWhole.readAt_unread]
  refine congrArg x (funext (Fin.forall_fin_succ.mpr ⟨Fin.ext ?_, Fin.forall_fin_two.mpr ⟨Fin.ext ?_, Fin.ext ?_⟩⟩))
  · rfl
  · show 0 + 1 * p.val = p.val
    omega
  · show o + 1 * l.val = k.val
    omega

/-- A store of a whole block, read back. -/
theorem canon_whole {m n w : ℕ} {e : EltTy} (h) (v : Vec Ideal ⟨3, ![m, n, w]⟩ e) (L : List (View.Piece (Elt Ideal) ⟨3, ![m, n, w]⟩ e)) :
    View.canon (Val := Elt Ideal) (⟨Rect.unit (s := ⟨3, ![m, n, w]⟩) ![0, 0, 0] (⟨3, ![m, n, w]⟩ : Shape).size h, v⟩ :: L) = v := by
  funext i
  have e1 : i = (Rect.unit (s := ⟨3, ![m, n, w]⟩) ![0, 0, 0] (⟨3, ![m, n, w]⟩ : Shape).size h).emb i := by
    refine funext (Fin.forall_fin_succ.mpr ⟨Fin.ext ?_, Fin.forall_fin_two.mpr ⟨Fin.ext ?_, Fin.ext ?_⟩⟩)
    · show (i 0).val = 0 + 1 * (i 0).val
      omega
    · show (i 1).val = 0 + 1 * (i 1).val
      omega
    · show (i 2).val = 0 + 1 * (i 2).val
      omega
  conv_lhs => rw [e1]
  exact View.canon_cons_emb _ _ _ _

/-- A store of head `k`: read back in it, and the earlier stores elsewhere. -/
theorem head_step (k : ℕ) (hk) (v : Vec Ideal S1x1x512x128 .bf16) (L : List (View.Piece (Elt Ideal) S1x6x512x128 .bf16)) (h : Fin 6) (p : Fin 512)
    (l : Fin 128) (E : EReal) (hit : h.val = k → v (ix4 0 0 p l) = E) (miss : h.val ≠ k → View.canon (Val := Elt Ideal) L (ix4 0 h p l) = E) :
    View.canon (Val := Elt Ideal) (⟨Rect.unit (s := S1x6x512x128) ![0, k, 0, 0] S1x1x512x128.size hk, v⟩ :: L) (ix4 0 h p l) = E := by
  by_cases e : h.val = k
  · have e1 : (ix4 0 h p l : S1x6x512x128.Idx) = (Rect.unit (s := S1x6x512x128) ![0, k, 0, 0] S1x1x512x128.size hk).emb (ix4 0 0 p l) := by
      refine funext (Fin.forall_fin_succ.mpr ⟨Fin.ext ?_, Fin.forall_fin_succ.mpr ⟨Fin.ext ?_, Fin.forall_fin_two.mpr ⟨Fin.ext ?_, Fin.ext ?_⟩⟩⟩)
      · rfl
      · show h.val = k + 1 * 0
        omega
      · show p.val = 0 + 1 * p.val
        omega
      · show l.val = 0 + 1 * l.val
        omega
    rw [e1]
    exact (View.canon_cons_emb _ _ _ _).trans (hit e)
  · refine (View.canon_cons_of_not_mem _ _ fun hm => e ?_).trans (miss e)
    have h0 : k ≤ h.val ∧ h.val < k + 1 := Rect.mem_set_unit (inb := hk) |>.mp hm 1
    omega

variable (a : Memref sig .tc .vmem S1x512x384 .bf16) (ha : a.IsWhole) (x : Vec Ideal S1x512x384 .bf16) (h : Fin 6) (p : Fin 512) (l : Fin 128)

/-- A head with its lanes. -/
def headOf (w : EReal) : EReal := if hl : l.val < 64 then x (ix3 0 p ⟨h.val * 64 + l.val, by omega⟩) else w

theorem even_head (o : ℕ) (ho) (e : o = h.val * 64) (w v : EReal) (hv : v = if l.val < 64 then cols (F := Ideal) a ha x o ho (ix3 0 p l) else w) :
    v = headOf x h p l w := by
  rw [hv]
  unfold headOf
  by_cases hl : l.val < 64
  · rw [if_pos hl, dif_pos hl]
    exact cols_apply a ha x o ho p l _ (by show h.val * 64 + l.val = o + l.val; omega)
  · rw [if_neg hl, dif_neg hl]

theorem odd_head (o : ℕ) (ho) (e : o + 64 = h.val * 64) (w v : EReal)
    (hv : v = if hl : l.val < 64 then cols (F := Ideal) a ha x o ho (ix3 0 p ⟨l.val + 64, by omega⟩) else w) : v = headOf x h p l w := by
  rw [hv]
  unfold headOf
  by_cases hl : l.val < 64
  · rw [dif_pos hl, dif_pos hl]
    exact cols_apply a ha x o ho p _ _ (by show h.val * 64 + l.val = o + (l.val + 64); omega)
  · rw [dif_neg hl, dif_neg hl]

theorem canonQ : View.canon (Val := Elt Ideal) (piecesQ (cols (F := Ideal) a ha x)) (ix4 0 h p l) = headOf x h p l (three (F := Ideal) (ix2 0 l)) := by
  unfold piecesQ
  refine head_step 5 _ _ _ h p l _ (fun e => odd_head a ha x h p l 256 _ (by omega) _ _ (q5 _ 0 0 p l)) fun n5 =>
    head_step 4 _ _ _ h p l _ (fun e => even_head a ha x h p l 256 _ (by omega) _ _ (q4 _ 0 0 p l)) fun n4 =>
    head_step 3 _ _ _ h p l _ (fun e => odd_head a ha x h p l 128 _ (by omega) _ _ (q3 _ 0 0 p l)) fun n3 =>
    head_step 2 _ _ _ h p l _ (fun e => even_head a ha x h p l 128 _ (by omega) _ _ (q2 _ 0 0 p l)) fun n2 =>
    head_step 1 _ _ _ h p l _ (fun e => odd_head a ha x h p l 0 _ (by omega) _ _ (q1 _ 0 0 p l)) fun n1 =>
    head_step 0 _ _ _ h p l _ (fun e => even_head a ha x h p l 0 _ (by omega) _ _ (q0 _ 0 0 p l)) fun n0 => ?_
  exfalso
  have := h.isLt
  omega

theorem canonV : View.canon (Val := Elt Ideal) (piecesV (cols (F := Ideal) a ha x)) (ix4 0 h p l) = headOf x h p l (single (F := Ideal) (ix2 0 l)) := by
  unfold piecesV
  refine head_step 5 _ _ _ h p l _ (fun e => odd_head a ha x h p l 256 _ (by omega) _ _ (v5 _ 0 0 p l)) fun n5 =>
    head_step 4 _ _ _ h p l _ (fun e => even_head a ha x h p l 256 _ (by omega) _ _ (v4 _ 0 0 p l)) fun n4 =>
    head_step 3 _ _ _ h p l _ (fun e => odd_head a ha x h p l 128 _ (by omega) _ _ (v3 _ 0 0 p l)) fun n3 =>
    head_step 2 _ _ _ h p l _ (fun e => even_head a ha x h p l 128 _ (by omega) _ _ (v2 _ 0 0 p l)) fun n2 =>
    head_step 1 _ _ _ h p l _ (fun e => odd_head a ha x h p l 0 _ (by omega) _ _ (v1 _ 0 0 p l)) fun n1 =>
    head_step 0 _ _ _ h p l _ (fun e => even_head a ha x h p l 0 _ (by omega) _ _ (v0 _ 0 0 p l)) fun n0 => ?_
  exfalso
  have := h.isLt
  omega

end Read

variable (m : (ℓ : Loc nD τ sig) → Buf (Elt Ideal) ℓ) (c : Dev nD)

theorem left_g (t : Fin cfg0.N) : (outsAt0 m c t.val t.isLt).1 = gBlock (F := Ideal) (iblk m c 0 t) (iblk m c 1 t) (iblk m c 2 t) (iblk m c 3 t) := by
  by_cases h0 : t.val % 16 = 0
  · rw [outsAt0_A m c t h0]
    dsimp only
    unfold out0_A_7
    rw [View.read_writes_junk_eq_canon, runA_g, canon_whole, small_eq, row_eq, row_eq, row_eq]
  · rw [outsAt0_B m c t h0]
    dsimp only
    unfold out0_B_7
    rw [View.read_writes_junk_eq_canon, runB_g, canon_whole, small_eq, row_eq, row_eq, row_eq]

theorem left_beta (t : Fin cfg0.N) :
    (outsAt0 m c t.val t.isLt).2.1 = betaBlock (F := Ideal) (iblk m c 0 t) (iblk m c 1 t) (iblk m c 2 t) (iblk m c 3 t) := by
  by_cases h0 : t.val % 16 = 0
  · rw [outsAt0_A m c t h0]
    dsimp only
    unfold out0_A_8
    rw [View.read_writes_junk_eq_canon, runA_beta, canon_whole, small_eq, row_eq, row_eq, row_eq]
  · rw [outsAt0_B m c t h0]
    dsimp only
    unfold out0_B_8
    rw [View.read_writes_junk_eq_canon, runB_beta, canon_whole, small_eq, row_eq, row_eq, row_eq]

theorem left_gt (t : Fin cfg0.N) :
    (outsAt0 m c t.val t.isLt).2.2.1 = gtBlock (F := Ideal) (iblk m c 0 t) (iblk m c 1 t) (iblk m c 2 t) (iblk m c 3 t) := by
  by_cases h0 : t.val % 16 = 0
  · rw [outsAt0_A m c t h0]
    dsimp only
    unfold out0_A_9
    rw [View.read_writes_junk_eq_canon, runA_gt, canon_whole, small_eq, row_eq, row_eq, row_eq]
  · rw [outsAt0_B m c t h0]
    dsimp only
    unfold out0_B_9
    rw [View.read_writes_junk_eq_canon, runB_gt, canon_whole, small_eq, row_eq, row_eq, row_eq]

theorem left_qa (t : Fin cfg0.N) :
    (outsAt0 m c t.val t.isLt).2.2.2.2.1 = View.canon (Val := Elt Ideal) (piecesQ (cols (F := Ideal) (ms0_4 t) (hs0_4 t) (iblk m c 4 t))) := by
  by_cases h0 : t.val % 16 = 0
  · rw [outsAt0_A m c t h0]
    dsimp only
    unfold out0_A_11
    rw [View.read_writes_junk_eq_canon, runA_qa]
  · rw [outsAt0_B m c t h0]
    dsimp only
    unfold out0_B_11
    rw [View.read_writes_junk_eq_canon, runB_qa]

theorem left_va (t : Fin cfg0.N) :
    (outsAt0 m c t.val t.isLt).2.2.2.2.2.2.1 = View.canon (Val := Elt Ideal) (piecesV (cols (F := Ideal) (ms0_6 t) (hs0_6 t) (iblk m c 6 t))) := by
  by_cases h0 : t.val % 16 = 0
  · rw [outsAt0_A m c t h0]
    dsimp only
    unfold out0_A_13
    rw [View.read_writes_junk_eq_canon, runA_va]
  · rw [outsAt0_B m c t h0]
    dsimp only
    unfold out0_B_13
    rw [View.read_writes_junk_eq_canon, runB_va]

end Cert.GatesIdeal.Left

end
-- ==== Proof.GatesReference.lean ====
/-
  The gates' reference read element by element.
-/
module

public import proofs.«01_k».proof.Proof.Gen.GatesReferenceIdeal.Run
public import proofs.«01_k».proof.Proof.GatesSpec
public import Idealize.ShloMosaic.Lib.KernelVsHost
public import Idealize.ShloMosaic.Lib.Tactic

@[expose] public section

set_option maxRecDepth 16384

noncomputable section

namespace Cert.GatesReferenceIdeal.Read

open Cert.GatesReferenceIdeal Cert.GatesReferenceIdeal.Gen Cert.GatesReferenceIdeal.Value Idealize.ShloMosaic Idealize.ShloMosaic.Tactic
open Idealize.SL.Sem Cert.Gates.Spec

variable (x : FVec Ideal S4x8192x128 .f32) (a d : FVec Ideal S1x128 .f32)

/-- The decays' arguments. -/
def args : FVec Ideal S4x8192x8 .f32 :=
  addf (extractStridedSlice S4x8192x8 ![0, 0, 0] x slices_S4x8192x128_S4x8192x8_0_0_0) (broadcastInDim S4x8192x8 ![0, 1, 2] bcast_S1x1x8_S4x8192x8_0_1_2
    (broadcastInDim S1x1x8 ![2] bcast_S8_S1x1x8_2 (shapeCast _ (extractStridedSlice S1x8 ![0, 0] d slices_S1x128_S1x8_0_0) shapeCasts_S1x8_S8)))

def zeros : FVec Ideal S4x8192x8 .f32 := broadcastInDim S4x8192x8 ![] bcast_S_S4x8192x8 (constant S_ .f32 0x00000000#32)

/-- The decays' logarithms. -/
def logs : FVec Ideal S4x8192x8 .f32 :=
  mulf (broadcastInDim S4x8192x8 ![0, 1, 2] bcast_S1x1x8_S4x8192x8_0_1_2 (broadcastInDim S1x1x8 ![2] bcast_S8_S1x1x8_2
      (Host.negf (Host.exp (shapeCast _ (extractStridedSlice S1x8 ![0, 0] a slices_S1x128_S1x8_0_0) shapeCasts_S1x8_S8)))))
    (select (cmpf .une (subf (args x d) zeros) (subf (args x d) zeros)) (addf (args x d) zeros)
      (addf (maximumf (args x d) zeros) (Host.log1p (Host.exp (Host.negf (Host.absf (subf (args x d) zeros)))))))

/-- Running sums of the 64 rows of each chunk. -/
def windows (y : FVec Ideal S4x128x64x8 .f32) : FVec Ideal S4x128x64x8 .f32 :=
  Host.reduceWindowAdd ![1, 1, 64, 1] ![1, 1, 1, 1] ![0, 0, 63, 0] ![0, 0, 0, 0] y (broadcastInDim S_ ![] bcast_S_S_ (constant S_ .f32 0x00000000#32))
    reduceWindows_S4x128x64x8_S4x128x64x8_w1s1p0_0_w1s1p0_0_w64s1p63_0_w1s1p0_0 h_S_

/-- The sums inside each chunk. -/
def sums : FVec Ideal S4x8192x8 .f32 :=
  shapeCast _ (windows (shapeCast _ (logs x a d) shapeCasts_S4x8192x8_S4x128x64x8)) shapeCasts_S4x128x64x8_S4x8192x8

/-- Six columns, each 64 times over. -/
def columns (y : FVec Ideal S4x8192x6 .f32) : FVec Ideal S4x8192x384 .f32 :=
  shapeCast _ (broadcastInDim S4x8192x6x64 ![0, 1, 2, 3] bcast_S4x8192x6x1_S4x8192x6x64_0_1_2_3
    (broadcastInDim S4x8192x6x1 ![0, 1, 2] bcast_S4x8192x6_S4x8192x6x1_0_1_2 y)) shapeCasts_S4x8192x6x64_S4x8192x384

def rates : FVec Ideal S4x8192x6 .f32 :=
  Host.divf (broadcastInDim S4x8192x6 ![] bcast_S_S4x8192x6 (constant S_ .f32 0x3F800000#32)) (addf (broadcastInDim S4x8192x6 ![] bcast_S_S4x8192x6 (constant S_ .f32 0x3F800000#32))
    (Host.exp (Host.negf (extractStridedSlice S4x8192x6 ![0, 0, 6] x slices_S4x8192x128_S4x8192x6_0_0_6))))

def heads (q : FVec Ideal S4x8192x384 .bf16) : FVec Ideal S4x6x8192x64 .bf16 :=
  transpose S4x6x8192x64 [0, 2, 1, 3] (shapeCast _ q shapeCasts_S4x8192x384_S4x8192x6x64) transposes_S4x8192x6x64_S4x6x8192x64_0_2_1_3

def withThree (q : FVec Ideal S4x8192x384 .bf16) : FVec Ideal S4x6x8192x128 .bf16 :=
  concatenate S4x6x8192x128 3 [⟨S4x6x8192x64, heads q⟩, ⟨S4x6x8192x3, (broadcastInDim S4x6x8192x3 ![] bcast_S_S4x6x8192x3 (constant S_ .bf16 0x3F80#16) : FVec Ideal S4x6x8192x3 .bf16)⟩,
    ⟨S4x6x8192x61, (broadcastInDim S4x6x8192x61 ![] bcast_S_S4x6x8192x61 (constant S_ .bf16 0x0000#16) : FVec Ideal S4x6x8192x61 .bf16)⟩]
    concatenates_S4x6x8192x64_S4x6x8192x3_S4x6x8192x61_S4x6x8192x128_d3

def withOne (q : FVec Ideal S4x8192x384 .bf16) : FVec Ideal S4x6x8192x128 .bf16 :=
  concatenate S4x6x8192x128 3 [⟨S4x6x8192x64, heads q⟩, ⟨S4x6x8192x1, (broadcastInDim S4x6x8192x1 ![] bcast_S_S4x6x8192x1 (constant S_ .bf16 0x3F80#16) : FVec Ideal S4x6x8192x1 .bf16)⟩,
    ⟨S4x6x8192x63, (broadcastInDim S4x6x8192x63 ![] bcast_S_S4x6x8192x63 (constant S_ .bf16 0x0000#16) : FVec Ideal S4x6x8192x63 .bf16)⟩]
    concatenates_S4x6x8192x64_S4x6x8192x1_S4x6x8192x63_S4x6x8192x128_d3

theorem logs_apply (b : Fin 4) (r : Fin 8192) (l : Fin 8) (l' : Fin 128) (hl : l'.val = l.val) :
    (logs x a d (ix3 b r l) : EReal) = decay (x (ix3 b r l')) (d (ix2 0 l')) (a (ix2 0 l')) := by
  have e : (⟨l.val, by omega⟩ : Fin 128) = l' := Fin.ext hl.symm
  pointwise [logs, args, zeros]
  rw [e, if_neg (fun h => h rfl), ← zero_sub, ← zero_sub]
  rfl

theorem rates_apply (b : Fin 4) (r : Fin 8192) (l : Fin 384) :
    (columns (rates x) (ix3 b r l) : EReal) = rate (x (ix3 b r ⟨6 + l.val / 64, by omega⟩)) := by
  pointwise [rates, columns]
  rw [← zero_sub]
  rfl

/-- One place of a window's sum. -/
def place (y : FVec Ideal S4x128x64x8 .f32) (b : Fin 4) (c : Fin 128) (j : Fin 64) (l : Fin 8) (k : Fin 64) : EReal :=
  if h : 63 ≤ j.val + k.val then y (ix4 b c ⟨j.val + k.val - 63, by omega⟩ l) else 0

/-- The places of a window. -/
def places : Fin 64 ≃ (⟨4, ![1, 1, 64, 1]⟩ : Shape).Idx where
  toFun k := ix4 0 0 k 0
  invFun i := i 2
  left_inv _ := rfl
  right_inv i := by
    refine funext (Fin.forall_fin_succ.mpr ⟨?_, Fin.forall_fin_succ.mpr ⟨?_, Fin.forall_fin_two.mpr ⟨rfl, ?_⟩⟩⟩)
    · exact Fin.ext (by have : (i 0).val < 1 := (i 0).isLt; show 0 = (i 0).val; omega)
    · exact Fin.ext (by have : (i 1).val < 1 := (i 1).isLt; show 0 = (i 1).val; omega)
    · exact Fin.ext (by have : (i 3).val < 1 := (i 3).isLt; show 0 = (i 3).val; omega)

theorem windows_apply (y : FVec Ideal S4x128x64x8 .f32) (b : Fin 4) (c : Fin 128) (j : Fin 64) (l : Fin 8) :
    (windows y (ix4 b c j l) : EReal) = ∑ k, place y b c j l k := by
  unfold windows Host.reduceWindowAdd
  simp only [Idealize.ShloMosaic.Ideal.hostReduceWindowAdd_def]
  unfold Ideal.hostReduceWindowAdd Host.reduceWindow
  have hz : (broadcastInDim S_ ![] bcast_S_S_ (constant (F := Ideal) S_ .f32 0x00000000#32) (Shape.Idx.first h_S_) : EReal) = 0 := by pointwise
  have hg : ∀ i : (⟨4, ![1, 1, 64, 1]⟩ : Shape).Idx,
      (if hin : ∀ k : Fin 4, (![0, 0, 63, 0] : Fin 4 → ℕ) k ≤ (ix4 b c j l k).val * (![1, 1, 1, 1] : Fin 4 → ℕ) k + (i k).val
          ∧ (ix4 b c j l k).val * (![1, 1, 1, 1] : Fin 4 → ℕ) k + (i k).val - (![0, 0, 63, 0] : Fin 4 → ℕ) k < S4x128x64x8.size k
        then (y fun k => ⟨(ix4 b c j l k).val * (![1, 1, 1, 1] : Fin 4 → ℕ) k + (i k).val - (![0, 0, 63, 0] : Fin 4 → ℕ) k, (hin k).2⟩ : EReal)
        else (broadcastInDim S_ ![] bcast_S_S_ (constant (F := Ideal) S_ .f32 0x00000000#32) (Shape.Idx.first h_S_) : EReal))
      = place y b c j l (i 2) := fun i => by
    have i0 : (i 0).val < 1 := (i 0).isLt
    have i1 : (i 1).val < 1 := (i 1).isLt
    have i2 : (i 2).val < 64 := (i 2).isLt
    have i3 : (i 3).val < 1 := (i 3).isLt
    have hb := b.isLt
    have hc := c.isLt
    have hj := j.isLt
    have hl := l.isLt
    unfold place
    by_cases h : 63 ≤ j.val + (i 2).val
    · rw [dif_pos h, dif_pos (Fin.forall_fin_succ.mpr ⟨⟨Nat.zero_le _, by show b.val * 1 + (i 0).val - 0 < 4; omega⟩,
        Fin.forall_fin_succ.mpr ⟨⟨Nat.zero_le _, by show c.val * 1 + (i 1).val - 0 < 128; omega⟩,
          Fin.forall_fin_two.mpr ⟨⟨by show 63 ≤ j.val * 1 + (i 2).val; omega, by show j.val * 1 + (i 2).val - 63 < 64; omega⟩,
            ⟨Nat.zero_le _, by show l.val * 1 + (i 3).val - 0 < 8; omega⟩⟩⟩⟩)]
      refine congrArg y (funext (Fin.forall_fin_succ.mpr ⟨Fin.ext ?_, Fin.forall_fin_succ.mpr ⟨Fin.ext ?_, Fin.forall_fin_two.mpr ⟨Fin.ext ?_, Fin.ext ?_⟩⟩⟩))
      · show b.val * 1 + (i 0).val - 0 = b.val
        omega
      · show c.val * 1 + (i 1).val - 0 = c.val
        omega
      · show j.val * 1 + (i 2).val - 63 = j.val + (i 2).val - 63
        omega
      · show l.val * 1 + (i 3).val - 0 = l.val
        omega
    · rw [dif_neg h, dif_neg fun hin => h (by have h2 : 63 ≤ j.val * 1 + (i 2).val := (hin 2).1; omega)]
      exact hz
  dsimp only
  refine (Cert.InProj.Spec.foldl_add _ _ _).trans ?_
  refine (congrArg₂ (· + ·) hz (Fin.sum_univ_def _).symm).trans ?_
  rw [zero_add]
  refine (Finset.sum_congr rfl fun n _ => Eq.trans (dite_congr rfl (fun _ => rfl) fun _ => rfl)
    (hg ((⟨4, ![1, 1, 64, 1]⟩ : Shape).rowMajor.symm n))).trans ?_
  exact (Equiv.sum_comp (⟨4, ![1, 1, 64, 1]⟩ : Shape).rowMajor.symm (fun i : (⟨4, ![1, 1, 64, 1]⟩ : Shape).Idx => place y b c j l (i 2))).trans
    (Equiv.sum_comp places (fun i : (⟨4, ![1, 1, 64, 1]⟩ : Shape).Idx => place y b c j l (i 2))).symm

theorem sums_apply (b : Fin 4) (r : Fin 8192) (l : Fin 8) (T : ℕ → EReal) (hT : ∀ n : Fin 8192, (logs x a d (ix3 b n l) : EReal) = T n.val) :
    (sums x a d (ix3 b r l) : EReal) = cum T r.val := by
  pointwise [sums]
  refine (windows_apply _ b _ _ l).trans ?_
  have hr : r.val = 64 * (r.val / 64) + r.val % 64 := by omega
  refine Eq.trans ?_ (congrArg (cum T) hr.symm)
  refine Eq.trans (Finset.sum_congr rfl fun k _ => ?_) (cum_window T (64 * (r.val / 64)) (by omega) (r.val % 64) (by omega))
  unfold place
  split
  · pointwise
    refine (hT _).trans (congrArg T ?_)
    show _ = 64 * (r.val / 64) + (r.val % 64 + k.val - 63)
    simp only []
    omega
  · rfl

theorem g_apply (b : Fin 4) (r : Fin 8192) (l : Fin 384) :
    (columns (extractStridedSlice S4x8192x6 ![0, 0, 0] (sums x a d) slices_S4x8192x8_S4x8192x6_0_0_0) (ix3 b r l) : EReal)
      = sums x a d (ix3 b r ⟨l.val / 64, by omega⟩) := by
  pointwise [columns]

theorem gt_apply (b : Fin 4) (r : Fin 8192) (l : Fin 8) :
    (transpose S4x8x8192 [0, 2, 1] (sums x a d) transposes_S4x8192x8_S4x8x8192_0_2_1 (ix3 b l r) : EReal) = sums x a d (ix3 b r l) := by
  pointwise

theorem three_apply (q : FVec Ideal S4x8192x384 .bf16) (b : Fin 4) (h : Fin 6) (r : Fin 8192) (l : Fin 128) :
    (withThree q (ix4 b h r l) : EReal)
      = if hl : l.val < 64 then q (ix3 b r ⟨h.val * 64 + l.val, by omega⟩) else if l.val < 67 then 1 else 0 := by
  pointwise [withThree, heads]
  refine dite_congr rfl (fun _ => rfl) fun _ => if_congr ?_ rfl rfl
  omega

theorem one_apply (q : FVec Ideal S4x8192x384 .bf16) (b : Fin 4) (h : Fin 6) (r : Fin 8192) (l : Fin 128) :
    (withOne q (ix4 b h r l) : EReal)
      = if hl : l.val < 64 then q (ix3 b r ⟨h.val * 64 + l.val, by omega⟩) else if l.val < 65 then 1 else 0 := by
  pointwise [withOne, heads]
  refine dite_congr rfl (fun _ => rfl) fun _ => if_congr ?_ rfl rfl
  omega

end Cert.GatesReferenceIdeal.Read

end
-- ==== Proof.Gates.lean ====
/-
  The gates: the five result arrays, and the equality with the reference.
-/
module

public import proofs.«01_k».proof.Proof.Gen.GatesIdeal.Value
public import proofs.«01_k».proof.Proof.GatesLeft
public import proofs.«01_k».proof.Proof.GatesReference
public import proofs.«01_k».proof.Defs
public import Idealize.ShloMosaic.Lib.Pipeline.ValueKit

@[expose] public section

set_option maxRecDepth 16384

noncomputable section

namespace Cert.GatesIdeal.Result

open Cert.GatesIdeal Cert.GatesIdeal.Gen Cert.GatesIdeal.Pieces Cert.GatesIdeal.Blocks Cert.GatesIdeal.Left
open Idealize.ShloMosaic Idealize.ShloMosaic.TcCoe Idealize.ShloMosaic.Tactic Idealize.SL.Sem Cert.Gates.Spec

variable (m : (ℓ : Loc nD τ sig) → Buf (Elt Ideal) ℓ) (c : Dev nD)

/-- The rows. -/
abbrev X (b : Fin 4) (r : Fin 8192) (l : Fin 128) : EReal := m ((c : Thread nD τ).loc main_arg0) (ix3 b r l)

/-- The two rows of constants. -/
abbrev A (l : Fin 128) : EReal := m ((c : Thread nD τ).loc main_arg1) (ix2 0 l)

abbrev D (l : Fin 128) : EReal := m ((c : Thread nD τ).loc main_arg2) (ix2 0 l)

/-- The decays' logarithms, zero past the last row. -/
def T (b : Fin 4) (l : Fin 128) (n : ℕ) : EReal := if h : n < 8192 then decay (X m c b ⟨n, h⟩ l) (D m c l) (A m c l) else 0

/-- Where each window's block sits. -/
theorem idx : ∀ t : Fin grid0.N, win0_0.index t = ![t.val / 16, t.val % 16, 0] ∧ win0_1.index t = ![0, 0] ∧ win0_2.index t = ![0, 0]
    ∧ win0_4.index t = ![t.val / 16, t.val % 16, 0] ∧ win0_6.index t = ![t.val / 16, t.val % 16, 0]
    ∧ win0_7.index t = ![t.val / 16, t.val % 16, 0] ∧ win0_8.index t = ![t.val / 16, t.val % 16, 0] ∧ win0_9.index t = ![t.val / 16, 0, t.val % 16]
    ∧ win0_11.index t = ![t.val / 16, 0, t.val % 16, 0] ∧ win0_13.index t = ![t.val / 16, 0, t.val % 16, 0] := by
  decide +kernel

/-- A point's batch and its rows. -/
def bat (t : Fin cfg0.N) : Fin 4 := ⟨t.val / 16, by have : t.val < 64 := t.isLt; omega⟩

def line (t : Fin cfg0.N) (p : Fin 512) : Fin 8192 := ⟨512 * (t.val % 16) + p.val, by omega⟩

theorem iblk0 (t : Fin cfg0.N) (p : Fin 512) (l : Fin 128) : iblk m c 0 t (ix3 0 p l) = X m c (bat t) (line t p) l := by
  unfold bat line
  blk_ext [iblk, V, idx t]

theorem iblk1 (t : Fin cfg0.N) (l : Fin 128) : iblk m c 1 t (ix2 0 l) = A m c l := by
  blk_ext [iblk, V, idx t]

theorem iblk2 (t : Fin cfg0.N) (l : Fin 128) : iblk m c 2 t (ix2 0 l) = D m c l := by
  blk_ext [iblk, V, idx t]

theorem iblk4 (t : Fin cfg0.N) (p : Fin 512) (l : Fin 384) : iblk m c 4 t (ix3 0 p l) = m ((c : Thread nD τ).loc main_arg4) (ix3 (bat t) (line t p) l) := by
  unfold bat line
  blk_ext [iblk, V, idx t]

theorem iblk6 (t : Fin cfg0.N) (p : Fin 512) (l : Fin 384) : iblk m c 6 t (ix3 0 p l) = m ((c : Thread nD τ).loc main_arg6) (ix3 (bat t) (line t p) l) := by
  unfold bat line
  blk_ext [iblk, V, idx t]

theorem T_ne_top (b : Fin 4) (l : Fin 128) (n : ℕ) : T m c b l n ≠ ⊤ := by
  unfold T
  split
  · exact decay_ne_top _ _ _
  · exact EReal.zero_ne_top

theorem sums_block (t : Fin cfg0.N) (p : Fin 512) (l : Fin 128) (hl : l.val < 8) :
    (sums (F := Ideal) (iblk m c 0 t) (iblk m c 1 t) (iblk m c 2 t) (iblk m c 3 t) (ix2 p l) : EReal) = cum (T m c (bat t) l) (line t p).val := by
  refine sums_apply _ _ _ _ l hl (T m c (bat t) l) (512 * (t.val % 16)) (by omega) (fun q => ?_) (T_ne_top m c _ l) p
  have hq : 512 * (t.val % 16) + q.val < 8192 := (line t q).isLt
  unfold T
  rw [dif_pos hq, iblk0 m c t q l, iblk1 m c t l, iblk2 m c t l]
  rfl

/-- The five results. -/
def outG : Vec Ideal S4x8192x384 .f32 := fun i => cum (T m c (i 0) ⟨(i 2).val / 64, by have : (i 2).val < 384 := (i 2).isLt; omega⟩) (i 1).val

def outBeta : Vec Ideal S4x8192x384 .f32 := fun i => rate (X m c (i 0) (i 1) ⟨6 + (i 2).val / 64, by have : (i 2).val < 384 := (i 2).isLt; omega⟩)

def outGt : Vec Ideal S4x8x8192 .f32 := fun i => cum (T m c (i 0) ⟨(i 1).val, by have : (i 1).val < 8 := (i 1).isLt; omega⟩) (i 2).val

def outHeads (x : Vec Ideal S4x8192x384 .bf16) (w : ℕ) : Vec Ideal S4x6x8192x128 .bf16 := fun i =>
  if hl : (i 3).val < 64 then x (ix3 (i 0) (i 2) ⟨(i 1).val * 64 + (i 3).val, by have : (i 1).val < 6 := (i 1).isLt; omega⟩)
  else if (i 3).val < w then 1 else 0

theorem final7 : (dats m 0 c).arrAt 7 cfg0.N = outG m c := by
  refine (dats m 0 c).arrAt_eq_of_covers 7 _ (by decide +kernel) fun t hf y => ?_
  blk_simp
  rw [after0_7]
  idx_vars y
  have he : (win0_7.blk t).view.emb (ix3 y0 y1 y2) = ix3 (bat t) (line t y1) y2 := by
    have : y0.val < 1 := y0.isLt
    unfold bat line
    blk_point [idx t]
  rw [he, left_g m c t]
  refine (gBlock_apply _ _ _ _ y1 y2 y0).trans ?_
  have h6 : y2.val / 64 < 6 := by have : y2.val < 384 := y2.isLt; omega
  refine spread_apply _ _ y1 _ _ (cum_ne_top _ (T_ne_top m c (bat t) ⟨y2.val / 64, by omega⟩) _) ?_
  rw [if_pos h6]
  exact sums_block m c t y1 _ (by show y2.val / 64 < 8; omega)

theorem final9 : (dats m 0 c).arrAt 9 cfg0.N = outGt m c := by
  refine (dats m 0 c).arrAt_eq_of_covers 9 _ (by decide +kernel) fun t hf y => ?_
  blk_simp
  rw [after0_9]
  idx_vars y
  have he : (win0_9.blk t).view.emb (ix3 y0 y1 y2) = ix3 (bat t) y1 (line t y2) := by
    have : y0.val < 1 := y0.isLt
    unfold bat line
    blk_point [idx t]
  rw [he, left_gt m c t]
  refine (gtBlock_apply _ _ _ _ y2 y1 y0).trans ?_
  exact sums_block m c t y2 _ y1.isLt

theorem final8 : (dats m 0 c).arrAt 8 cfg0.N = outBeta m c := by
  refine (dats m 0 c).arrAt_eq_of_covers 8 _ (by decide +kernel) fun t hf y => ?_
  blk_simp
  rw [after0_8]
  idx_vars y
  have he : (win0_8.blk t).view.emb (ix3 y0 y1 y2) = ix3 (bat t) (line t y1) y2 := by
    have : y0.val < 1 := y0.isLt
    unfold bat line
    blk_point [idx t]
  rw [he, left_beta m c t]
  refine (betaBlock_apply _ _ _ _ y1 y2 y0).trans ?_
  have h384 : y2.val < 384 := y2.isLt
  refine spread_apply _ _ y1 _ _ (rate_ne_top _) ?_
  rw [if_neg (by show ¬(384 + y2.val) / 64 < 6; omega)]
  refine (pay5_apply _ y1 _).trans ?_
  rw [iblk0 m c t y1 _]
  refine congrArg rate (congrArg (X m c (bat t) (line t y1)) (Fin.ext ?_))
  show (384 + y2.val) / 64 = 6 + y2.val / 64
  omega

theorem final11 : (dats m 0 c).arrAt 11 cfg0.N = outHeads (m ((c : Thread nD τ).loc main_arg4)) 67 := by
  refine (dats m 0 c).arrAt_eq_of_covers 11 _ (by decide +kernel) fun t hf y => ?_
  blk_simp
  rw [after0_11]
  idx_vars y
  have hy : y0 = 0 := Fin.ext (by have : y0.val < 1 := y0.isLt; show y0.val = 0; omega)
  subst hy
  have he : (win0_11.blk t).view.emb (ix4 0 y1 y2 y3) = ix4 (bat t) y1 (line t y2) y3 := by
    unfold bat line
    blk_point [idx t]
  rw [he, left_qa m c t]
  refine (canonQ _ _ _ y1 y2 y3).trans ?_
  refine dite_congr rfl (fun hl => iblk4 m c t y2 _) fun hl => (three_apply y3).trans (if_congr ?_ rfl rfl)
  have hy3 : ¬y3.val < 64 := hl
  show 64 ≤ y3.val ∧ y3.val < 67 ↔ y3.val < 67
  omega

theorem final13 : (dats m 0 c).arrAt 13 cfg0.N = outHeads (m ((c : Thread nD τ).loc main_arg6)) 65 := by
  refine (dats m 0 c).arrAt_eq_of_covers 13 _ (by decide +kernel) fun t hf y => ?_
  blk_simp
  rw [after0_13]
  idx_vars y
  have hy : y0 = 0 := Fin.ext (by have : y0.val < 1 := y0.isLt; show y0.val = 0; omega)
  subst hy
  have he : (win0_13.blk t).view.emb (ix4 0 y1 y2 y3) = ix4 (bat t) y1 (line t y2) y3 := by
    unfold bat line
    blk_point [idx t]
  rw [he, left_va m c t]
  refine (canonV _ _ _ y1 y2 y3).trans ?_
  refine dite_congr rfl (fun hl => iblk6 m c t y2 _) fun hl => (single_apply y3).trans (if_congr ?_ rfl rfl)
  have hy3 : ¬y3.val < 64 := hl
  show y3.val = 64 ↔ y3.val < 65
  omega

open Cert.GatesReferenceIdeal.Read in
/-- The gates' kernel computes what its reference computes. -/
theorem algebraic : letI := Cert.GatesIdeal.Gen.facts; letI := Cert.GatesReferenceIdeal.Gen.facts;
    Cert.algebraic_GatesIdeal_GatesReferenceIdeal := by
  intro m g m' g' _ hm
  refine ⟨fun c => outG m c, fun c => outBeta m c, fun c => outGt m c, fun c => outHeads (m ((c : Thread nD τ).loc main_arg4)) 67,
    fun c => outHeads (m ((c : Thread nD τ).loc main_arg6)) 65, ?_, ?_⟩
  · exact (θ_run defs _ _).mono (fun r h c => ⟨(h c).1.trans (final7 m c), (h c).2.1.trans (final8 m c),
      (h c).2.2.1.trans (final9 m c), (h c).2.2.2.2.1.trans (final11 m c), (h c).2.2.2.2.2.2.1.trans (final13 m c),
      (h c).2.2.2.2.2.2.2⟩) (Cert.GatesIdeal.Value.run_blocks m g)
  · refine (θ_run Cert.GatesReferenceIdeal.defs _ _).mono (fun r h c => ?_) (Cert.GatesReferenceIdeal.Value.run m' g')
    obtain ⟨a0, a1, a2, a3, a4, a5, a6⟩ := hm c
    obtain ⟨r0, r1, r2, r3, r4, rest⟩ := h c
    have eT : ∀ (b : Fin 4) (l : Fin 8) (n : Fin 8192),
        (logs (m' ((c.tc : Thread Cert.GatesReferenceIdeal.nD Cert.GatesReferenceIdeal.τ).loc Cert.GatesReferenceIdeal.main_arg0))
          (m' ((c.tc : Thread Cert.GatesReferenceIdeal.nD Cert.GatesReferenceIdeal.τ).loc Cert.GatesReferenceIdeal.main_arg1))
          (m' ((c.tc : Thread Cert.GatesReferenceIdeal.nD Cert.GatesReferenceIdeal.τ).loc Cert.GatesReferenceIdeal.main_arg2)) (ix3 b n l) : EReal)
          = T m c b ⟨l.val, by omega⟩ n.val := fun b l n => by
      refine (logs_apply _ _ _ b n l ⟨l.val, by omega⟩ rfl).trans ?_
      unfold T
      rw [dif_pos n.isLt, a0, a1, a2]
    refine ⟨r0.trans (funext fun i => ?_), r1.trans (funext fun i => ?_), r2.trans (funext fun i => ?_), r3.trans (funext fun i => ?_),
      r4.trans (funext fun i => ?_), rest⟩
    · rw [eq_ix3 i]
      exact (g_apply _ _ _ (i 0) (i 1) (i 2)).trans (Cert.GatesReferenceIdeal.Read.sums_apply _ _ _ (i 0) (i 1) _ _ (eT (i 0) _))
    · rw [eq_ix3 i]
      refine (rates_apply _ (i 0) (i 1) (i 2)).trans ?_
      rw [a0]
      rfl
    · rw [eq_ix3 i]
      exact (gt_apply _ _ _ (i 0) (i 2) (i 1)).trans (Cert.GatesReferenceIdeal.Read.sums_apply _ _ _ (i 0) (i 2) _ _ (eT (i 0) _))
    · rw [eq_ix4 i]
      refine (Cert.GatesReferenceIdeal.Read.three_apply _ (i 0) (i 1) (i 2) (i 3)).trans ?_
      exact dite_congr rfl (fun hl => congrFun a4 _) fun _ => rfl
    · rw [eq_ix4 i]
      refine (one_apply _ (i 0) (i 1) (i 2) (i 3)).trans ?_
      exact dite_congr rfl (fun hl => congrFun a6 _) fun _ => rfl

end Cert.GatesIdeal.Result

end
-- ==== Proof.lean ====
module

public import proofs.«01_k».proof.Defs
public import proofs.«01_k».proof.Proof.Gen.Dense
public import proofs.«01_k».proof.Proof.Gen.Dense.Frame
public import proofs.«01_k».proof.Proof.Gen.DenseIdeal.Frame
public import proofs.«01_k».proof.Proof.Gen.DenseIdeal.Value
public import proofs.«01_k».proof.Proof.Gen.DenseReferenceIdeal.Run
public import proofs.«01_k».proof.Proof.Gen.ExpertsReferenceIdeal.Run
public import proofs.«01_k».proof.Proof.Gen.OutProj
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.InProj
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.Gates
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.Router
public import proofs.«01_k».proof.Proof.Gen.Router.Frame
public import proofs.«01_k».proof.Proof.Gen.RouterIdeal.Frame
public import proofs.«01_k».proof.Proof.Gen.RouterIdeal.Value
public import proofs.«01_k».proof.Proof.Gen.RouterReferenceIdeal.Run
public import proofs.«01_k».proof.Proof.Gen.Pre_tables_in_range
public import proofs.«01_k».proof.Proof.Gen.Pre_finite_router
public import proofs.«01_k».proof.Proof.Gen.Pre_finite_small
public import proofs.«01_k».proof.Proof.Dense
public import proofs.«01_k».proof.Proof.Experts
public import proofs.«01_k».proof.Proof.OutProj
public import proofs.«01_k».proof.Proof.InProj
public import proofs.«01_k».proof.Proof.Router
public import proofs.«01_k».proof.Proof.Gates
public import Idealize.ShloMosaic.Adequacy
public import Idealize.ShloMosaic.Init

@[expose] public section

noncomputable section

namespace Cert.Proof

open Idealize.ShloMosaic Idealize.SL.Sem

theorem claim : Cert.Claim := ⟨Cert.Experts.Gen.facts, Cert.ExpertsIdeal.Gen.facts, Cert.ExpertsReferenceIdeal.Gen.facts, Cert.Dense.Gen.facts,
  Cert.DenseIdeal.Gen.facts, Cert.DenseReferenceIdeal.Gen.facts, Cert.OutProj.Gen.facts,
  Cert.OutProjIdeal.Gen.facts, Cert.OutProjReferenceIdeal.Gen.facts, Cert.InProj.Gen.facts,
  Cert.InProjIdeal.Gen.facts, Cert.InProjReferenceIdeal.Gen.facts, Cert.Router.Gen.facts,
  Cert.RouterIdeal.Gen.facts, Cert.RouterReferenceIdeal.Gen.facts, Cert.Gates.Gen.facts, Cert.GatesIdeal.Gen.facts,
  Cert.GatesReferenceIdeal.Gen.facts, Cert.Pre_tables_in_range.Gen.facts, Cert.Pre_finite_small.Gen.facts,
  Cert.Pre_finite_router.Gen.facts,
  Cert.ExpertsIdeal.Result.frame_words,
  Cert.ExpertsIdeal.Result.frame_ideal,
  Cert.ExpertsIdeal.Result.frame_reference,
  Cert.ExpertsIdeal.Result.frame_reference_pre,
  fun m ρ _ => Cert.Dense.Gen.frame m ρ,
  fun m ρ _ => Cert.DenseIdeal.Gen.frame m ρ,
  fun m g _ => (θ_run Cert.DenseReferenceIdeal.defs _ _).mono (fun _ h => ⟨fun c => (h c).2, funext fun s => nomatch s⟩)
    (Cert.DenseReferenceIdeal.Value.run m g),
  fun m ρ _ => Cert.OutProj.Gen.frame m ρ,
  fun m ρ _ => Cert.OutProjIdeal.Gen.frame m ρ,
  fun m g _ => (θ_run Cert.OutProjReferenceIdeal.defs _ _).mono (fun _ h => ⟨fun c => (h c).2, funext fun s => nomatch s⟩)
    (Cert.OutProjReferenceIdeal.Value.run m g),
  fun m ρ _ => Cert.InProj.Gen.frame m ρ,
  fun m ρ _ => Cert.InProjIdeal.Gen.frame m ρ,
  fun m ρ _ => Cert.InProjIdeal.Gen.frame m ρ,
  fun m g _ => (θ_run Cert.InProjReferenceIdeal.defs _ _).mono (fun _ h => ⟨fun c => (h c).2.2.2.2.2.2.2, funext fun s => nomatch s⟩)
    (Cert.InProjReferenceIdeal.Value.run m g),
  fun m g _ => (θ_run Cert.InProjReferenceIdeal.defs _ _).mono (fun _ h => ⟨fun c => (h c).2.2.2.2.2.2.2, funext fun s => nomatch s⟩)
    (Cert.InProjReferenceIdeal.Value.run m g),
  fun m ρ _ => Cert.Router.Gen.frame m ρ,
  fun m ρ _ => Cert.RouterIdeal.Gen.frame m ρ,
  fun m ρ _ => Cert.RouterIdeal.Gen.frame m ρ,
  fun m g _ => (θ_run Cert.RouterReferenceIdeal.defs _ _).mono (fun _ h => ⟨fun c => (h c).2.2.2, funext fun s => nomatch s⟩)
    (Cert.RouterReferenceIdeal.Value.run m g),
  fun m g _ => (θ_run Cert.RouterReferenceIdeal.defs _ _).mono (fun _ h => ⟨fun c => (h c).2.2.2, funext fun s => nomatch s⟩)
    (Cert.RouterReferenceIdeal.Value.run m g),
  fun m ρ _ => Cert.Gates.Gen.frame m ρ,
  fun m ρ _ => Cert.GatesIdeal.Gen.frame m ρ,
  fun m g _ => (θ_run Cert.GatesReferenceIdeal.defs _ _).mono (fun _ h => ⟨fun c => (h c).2.2.2.2.2, funext fun s => nomatch s⟩)
    (Cert.GatesReferenceIdeal.Value.run m g),
  trivial,
  Cert.ExpertsIdeal.Result.algebraic,
  trivial,
  Cert.DenseIdeal.Result.algebraic,
  trivial,
  Cert.OutProjIdeal.Result.algebraic,
  trivial,
  Cert.InProjIdeal.Result.algebraic,
  trivial,
  Cert.RouterIdeal.Result.algebraic,
  trivial,
  Cert.GatesIdeal.Result.algebraic⟩

end Cert.Proof

end
